-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![65536, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S2x3x2x512x256 : Shape := ⟨5, ![2, 3, 2, 512, 256]⟩
abbrev S2x4x256x256 : Shape := ⟨4, ![2, 4, 256, 256]⟩
abbrev S2x3x2x128x256 : Shape := ⟨5, ![2, 3, 2, 128, 256]⟩
abbrev S2x256x256 : Shape := ⟨3, ![2, 256, 256]⟩
abbrev S2x3x2x2x256x256 : Shape := ⟨6, ![2, 3, 2, 2, 256, 256]⟩
abbrev S2x24 : Shape := ⟨2, ![2, 24]⟩
abbrev S_ : Shape := ⟨0, ![]⟩
abbrev S512x256 : Shape := ⟨2, ![512, 256]⟩
abbrev S1x1x1x512x256 : Shape := ⟨5, ![1, 1, 1, 512, 256]⟩
abbrev S1x1 : Shape := ⟨2, ![1, 1]⟩
abbrev S1x2x256x256 : Shape := ⟨4, ![1, 2, 256, 256]⟩
abbrev S1x1x128x256 : Shape := ⟨4, ![1, 1, 128, 256]⟩
abbrev S128x256 : Shape := ⟨2, ![128, 256]⟩
abbrev S1x1x1x128x256 : Shape := ⟨5, ![1, 1, 1, 128, 256]⟩
abbrev S1x128x256 : Shape := ⟨3, ![1, 128, 256]⟩
abbrev S1x256x256 : Shape := ⟨3, ![1, 256, 256]⟩
abbrev S256x256 : Shape := ⟨2, ![256, 256]⟩
abbrev S1x1x256x256 : Shape := ⟨4, ![1, 1, 256, 256]⟩
abbrev S1x1x2x128x256 : Shape := ⟨5, ![1, 1, 2, 128, 256]⟩
abbrev S2x128x256 : Shape := ⟨3, ![2, 128, 256]⟩
abbrev S1x1x1x2x256x256 : Shape := ⟨6, ![1, 1, 1, 2, 256, 256]⟩
abbrev S1x1x2x2x256x256 : Shape := ⟨6, ![1, 1, 2, 2, 256, 256]⟩
abbrev S2x2x256x256 : Shape := ⟨4, ![2, 2, 256, 256]⟩
abbrev S1024x256 : Shape := ⟨2, ![1024, 256]⟩

abbrev nBuf : Space → Nat
  | .hbm => 2
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .local _ .vmem, ⟨0, _⟩ => ⟨S4096x1024, .bf16⟩
  | .local _ .vmem, ⟨1, _⟩ => ⟨S4096x1024, .f32⟩
  | .local _ .vmem, ⟨2, _⟩ => ⟨S2x3x2x512x256, .bf16⟩
  | .local _ .vmem, ⟨3, _⟩ => ⟨S2x3x2x512x256, .bf16⟩
  | .local _ .vmem, ⟨4, _⟩ => ⟨S2x3x2x512x256, .bf16⟩
  | .local _ .vmem, ⟨5, _⟩ => ⟨S2x3x2x512x256, .bf16⟩
  | .local _ .vmem, ⟨6, _⟩ => ⟨S2x4x256x256, .bf16⟩
  | .local _ .vmem, ⟨7, _⟩ => ⟨S2x4x256x256, .bf16⟩
  | .local _ .vmem, ⟨8, _⟩ => ⟨S2x3x2x128x256, .bf16⟩
  | .local _ .vmem, ⟨9, _⟩ => ⟨S2x3x2x128x256, .bf16⟩
  | .local _ .vmem, ⟨10, _⟩ => ⟨S2x3x2x128x256, .bf16⟩
  | .local _ .vmem, ⟨11, _⟩ => ⟨S2x3x2x128x256, .bf16⟩
  | .local _ .vmem, ⟨12, _⟩ => ⟨S2x256x256, .bf16⟩
  | .local _ .vmem, ⟨13, _⟩ => ⟨S2x256x256, .bf16⟩
  | .local _ .vmem, ⟨14, _⟩ => ⟨S2x4x256x256, .bf16⟩
  | .local _ .vmem, ⟨15, _⟩ => ⟨S2x4x256x256, .bf16⟩
  | .local _ .vmem, ⟨16, _⟩ => ⟨S2x3x2x128x256, .bf16⟩
  | .local _ .vmem, ⟨17, _⟩ => ⟨S2x3x2x128x256, .bf16⟩
  | .local _ .vmem, ⟨18, _⟩ => ⟨S2x3x2x2x256x256, .bf16⟩
  | .local _ .vmem, ⟨19, _⟩ => ⟨S2x3x2x2x256x256, .bf16⟩
  | _, _ => ⟨S4096x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 1 → Bool
  | ⟨0, _⟩ => false
  | _ => false

abbrev dmaSemScoped : Fin 194 → Bool
  | ⟨i, _⟩ => dmaSemScopedAt i

abbrev sig : RefSig :=
  (ofTc nBuf bufTy 1 194 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_scratch13 : Ref sig .tc := ⟨.vmem, 15, rfl⟩
abbrev cc0_scratch14 : Ref sig .tc := ⟨.vmem, 16, rfl⟩
abbrev cc0_scratch15 : Ref sig .tc := ⟨.vmem, 17, rfl⟩
abbrev cc0_scratch16 : Ref sig .tc := ⟨.vmem, 18, rfl⟩
abbrev cc0_scratch17 : Ref sig .tc := ⟨.vmem, 19, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_27 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_26 : BitVec 32 := 1#32
  let v46 : BitVec 32 := Scalar.muli v24 c1_i32_26
  let v47 : BitVec 32 := Scalar.addi c0_i32_27 v46
  v47.toNat
def k0_dev2 (d0 : Dev nD) : Nat :=
  let c0_i32_30 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_29 : BitVec 32 := 1#32
  let v48 : BitVec 32 := Scalar.muli v28 c1_i32_29
  let v49 : BitVec 32 := Scalar.addi c0_i32_30 v48
  v49.toNat
def k0_dev3 (d0 : Dev nD) : Nat :=
  let c0_i32_33 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_32 : BitVec 32 := 1#32
  let v50 : BitVec 32 := Scalar.muli v32 c1_i32_32
  let v51 : BitVec 32 := Scalar.addi c0_i32_33 v50
  v51.toNat
def k0_dev4 (d0 : Dev nD) : Nat :=
  let c0_i32_36 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_35 : BitVec 32 := 1#32
  let v52 : BitVec 32 := Scalar.muli v36 c1_i32_35
  let v53 : BitVec 32 := Scalar.addi c0_i32_36 v52
  v53.toNat
def k0_off1 (d0 : Dev nD) (c0_i32_38 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1024_i32 : BitVec 32 := 1024#32
  let v54 : BitVec 32 := Scalar.muli v20 c1024_i32
  let v55 : BitVec 32 := Scalar.addi v54 c0_i32_38
  let v56 : Index := Scalar.indexCast v55
  let c0 : Index := 0#32
  ![v56.toNat, 0]
def k0_dev5 (d0 : Dev nD) : Nat :=
  let c0_i32_55 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_54 : BitVec 32 := 1#32
  let v62 : BitVec 32 := Scalar.muli v24 c1_i32_54
  let v63 : BitVec 32 := Scalar.addi c0_i32_55 v62
  v63.toNat
def k0_off2 (d0 : Dev nD) (c0_i32_61 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1024_i32_60 : BitVec 32 := 1024#32
  let v72 : BitVec 32 := Scalar.muli v20 c1024_i32_60
  let v73 : BitVec 32 := Scalar.addi v72 c0_i32_61
  let v74 : Index := Scalar.indexCast v73
  let c512 : Index := 512#32
  ![v74.toNat, 512]
def k0_dev6 (d0 : Dev nD) : Nat :=
  let c0_i32_78 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_77 : BitVec 32 := 1#32
  let v80 : BitVec 32 := Scalar.muli v28 c1_i32_77
  let v81 : BitVec 32 := Scalar.addi c0_i32_78 v80
  v81.toNat
def k0_dev7 (d0 : Dev nD) : Nat :=
  let c0_i32_100 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_99 : BitVec 32 := 1#32
  let v98 : BitVec 32 := Scalar.muli v24 c1_i32_99
  let v99 : BitVec 32 := Scalar.addi c0_i32_100 v98
  v99.toNat
def k0_dev8 (d0 : Dev nD) : Nat :=
  let c0_i32_124 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_123 : BitVec 32 := 1#32
  let v116 : BitVec 32 := Scalar.muli v28 c1_i32_123
  let v117 : BitVec 32 := Scalar.addi c0_i32_124 v116
  v117.toNat
def k0_off3 (d0 : Dev nD) (c1_i32_129 : BitVec 32) (c0_i32_156 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v126 : BitVec 32 := Scalar.subi v20 c1_i32_129
  let c8_i32 : BitVec 32 := 8#32
  let v127 : BitVec 32 := Scalar.addi v126 c8_i32
  let c4_i32_130 : BitVec 32 := 4#32
  let v128 : BitVec 32 := Scalar.remsi v127 c4_i32_130
  let c1024_i32_155 : BitVec 32 := 1024#32
  let v142 : BitVec 32 := Scalar.muli v128 c1024_i32_155
  let v143 : BitVec 32 := Scalar.addi v142 c0_i32_156
  let v144 : Index := Scalar.indexCast v143
  let c0_157 : Index := 0#32
  ![v144.toNat, 0]
def k0_dev9 (d0 : Dev nD) : Nat :=
  let c0_i32_173 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_172 : BitVec 32 := 1#32
  let v151 : BitVec 32 := Scalar.muli v24 c1_i32_172
  let v152 : BitVec 32 := Scalar.addi c0_i32_173 v151
  v152.toNat
def k0_off4 (d0 : Dev nD) (c0_i32_131 : BitVec 32) (c0_i32_200 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v129 : BitVec 32 := Scalar.addi v20 c0_i32_131
  let c1_i32_132 : BitVec 32 := 1#32
  let v130 : BitVec 32 := Scalar.addi v129 c1_i32_132
  let c4_i32_133 : BitVec 32 := 4#32
  let v131 : BitVec 32 := Scalar.remsi v130 c4_i32_133
  let c1024_i32_199 : BitVec 32 := 1024#32
  let v171 : BitVec 32 := Scalar.muli v131 c1024_i32_199
  let v172 : BitVec 32 := Scalar.addi v171 c0_i32_200
  let v173 : Index := Scalar.indexCast v172
  let c512_201 : Index := 512#32
  ![v173.toNat, 512]
def k0_dev10 (d0 : Dev nD) : Nat :=
  let c0_i32_218 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_217 : BitVec 32 := 1#32
  let v180 : BitVec 32 := Scalar.muli v28 c1_i32_217
  let v181 : BitVec 32 := Scalar.addi c0_i32_218 v180
  v181.toNat
def k0_dev11 (d0 : Dev nD) : Nat :=
  let c0_i32_263 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_262 : BitVec 32 := 1#32
  let v209 : BitVec 32 := Scalar.muli v24 c1_i32_262
  let v210 : BitVec 32 := Scalar.addi c0_i32_263 v209
  v210.toNat
def k0_dev12 (d0 : Dev nD) : Nat :=
  let c0_i32_308 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_307 : BitVec 32 := 1#32
  let v238 : BitVec 32 := Scalar.muli v28 c1_i32_307
  let v239 : BitVec 32 := Scalar.addi c0_i32_308 v238
  v239.toNat
def k0_dev13 (d0 : Dev nD) : Nat :=
  let c0_i32_358 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_357 : BitVec 32 := 1#32
  let v273 : BitVec 32 := Scalar.muli v24 c1_i32_357
  let v274 : BitVec 32 := Scalar.addi c0_i32_358 v273
  v274.toNat
def k0_dev14 (d0 : Dev nD) : Nat :=
  let c0_i32_403 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_402 : BitVec 32 := 1#32
  let v302 : BitVec 32 := Scalar.muli v28 c1_i32_402
  let v303 : BitVec 32 := Scalar.addi c0_i32_403 v302
  v303.toNat
def k0_dev15 (d0 : Dev nD) : Nat :=
  let c0_i32_447 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_446 : BitVec 32 := 1#32
  let v331 : BitVec 32 := Scalar.muli v24 c1_i32_446
  let v332 : BitVec 32 := Scalar.addi c0_i32_447 v331
  v332.toNat
def k0_dev16 (d0 : Dev nD) : Nat :=
  let c0_i32_492 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_491 : BitVec 32 := 1#32
  let v360 : BitVec 32 := Scalar.muli v28 c1_i32_491
  let v361 : BitVec 32 := Scalar.addi c0_i32_492 v360
  v361.toNat
def k0_off5 (d0 : Dev nD) : Fin 4 → Nat :=
  let c0_615 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v456 : Index := Scalar.indexCast v19
  let c0_616 : Index := 0#32
  let c0_617 : Index := 0#32
  ![0, v456.toNat, 0, 0]
def k0_dev17 (d0 : Dev nD) : Nat :=
  let c0_i32_633 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_632 : BitVec 32 := 1#32
  let v462 : BitVec 32 := Scalar.muli v32 c1_i32_632
  let v463 : BitVec 32 := Scalar.addi c0_i32_633 v462
  v463.toNat
def k0_dev18 (d0 : Dev nD) : Nat :=
  let c0_i32_657 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_656 : BitVec 32 := 1#32
  let v478 : BitVec 32 := Scalar.muli v36 c1_i32_656
  let v479 : BitVec 32 := Scalar.addi c0_i32_657 v478
  v479.toNat
def k0_off6 (d0 : Dev nD) : Fin 4 → Nat :=
  let c0_662 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v488 : Index := Scalar.indexCast v19
  let c128 : Index := 128#32
  let c0_663 : Index := 0#32
  ![0, v488.toNat, 128, 0]
def k0_dev19 (d0 : Dev nD) : Nat :=
  let c0_i32_679 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_678 : BitVec 32 := 1#32
  let v494 : BitVec 32 := Scalar.muli v32 c1_i32_678
  let v495 : BitVec 32 := Scalar.addi c0_i32_679 v494
  v495.toNat
def k0_dev20 (d0 : Dev nD) : Nat :=
  let c0_i32_703 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_702 : BitVec 32 := 1#32
  let v510 : BitVec 32 := Scalar.muli v36 c1_i32_702
  let v511 : BitVec 32 := Scalar.addi c0_i32_703 v510
  v511.toNat
def k0_off7 (d0 : Dev nD) (c0_i32_709 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1024_i32_708 : BitVec 32 := 1024#32
  let v520 : BitVec 32 := Scalar.muli v20 c1024_i32_708
  let v521 : BitVec 32 := Scalar.addi v520 c0_i32_709
  let v522 : Index := Scalar.indexCast v521
  let c256 : Index := 256#32
  ![v522.toNat, 256]
def k0_dev21 (d0 : Dev nD) : Nat :=
  let c0_i32_726 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_725 : BitVec 32 := 1#32
  let v528 : BitVec 32 := Scalar.muli v24 c1_i32_725
  let v529 : BitVec 32 := Scalar.addi c0_i32_726 v528
  v529.toNat
def k0_off8 (d0 : Dev nD) (c0_i32_732 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1024_i32_731 : BitVec 32 := 1024#32
  let v538 : BitVec 32 := Scalar.muli v20 c1024_i32_731
  let v539 : BitVec 32 := Scalar.addi v538 c0_i32_732
  let v540 : Index := Scalar.indexCast v539
  let c768 : Index := 768#32
  ![v540.toNat, 768]
def k0_dev22 (d0 : Dev nD) : Nat :=
  let c0_i32_749 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_748 : BitVec 32 := 1#32
  let v546 : BitVec 32 := Scalar.muli v28 c1_i32_748
  let v547 : BitVec 32 := Scalar.addi c0_i32_749 v546
  v547.toNat
def k0_dev23 (d0 : Dev nD) : Nat :=
  let c0_i32_773 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_772 : BitVec 32 := 1#32
  let v564 : BitVec 32 := Scalar.muli v24 c1_i32_772
  let v565 : BitVec 32 := Scalar.addi c0_i32_773 v564
  v565.toNat
def k0_dev24 (d0 : Dev nD) : Nat :=
  let c0_i32_797 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_796 : BitVec 32 := 1#32
  let v582 : BitVec 32 := Scalar.muli v28 c1_i32_796
  let v583 : BitVec 32 := Scalar.addi c0_i32_797 v582
  v583.toNat
def k0_off9 (d0 : Dev nD) (c1_i32_802 : BitVec 32) : Fin 4 → Nat :=
  let c0_829 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v592 : BitVec 32 := Scalar.subi v19 c1_i32_802
  let c8_i32_803 : BitVec 32 := 8#32
  let v593 : BitVec 32 := Scalar.addi v592 c8_i32_803
  let c4_i32_804 : BitVec 32 := 4#32
  let v594 : BitVec 32 := Scalar.remsi v593 c4_i32_804
  let v608 : Index := Scalar.indexCast v594
  let c0_830 : Index := 0#32
  let c0_831 : Index := 0#32
  ![0, v608.toNat, 0, 0]
def k0_dev25 (d0 : Dev nD) : Nat :=
  let c0_i32_848 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_847 : BitVec 32 := 1#32
  let v615 : BitVec 32 := Scalar.muli v32 c1_i32_847
  let v616 : BitVec 32 := Scalar.addi c0_i32_848 v615
  v616.toNat
def k0_off10 (d0 : Dev nD) (c0_i32_805 : BitVec 32) : Fin 4 → Nat :=
  let c0_874 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v595 : BitVec 32 := Scalar.addi v19 c0_i32_805
  let c1_i32_806 : BitVec 32 := 1#32
  let v596 : BitVec 32 := Scalar.addi v595 c1_i32_806
  let c4_i32_807 : BitVec 32 := 4#32
  let v597 : BitVec 32 := Scalar.remsi v596 c4_i32_807
  let v635 : Index := Scalar.indexCast v597
  let c0_875 : Index := 0#32
  let c0_876 : Index := 0#32
  ![0, v635.toNat, 0, 0]
def k0_dev26 (d0 : Dev nD) : Nat :=
  let c0_i32_893 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_892 : BitVec 32 := 1#32
  let v642 : BitVec 32 := Scalar.muli v36 c1_i32_892
  let v643 : BitVec 32 := Scalar.addi c0_i32_893 v642
  v643.toNat
def k0_off11 (d0 : Dev nD) (c1_i32_802 : BitVec 32) : Fin 4 → Nat :=
  let c0_919 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v592 : BitVec 32 := Scalar.subi v19 c1_i32_802
  let c8_i32_803 : BitVec 32 := 8#32
  let v593 : BitVec 32 := Scalar.addi v592 c8_i32_803
  let c4_i32_804 : BitVec 32 := 4#32
  let v594 : BitVec 32 := Scalar.remsi v593 c4_i32_804
  let v662 : Index := Scalar.indexCast v594
  let c128_920 : Index := 128#32
  let c0_921 : Index := 0#32
  ![0, v662.toNat, 128, 0]
def k0_dev27 (d0 : Dev nD) : Nat :=
  let c0_i32_937 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_936 : BitVec 32 := 1#32
  let v669 : BitVec 32 := Scalar.muli v32 c1_i32_936
  let v670 : BitVec 32 := Scalar.addi c0_i32_937 v669
  v670.toNat
def k0_off12 (d0 : Dev nD) (c0_i32_805 : BitVec 32) : Fin 4 → Nat :=
  let c0_963 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v595 : BitVec 32 := Scalar.addi v19 c0_i32_805
  let c1_i32_806 : BitVec 32 := 1#32
  let v596 : BitVec 32 := Scalar.addi v595 c1_i32_806
  let c4_i32_807 : BitVec 32 := 4#32
  let v597 : BitVec 32 := Scalar.remsi v596 c4_i32_807
  let v689 : Index := Scalar.indexCast v597
  let c128_964 : Index := 128#32
  let c0_965 : Index := 0#32
  ![0, v689.toNat, 128, 0]
def k0_dev28 (d0 : Dev nD) : Nat :=
  let c0_i32_982 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_981 : BitVec 32 := 1#32
  let v696 : BitVec 32 := Scalar.muli v36 c1_i32_981
  let v697 : BitVec 32 := Scalar.addi c0_i32_982 v696
  v697.toNat
def k0_off13 (d0 : Dev nD) (c1_i32_987 : BitVec 32) (c0_i32_1015 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v706 : BitVec 32 := Scalar.subi v20 c1_i32_987
  let c8_i32_988 : BitVec 32 := 8#32
  let v707 : BitVec 32 := Scalar.addi v706 c8_i32_988
  let c4_i32_989 : BitVec 32 := 4#32
  let v708 : BitVec 32 := Scalar.remsi v707 c4_i32_989
  let c1024_i32_1014 : BitVec 32 := 1024#32
  let v722 : BitVec 32 := Scalar.muli v708 c1024_i32_1014
  let v723 : BitVec 32 := Scalar.addi v722 c0_i32_1015
  let v724 : Index := Scalar.indexCast v723
  let c256_1016 : Index := 256#32
  ![v724.toNat, 256]
def k0_dev29 (d0 : Dev nD) : Nat :=
  let c0_i32_1033 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1032 : BitVec 32 := 1#32
  let v731 : BitVec 32 := Scalar.muli v24 c1_i32_1032
  let v732 : BitVec 32 := Scalar.addi c0_i32_1033 v731
  v732.toNat
def k0_off14 (d0 : Dev nD) (c0_i32_990 : BitVec 32) (c0_i32_1060 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v709 : BitVec 32 := Scalar.addi v20 c0_i32_990
  let c1_i32_991 : BitVec 32 := 1#32
  let v710 : BitVec 32 := Scalar.addi v709 c1_i32_991
  let c4_i32_992 : BitVec 32 := 4#32
  let v711 : BitVec 32 := Scalar.remsi v710 c4_i32_992
  let c1024_i32_1059 : BitVec 32 := 1024#32
  let v751 : BitVec 32 := Scalar.muli v711 c1024_i32_1059
  let v752 : BitVec 32 := Scalar.addi v751 c0_i32_1060
  let v753 : Index := Scalar.indexCast v752
  let c768_1061 : Index := 768#32
  ![v753.toNat, 768]
def k0_dev30 (d0 : Dev nD) : Nat :=
  let c0_i32_1078 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1077 : BitVec 32 := 1#32
  let v760 : BitVec 32 := Scalar.muli v28 c1_i32_1077
  let v761 : BitVec 32 := Scalar.addi c0_i32_1078 v760
  v761.toNat
def k0_dev31 (d0 : Dev nD) : Nat :=
  let c0_i32_1123 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1122 : BitVec 32 := 1#32
  let v789 : BitVec 32 := Scalar.muli v24 c1_i32_1122
  let v790 : BitVec 32 := Scalar.addi c0_i32_1123 v789
  v790.toNat
def k0_dev32 (d0 : Dev nD) : Nat :=
  let c0_i32_1168 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1167 : BitVec 32 := 1#32
  let v818 : BitVec 32 := Scalar.muli v28 c1_i32_1167
  let v819 : BitVec 32 := Scalar.addi c0_i32_1168 v818
  v819.toNat
def k0_dev33 (d0 : Dev nD) : Nat :=
  let c0_i32_1218 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_1217 : BitVec 32 := 1#32
  let v851 : BitVec 32 := Scalar.muli v32 c1_i32_1217
  let v852 : BitVec 32 := Scalar.addi c0_i32_1218 v851
  v852.toNat
def k0_dev34 (d0 : Dev nD) : Nat :=
  let c0_i32_1263 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_1262 : BitVec 32 := 1#32
  let v878 : BitVec 32 := Scalar.muli v36 c1_i32_1262
  let v879 : BitVec 32 := Scalar.addi c0_i32_1263 v878
  v879.toNat
def k0_dev35 (d0 : Dev nD) : Nat :=
  let c0_i32_1307 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_1306 : BitVec 32 := 1#32
  let v905 : BitVec 32 := Scalar.muli v32 c1_i32_1306
  let v906 : BitVec 32 := Scalar.addi c0_i32_1307 v905
  v906.toNat
def k0_dev36 (d0 : Dev nD) : Nat :=
  let c0_i32_1352 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_1351 : BitVec 32 := 1#32
  let v932 : BitVec 32 := Scalar.muli v36 c1_i32_1351
  let v933 : BitVec 32 := Scalar.addi c0_i32_1352 v932
  v933.toNat
def k0_dev37 (d0 : Dev nD) : Nat :=
  let c0_i32_1403 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1402 : BitVec 32 := 1#32
  let v967 : BitVec 32 := Scalar.muli v24 c1_i32_1402
  let v968 : BitVec 32 := Scalar.addi c0_i32_1403 v967
  v968.toNat
def k0_dev38 (d0 : Dev nD) : Nat :=
  let c0_i32_1448 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1447 : BitVec 32 := 1#32
  let v996 : BitVec 32 := Scalar.muli v28 c1_i32_1447
  let v997 : BitVec 32 := Scalar.addi c0_i32_1448 v996
  v997.toNat
def k0_dev39 (d0 : Dev nD) : Nat :=
  let c0_i32_1493 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1492 : BitVec 32 := 1#32
  let v1025 : BitVec 32 := Scalar.muli v24 c1_i32_1492
  let v1026 : BitVec 32 := Scalar.addi c0_i32_1493 v1025
  v1026.toNat
def k0_dev40 (d0 : Dev nD) : Nat :=
  let c0_i32_1538 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_1537 : BitVec 32 := 1#32
  let v1054 : BitVec 32 := Scalar.muli v28 c1_i32_1537
  let v1055 : BitVec 32 := Scalar.addi c0_i32_1538 v1054
  v1055.toNat
def k0_dev41 (d0 : Dev nD) : Nat :=
  let c0_i32_1584 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_1583 : BitVec 32 := 1#32
  let v1087 : BitVec 32 := Scalar.muli v32 c1_i32_1583
  let v1088 : BitVec 32 := Scalar.addi c0_i32_1584 v1087
  v1088.toNat
def k0_dev42 (d0 : Dev nD) : Nat :=
  let c0_i32_1625 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_1624 : BitVec 32 := 1#32
  let v1114 : BitVec 32 := Scalar.muli v36 c1_i32_1624
  let v1115 : BitVec 32 := Scalar.addi c0_i32_1625 v1114
  v1115.toNat
def k0_dev43 (d0 : Dev nD) : Nat :=
  let c0_i32_1665 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_1664 : BitVec 32 := 1#32
  let v1141 : BitVec 32 := Scalar.muli v32 c1_i32_1664
  let v1142 : BitVec 32 := Scalar.addi c0_i32_1665 v1141
  v1142.toNat
def k0_dev44 (d0 : Dev nD) : Nat :=
  let c0_i32_1705 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_1704 : BitVec 32 := 1#32
  let v1168 : BitVec 32 := Scalar.muli v36 c1_i32_1704
  let v1169 : BitVec 32 := Scalar.addi c0_i32_1705 v1168
  v1169.toNat
def k0_off15 (d0 : Dev nD) (c1_i32_21 : BitVec 32) : Fin 4 → Nat :=
  let c0_1713 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v41 : BitVec 32 := Scalar.addi v19 c1_i32_21
  let c4_i32_22 : BitVec 32 := 4#32
  let v42 : BitVec 32 := Scalar.remsi v41 c4_i32_22
  let v1180 : Index := Scalar.indexCast v42
  let c0_1714 : Index := 0#32
  let c0_1715 : Index := 0#32
  ![0, v1180.toNat, 0, 0]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_17 : BitVec 32 := 1#32
  let v37 : BitVec 32 := Scalar.addi v20 c1_i32_17
  let c4_i32_18 : BitVec 32 := 4#32
  let v38 : BitVec 32 := Scalar.remsi v37 c4_i32_18
  let c1024_i32_1719 : BitVec 32 := 1024#32
  let v1187 : BitVec 32 := Scalar.muli v38 c1024_i32_1719
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_21 : BitVec 32 := 1#32
  let v41 : BitVec 32 := Scalar.addi v19 c1_i32_21
  let c4_i32_22 : BitVec 32 := 4#32
  let v42 : BitVec 32 := Scalar.remsi v41 c4_i32_22
  let c256_i32 : BitVec 32 := 256#32
  let v1188 : BitVec 32 := Scalar.muli v42 c256_i32
  let v1189 : BitVec 32 := Scalar.addi v1187 v1188
  let v1190 : Index := Scalar.indexCast v1189
  let c0_1720 : Index := 0#32
  ![v1190.toNat, 0]
def k0_off17 (d0 : Dev nD) (c3_i32_23 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_19 : BitVec 32 := 3#32
  let v39 : BitVec 32 := Scalar.addi v20 c3_i32_19
  let c4_i32_20 : BitVec 32 := 4#32
  let v40 : BitVec 32 := Scalar.remsi v39 c4_i32_20
  let c1024_i32_1730 : BitVec 32 := 1024#32
  let v1201 : BitVec 32 := Scalar.muli v40 c1024_i32_1730
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.addi v19 c3_i32_23
  let c4_i32_24 : BitVec 32 := 4#32
  let v44 : BitVec 32 := Scalar.remsi v43 c4_i32_24
  let c256_i32_1731 : BitVec 32 := 256#32
  let v1202 : BitVec 32 := Scalar.muli v44 c256_i32_1731
  let v1203 : BitVec 32 := Scalar.addi v1201 v1202
  let v1204 : Index := Scalar.indexCast v1203
  let c512_1732 : Index := 512#32
  ![v1204.toNat, 512]
def k0_off18 (d0 : Dev nD) : Fin 4 → Nat :=
  let c1_1851 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1292 : Index := Scalar.indexCast v19
  let c0_1852 : Index := 0#32
  let c0_1853 : Index := 0#32
  ![1, v1292.toNat, 0, 0]
def k0_dev45 (d0 : Dev nD) : Nat :=
  let c0_i32_1870 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_1869 : BitVec 32 := 1#32
  let v1298 : BitVec 32 := Scalar.muli v32 c1_i32_1869
  let v1299 : BitVec 32 := Scalar.addi c0_i32_1870 v1298
  v1299.toNat
def k0_dev46 (d0 : Dev nD) : Nat :=
  let c0_i32_1894 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_1893 : BitVec 32 := 1#32
  let v1314 : BitVec 32 := Scalar.muli v36 c1_i32_1893
  let v1315 : BitVec 32 := Scalar.addi c0_i32_1894 v1314
  v1315.toNat
def k0_off19 (d0 : Dev nD) : Fin 4 → Nat :=
  let c1_1899 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1324 : Index := Scalar.indexCast v19
  let c128_1900 : Index := 128#32
  let c0_1901 : Index := 0#32
  ![1, v1324.toNat, 128, 0]
def k0_dev47 (d0 : Dev nD) : Nat :=
  let c0_i32_1918 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_1917 : BitVec 32 := 1#32
  let v1330 : BitVec 32 := Scalar.muli v32 c1_i32_1917
  let v1331 : BitVec 32 := Scalar.addi c0_i32_1918 v1330
  v1331.toNat
def k0_dev48 (d0 : Dev nD) : Nat :=
  let c0_i32_1942 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_1941 : BitVec 32 := 1#32
  let v1346 : BitVec 32 := Scalar.muli v36 c1_i32_1941
  let v1347 : BitVec 32 := Scalar.addi c0_i32_1942 v1346
  v1347.toNat
def k0_dev49 (d0 : Dev nD) : Nat :=
  let c0_i32_1976 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_1975 : BitVec 32 := 1#32
  let v1369 : BitVec 32 := Scalar.muli v32 c1_i32_1975
  let v1370 : BitVec 32 := Scalar.addi c0_i32_1976 v1369
  v1370.toNat
def k0_dev50 (d0 : Dev nD) : Nat :=
  let c0_i32_2006 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_2005 : BitVec 32 := 1#32
  let v1387 : BitVec 32 := Scalar.muli v36 c1_i32_2005
  let v1388 : BitVec 32 := Scalar.addi c0_i32_2006 v1387
  v1388.toNat
def k0_dev51 (d0 : Dev nD) : Nat :=
  let c0_i32_2035 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_2034 : BitVec 32 := 1#32
  let v1405 : BitVec 32 := Scalar.muli v32 c1_i32_2034
  let v1406 : BitVec 32 := Scalar.addi c0_i32_2035 v1405
  v1406.toNat
def k0_dev52 (d0 : Dev nD) : Nat :=
  let c0_i32_2065 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_2064 : BitVec 32 := 1#32
  let v1423 : BitVec 32 := Scalar.muli v36 c1_i32_2064
  let v1424 : BitVec 32 := Scalar.addi c0_i32_2065 v1423
  v1424.toNat
def k0_off20 (d0 : Dev nD) (c0_i32_1947 : BitVec 32) : Fin 4 → Nat :=
  let c0_2075 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1356 : BitVec 32 := Scalar.subi v19 c0_i32_1947
  let c8_i32_1948 : BitVec 32 := 8#32
  let v1357 : BitVec 32 := Scalar.addi v1356 c8_i32_1948
  let c4_i32_1949 : BitVec 32 := 4#32
  let v1358 : BitVec 32 := Scalar.remsi v1357 c4_i32_1949
  let v1436 : Index := Scalar.indexCast v1358
  let c0_2076 : Index := 0#32
  let c0_2077 : Index := 0#32
  ![0, v1436.toNat, 0, 0]
def k0_off21 (d0 : Dev nD) (c0_i32_1947 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_17 : BitVec 32 := 1#32
  let v37 : BitVec 32 := Scalar.addi v20 c1_i32_17
  let c4_i32_18 : BitVec 32 := 4#32
  let v38 : BitVec 32 := Scalar.remsi v37 c4_i32_18
  let c1024_i32_2083 : BitVec 32 := 1024#32
  let v1444 : BitVec 32 := Scalar.muli v38 c1024_i32_2083
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1356 : BitVec 32 := Scalar.subi v19 c0_i32_1947
  let c8_i32_1948 : BitVec 32 := 8#32
  let v1357 : BitVec 32 := Scalar.addi v1356 c8_i32_1948
  let c4_i32_1949 : BitVec 32 := 4#32
  let v1358 : BitVec 32 := Scalar.remsi v1357 c4_i32_1949
  let c256_i32_2084 : BitVec 32 := 256#32
  let v1445 : BitVec 32 := Scalar.muli v1358 c256_i32_2084
  let v1446 : BitVec 32 := Scalar.addi v1444 v1445
  let v1447 : Index := Scalar.indexCast v1446
  let c0_2085 : Index := 0#32
  ![v1447.toNat, 0]
def k0_off22 (d0 : Dev nD) (c1_i32_2102 : BitVec 32) : Fin 4 → Nat :=
  let c1_2129 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1465 : BitVec 32 := Scalar.subi v19 c1_i32_2102
  let c8_i32_2103 : BitVec 32 := 8#32
  let v1466 : BitVec 32 := Scalar.addi v1465 c8_i32_2103
  let c4_i32_2104 : BitVec 32 := 4#32
  let v1467 : BitVec 32 := Scalar.remsi v1466 c4_i32_2104
  let v1481 : Index := Scalar.indexCast v1467
  let c0_2130 : Index := 0#32
  let c0_2131 : Index := 0#32
  ![1, v1481.toNat, 0, 0]
def k0_dev53 (d0 : Dev nD) : Nat :=
  let c0_i32_2148 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_2147 : BitVec 32 := 1#32
  let v1488 : BitVec 32 := Scalar.muli v32 c1_i32_2147
  let v1489 : BitVec 32 := Scalar.addi c0_i32_2148 v1488
  v1489.toNat
def k0_off23 (d0 : Dev nD) (c0_i32_2105 : BitVec 32) : Fin 4 → Nat :=
  let c1_2174 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1468 : BitVec 32 := Scalar.addi v19 c0_i32_2105
  let c1_i32_2106 : BitVec 32 := 1#32
  let v1469 : BitVec 32 := Scalar.addi v1468 c1_i32_2106
  let c4_i32_2107 : BitVec 32 := 4#32
  let v1470 : BitVec 32 := Scalar.remsi v1469 c4_i32_2107
  let v1508 : Index := Scalar.indexCast v1470
  let c0_2175 : Index := 0#32
  let c0_2176 : Index := 0#32
  ![1, v1508.toNat, 0, 0]
def k0_dev54 (d0 : Dev nD) : Nat :=
  let c0_i32_2193 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_2192 : BitVec 32 := 1#32
  let v1515 : BitVec 32 := Scalar.muli v36 c1_i32_2192
  let v1516 : BitVec 32 := Scalar.addi c0_i32_2193 v1515
  v1516.toNat
def k0_off24 (d0 : Dev nD) (c1_i32_2102 : BitVec 32) : Fin 4 → Nat :=
  let c1_2219 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1465 : BitVec 32 := Scalar.subi v19 c1_i32_2102
  let c8_i32_2103 : BitVec 32 := 8#32
  let v1466 : BitVec 32 := Scalar.addi v1465 c8_i32_2103
  let c4_i32_2104 : BitVec 32 := 4#32
  let v1467 : BitVec 32 := Scalar.remsi v1466 c4_i32_2104
  let v1535 : Index := Scalar.indexCast v1467
  let c128_2220 : Index := 128#32
  let c0_2221 : Index := 0#32
  ![1, v1535.toNat, 128, 0]
def k0_dev55 (d0 : Dev nD) : Nat :=
  let c0_i32_2238 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_2237 : BitVec 32 := 1#32
  let v1542 : BitVec 32 := Scalar.muli v32 c1_i32_2237
  let v1543 : BitVec 32 := Scalar.addi c0_i32_2238 v1542
  v1543.toNat
def k0_off25 (d0 : Dev nD) (c0_i32_2105 : BitVec 32) : Fin 4 → Nat :=
  let c1_2264 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1468 : BitVec 32 := Scalar.addi v19 c0_i32_2105
  let c1_i32_2106 : BitVec 32 := 1#32
  let v1469 : BitVec 32 := Scalar.addi v1468 c1_i32_2106
  let c4_i32_2107 : BitVec 32 := 4#32
  let v1470 : BitVec 32 := Scalar.remsi v1469 c4_i32_2107
  let v1562 : Index := Scalar.indexCast v1470
  let c128_2265 : Index := 128#32
  let c0_2266 : Index := 0#32
  ![1, v1562.toNat, 128, 0]
def k0_dev56 (d0 : Dev nD) : Nat :=
  let c0_i32_2283 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_2282 : BitVec 32 := 1#32
  let v1569 : BitVec 32 := Scalar.muli v36 c1_i32_2282
  let v1570 : BitVec 32 := Scalar.addi c0_i32_2283 v1569
  v1570.toNat
def k0_dev57 (d0 : Dev nD) : Nat :=
  let c0_i32_2320 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_2319 : BitVec 32 := 1#32
  let v1592 : BitVec 32 := Scalar.muli v32 c1_i32_2319
  let v1593 : BitVec 32 := Scalar.addi c0_i32_2320 v1592
  v1593.toNat
def k0_dev58 (d0 : Dev nD) : Nat :=
  let c0_i32_2352 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_2351 : BitVec 32 := 1#32
  let v1610 : BitVec 32 := Scalar.muli v36 c1_i32_2351
  let v1611 : BitVec 32 := Scalar.addi c0_i32_2352 v1610
  v1611.toNat
def k0_dev59 (d0 : Dev nD) : Nat :=
  let c0_i32_2383 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_2382 : BitVec 32 := 1#32
  let v1628 : BitVec 32 := Scalar.muli v32 c1_i32_2382
  let v1629 : BitVec 32 := Scalar.addi c0_i32_2383 v1628
  v1629.toNat
def k0_dev60 (d0 : Dev nD) : Nat :=
  let c0_i32_2415 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_2414 : BitVec 32 := 1#32
  let v1646 : BitVec 32 := Scalar.muli v36 c1_i32_2414
  let v1647 : BitVec 32 := Scalar.addi c0_i32_2415 v1646
  v1647.toNat
def k0_dev61 (d0 : Dev nD) : Nat :=
  let c0_i32_2498 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_2497 : BitVec 32 := 1#32
  let v1711 : BitVec 32 := Scalar.muli v32 c1_i32_2497
  let v1712 : BitVec 32 := Scalar.addi c0_i32_2498 v1711
  v1712.toNat
def k0_dev62 (d0 : Dev nD) : Nat :=
  let c0_i32_2543 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_2542 : BitVec 32 := 1#32
  let v1738 : BitVec 32 := Scalar.muli v36 c1_i32_2542
  let v1739 : BitVec 32 := Scalar.addi c0_i32_2543 v1738
  v1739.toNat
def k0_dev63 (d0 : Dev nD) : Nat :=
  let c0_i32_2588 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_2587 : BitVec 32 := 1#32
  let v1765 : BitVec 32 := Scalar.muli v32 c1_i32_2587
  let v1766 : BitVec 32 := Scalar.addi c0_i32_2588 v1765
  v1766.toNat
def k0_dev64 (d0 : Dev nD) : Nat :=
  let c0_i32_2633 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_2632 : BitVec 32 := 1#32
  let v1792 : BitVec 32 := Scalar.muli v36 c1_i32_2632
  let v1793 : BitVec 32 := Scalar.addi c0_i32_2633 v1792
  v1793.toNat
def k0_dev65 (d0 : Dev nD) : Nat :=
  let c0_i32_2781 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_2780 : BitVec 32 := 1#32
  let v1894 : BitVec 32 := Scalar.muli v32 c1_i32_2780
  let v1895 : BitVec 32 := Scalar.addi c0_i32_2781 v1894
  v1895.toNat
def k0_dev66 (d0 : Dev nD) : Nat :=
  let c0_i32_2822 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_2821 : BitVec 32 := 1#32
  let v1921 : BitVec 32 := Scalar.muli v36 c1_i32_2821
  let v1922 : BitVec 32 := Scalar.addi c0_i32_2822 v1921
  v1922.toNat
def k0_dev67 (d0 : Dev nD) : Nat :=
  let c0_i32_2863 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_2862 : BitVec 32 := 1#32
  let v1948 : BitVec 32 := Scalar.muli v32 c1_i32_2862
  let v1949 : BitVec 32 := Scalar.addi c0_i32_2863 v1948
  v1949.toNat
def k0_dev68 (d0 : Dev nD) : Nat :=
  let c0_i32_2904 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_2903 : BitVec 32 := 1#32
  let v1975 : BitVec 32 := Scalar.muli v36 c1_i32_2903
  let v1976 : BitVec 32 := Scalar.addi c0_i32_2904 v1975
  v1976.toNat
def k0_off26 (d0 : Dev nD) (c1_i32_21 : BitVec 32) : Fin 4 → Nat :=
  let c1_2912 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v41 : BitVec 32 := Scalar.addi v19 c1_i32_21
  let c4_i32_22 : BitVec 32 := 4#32
  let v42 : BitVec 32 := Scalar.remsi v41 c4_i32_22
  let v1987 : Index := Scalar.indexCast v42
  let c0_2913 : Index := 0#32
  let c0_2914 : Index := 0#32
  ![1, v1987.toNat, 0, 0]
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_17 : BitVec 32 := 1#32
  let v37 : BitVec 32 := Scalar.addi v20 c1_i32_17
  let c4_i32_18 : BitVec 32 := 4#32
  let v38 : BitVec 32 := Scalar.remsi v37 c4_i32_18
  let c1024_i32_2918 : BitVec 32 := 1024#32
  let v1994 : BitVec 32 := Scalar.muli v38 c1024_i32_2918
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_21 : BitVec 32 := 1#32
  let v41 : BitVec 32 := Scalar.addi v19 c1_i32_21
  let c4_i32_22 : BitVec 32 := 4#32
  let v42 : BitVec 32 := Scalar.remsi v41 c4_i32_22
  let c256_i32_2919 : BitVec 32 := 256#32
  let v1995 : BitVec 32 := Scalar.muli v42 c256_i32_2919
  let v1996 : BitVec 32 := Scalar.addi v1994 v1995
  let v1997 : Index := Scalar.indexCast v1996
  let c256_2920 : Index := 256#32
  ![v1997.toNat, 256]
def k0_off28 (d0 : Dev nD) (c3_i32_23 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_19 : BitVec 32 := 3#32
  let v39 : BitVec 32 := Scalar.addi v20 c3_i32_19
  let c4_i32_20 : BitVec 32 := 4#32
  let v40 : BitVec 32 := Scalar.remsi v39 c4_i32_20
  let c1024_i32_2930 : BitVec 32 := 1024#32
  let v2008 : BitVec 32 := Scalar.muli v40 c1024_i32_2930
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.addi v19 c3_i32_23
  let c4_i32_24 : BitVec 32 := 4#32
  let v44 : BitVec 32 := Scalar.remsi v43 c4_i32_24
  let c256_i32_2931 : BitVec 32 := 256#32
  let v2009 : BitVec 32 := Scalar.muli v44 c256_i32_2931
  let v2010 : BitVec 32 := Scalar.addi v2008 v2009
  let v2011 : Index := Scalar.indexCast v2010
  let c768_2932 : Index := 768#32
  ![v2011.toNat, 768]
def k0_dev69 (d0 : Dev nD) : Nat :=
  let c0_i32_2941 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_2940 : BitVec 32 := 1#32
  let v2013 : BitVec 32 := Scalar.muli v24 c1_i32_2940
  let v2014 : BitVec 32 := Scalar.addi c0_i32_2941 v2013
  v2014.toNat
def k0_dev70 (d0 : Dev nD) : Nat :=
  let c0_i32_2957 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_2956 : BitVec 32 := 1#32
  let v2023 : BitVec 32 := Scalar.muli v28 c1_i32_2956
  let v2024 : BitVec 32 := Scalar.addi c0_i32_2957 v2023
  v2024.toNat
def k0_dev71 (d0 : Dev nD) : Nat :=
  let c0_i32_2972 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_2971 : BitVec 32 := 1#32
  let v2033 : BitVec 32 := Scalar.muli v24 c1_i32_2971
  let v2034 : BitVec 32 := Scalar.addi c0_i32_2972 v2033
  v2034.toNat
def k0_dev72 (d0 : Dev nD) : Nat :=
  let c0_i32_2988 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_2987 : BitVec 32 := 1#32
  let v2043 : BitVec 32 := Scalar.muli v28 c1_i32_2987
  let v2044 : BitVec 32 := Scalar.addi c0_i32_2988 v2043
  v2044.toNat
def k0_dev73 (d0 : Dev nD) : Nat :=
  let c0_i32_3026 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_3025 : BitVec 32 := 1#32
  let v2066 : BitVec 32 := Scalar.muli v24 c1_i32_3025
  let v2067 : BitVec 32 := Scalar.addi c0_i32_3026 v2066
  v2067.toNat
def k0_dev74 (d0 : Dev nD) : Nat :=
  let c0_i32_3060 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_3059 : BitVec 32 := 1#32
  let v2084 : BitVec 32 := Scalar.muli v28 c1_i32_3059
  let v2085 : BitVec 32 := Scalar.addi c0_i32_3060 v2084
  v2085.toNat
def k0_dev75 (d0 : Dev nD) : Nat :=
  let c0_i32_3093 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_3092 : BitVec 32 := 1#32
  let v2102 : BitVec 32 := Scalar.muli v24 c1_i32_3092
  let v2103 : BitVec 32 := Scalar.addi c0_i32_3093 v2102
  v2103.toNat
def k0_dev76 (d0 : Dev nD) : Nat :=
  let c0_i32_3127 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_3126 : BitVec 32 := 1#32
  let v2120 : BitVec 32 := Scalar.muli v28 c1_i32_3126
  let v2121 : BitVec 32 := Scalar.addi c0_i32_3127 v2120
  v2121.toNat
def k0_off29 (d0 : Dev nD) (c0_i32_2995 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v2053 : BitVec 32 := Scalar.subi v20 c0_i32_2995
  let c8_i32_2996 : BitVec 32 := 8#32
  let v2054 : BitVec 32 := Scalar.addi v2053 c8_i32_2996
  let c4_i32_2997 : BitVec 32 := 4#32
  let v2055 : BitVec 32 := Scalar.remsi v2054 c4_i32_2997
  let c1024_i32_3140 : BitVec 32 := 1024#32
  let v2134 : BitVec 32 := Scalar.muli v2055 c1024_i32_3140
  let v2135 : Index := Scalar.indexCast v2134
  let c0_3141 : Index := 0#32
  ![v2135.toNat, 0]
def k0_off30 (d0 : Dev nD) (c0_i32_2998 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v2056 : BitVec 32 := Scalar.addi v20 c0_i32_2998
  let c4_i32_2999 : BitVec 32 := 4#32
  let v2057 : BitVec 32 := Scalar.remsi v2056 c4_i32_2999
  let c1024_i32_3148 : BitVec 32 := 1024#32
  let v2141 : BitVec 32 := Scalar.muli v2057 c1024_i32_3148
  let v2142 : Index := Scalar.indexCast v2141
  let c512_3149 : Index := 512#32
  ![v2142.toNat, 512]
def k0_dev77 (d0 : Dev nD) : Nat :=
  let c0_i32_3180 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_3179 : BitVec 32 := 1#32
  let v2157 : BitVec 32 := Scalar.muli v32 c1_i32_3179
  let v2158 : BitVec 32 := Scalar.addi c0_i32_3180 v2157
  v2158.toNat
def k0_dev78 (d0 : Dev nD) : Nat :=
  let c0_i32_3210 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_3209 : BitVec 32 := 1#32
  let v2175 : BitVec 32 := Scalar.muli v36 c1_i32_3209
  let v2176 : BitVec 32 := Scalar.addi c0_i32_3210 v2175
  v2176.toNat
def k0_dev79 (d0 : Dev nD) : Nat :=
  let c0_i32_3240 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_3239 : BitVec 32 := 1#32
  let v2193 : BitVec 32 := Scalar.muli v32 c1_i32_3239
  let v2194 : BitVec 32 := Scalar.addi c0_i32_3240 v2193
  v2194.toNat
def k0_dev80 (d0 : Dev nD) : Nat :=
  let c0_i32_3270 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_3269 : BitVec 32 := 1#32
  let v2211 : BitVec 32 := Scalar.muli v36 c1_i32_3269
  let v2212 : BitVec 32 := Scalar.addi c0_i32_3270 v2211
  v2212.toNat
def k0_off31 (d0 : Dev nD) (c0_i32_3150 : BitVec 32) : Fin 4 → Nat :=
  let c1_3280 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v2144 : BitVec 32 := Scalar.subi v19 c0_i32_3150
  let c8_i32_3151 : BitVec 32 := 8#32
  let v2145 : BitVec 32 := Scalar.addi v2144 c8_i32_3151
  let c4_i32_3152 : BitVec 32 := 4#32
  let v2146 : BitVec 32 := Scalar.remsi v2145 c4_i32_3152
  let v2224 : Index := Scalar.indexCast v2146
  let c0_3281 : Index := 0#32
  let c0_3282 : Index := 0#32
  ![1, v2224.toNat, 0, 0]
def k0_off32 (d0 : Dev nD) (c0_i32_3150 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_17 : BitVec 32 := 1#32
  let v37 : BitVec 32 := Scalar.addi v20 c1_i32_17
  let c4_i32_18 : BitVec 32 := 4#32
  let v38 : BitVec 32 := Scalar.remsi v37 c4_i32_18
  let c1024_i32_3288 : BitVec 32 := 1024#32
  let v2232 : BitVec 32 := Scalar.muli v38 c1024_i32_3288
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v2144 : BitVec 32 := Scalar.subi v19 c0_i32_3150
  let c8_i32_3151 : BitVec 32 := 8#32
  let v2145 : BitVec 32 := Scalar.addi v2144 c8_i32_3151
  let c4_i32_3152 : BitVec 32 := 4#32
  let v2146 : BitVec 32 := Scalar.remsi v2145 c4_i32_3152
  let c256_i32_3289 : BitVec 32 := 256#32
  let v2233 : BitVec 32 := Scalar.muli v2146 c256_i32_3289
  let v2234 : BitVec 32 := Scalar.addi v2232 v2233
  let v2235 : Index := Scalar.indexCast v2234
  let c256_3290 : Index := 256#32
  ![v2235.toNat, 256]
def k0_dev81 (d0 : Dev nD) : Nat :=
  let c0_i32_3340 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_3339 : BitVec 32 := 1#32
  let v2266 : BitVec 32 := Scalar.muli v24 c1_i32_3339
  let v2267 : BitVec 32 := Scalar.addi c0_i32_3340 v2266
  v2267.toNat
def k0_dev82 (d0 : Dev nD) : Nat :=
  let c0_i32_3376 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_3375 : BitVec 32 := 1#32
  let v2284 : BitVec 32 := Scalar.muli v28 c1_i32_3375
  let v2285 : BitVec 32 := Scalar.addi c0_i32_3376 v2284
  v2285.toNat
def k0_dev83 (d0 : Dev nD) : Nat :=
  let c0_i32_3411 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_3410 : BitVec 32 := 1#32
  let v2302 : BitVec 32 := Scalar.muli v24 c1_i32_3410
  let v2303 : BitVec 32 := Scalar.addi c0_i32_3411 v2302
  v2303.toNat
def k0_dev84 (d0 : Dev nD) : Nat :=
  let c0_i32_3447 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_3446 : BitVec 32 := 1#32
  let v2320 : BitVec 32 := Scalar.muli v28 c1_i32_3446
  let v2321 : BitVec 32 := Scalar.addi c0_i32_3447 v2320
  v2321.toNat
def k0_dev85 (d0 : Dev nD) : Nat :=
  let c0_i32_3502 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_3501 : BitVec 32 := 1#32
  let v2357 : BitVec 32 := Scalar.muli v32 c1_i32_3501
  let v2358 : BitVec 32 := Scalar.addi c0_i32_3502 v2357
  v2358.toNat
def k0_dev86 (d0 : Dev nD) : Nat :=
  let c0_i32_3534 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_3533 : BitVec 32 := 1#32
  let v2375 : BitVec 32 := Scalar.muli v36 c1_i32_3533
  let v2376 : BitVec 32 := Scalar.addi c0_i32_3534 v2375
  v2376.toNat
def k0_dev87 (d0 : Dev nD) : Nat :=
  let c0_i32_3566 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let v31 : BitVec 32 := Scalar.muli c4_i32_13 v30
  let c4_i32_5 : BitVec 32 := 4#32
  let v20 : BitVec 32 := Scalar.remsi v2 c4_i32_5
  let v32 : BitVec 32 := Scalar.addi v31 v20
  let c1_i32_3565 : BitVec 32 := 1#32
  let v2393 : BitVec 32 := Scalar.muli v32 c1_i32_3565
  let v2394 : BitVec 32 := Scalar.addi c0_i32_3566 v2393
  v2394.toNat
def k0_dev88 (d0 : Dev nD) : Nat :=
  let c0_i32_3598 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let v35 : BitVec 32 := Scalar.muli c4_i32_16 v34
  let c4_i32_5 : BitVec 32 := 4#32
  let v20 : BitVec 32 := Scalar.remsi v2 c4_i32_5
  let v36 : BitVec 32 := Scalar.addi v35 v20
  let c1_i32_3597 : BitVec 32 := 1#32
  let v2411 : BitVec 32 := Scalar.muli v36 c1_i32_3597
  let v2412 : BitVec 32 := Scalar.addi c0_i32_3598 v2411
  v2412.toNat
def k0_dev89 (d0 : Dev nD) : Nat :=
  let c0_i32_3838 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_3837 : BitVec 32 := 1#32
  let v2573 : BitVec 32 := Scalar.muli v24 c1_i32_3837
  let v2574 : BitVec 32 := Scalar.addi c0_i32_3838 v2573
  v2574.toNat
def k0_dev90 (d0 : Dev nD) : Nat :=
  let c0_i32_3854 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_3853 : BitVec 32 := 1#32
  let v2583 : BitVec 32 := Scalar.muli v28 c1_i32_3853
  let v2584 : BitVec 32 := Scalar.addi c0_i32_3854 v2583
  v2584.toNat
def k0_dev91 (d0 : Dev nD) : Nat :=
  let c0_i32_3870 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_3869 : BitVec 32 := 1#32
  let v2593 : BitVec 32 := Scalar.muli v24 c1_i32_3869
  let v2594 : BitVec 32 := Scalar.addi c0_i32_3870 v2593
  v2594.toNat
def k0_dev92 (d0 : Dev nD) : Nat :=
  let c0_i32_3886 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_3885 : BitVec 32 := 1#32
  let v2603 : BitVec 32 := Scalar.muli v28 c1_i32_3885
  let v2604 : BitVec 32 := Scalar.addi c0_i32_3886 v2603
  v2604.toNat
def k0_dev93 (d0 : Dev nD) : Nat :=
  let c0_i32_3925 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_3924 : BitVec 32 := 1#32
  let v2626 : BitVec 32 := Scalar.muli v24 c1_i32_3924
  let v2627 : BitVec 32 := Scalar.addi c0_i32_3925 v2626
  v2627.toNat
def k0_dev94 (d0 : Dev nD) : Nat :=
  let c0_i32_3959 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_3958 : BitVec 32 := 1#32
  let v2644 : BitVec 32 := Scalar.muli v28 c1_i32_3958
  let v2645 : BitVec 32 := Scalar.addi c0_i32_3959 v2644
  v2645.toNat
def k0_dev95 (d0 : Dev nD) : Nat :=
  let c0_i32_3993 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_3992 : BitVec 32 := 1#32
  let v2662 : BitVec 32 := Scalar.muli v24 c1_i32_3992
  let v2663 : BitVec 32 := Scalar.addi c0_i32_3993 v2662
  v2663.toNat
def k0_dev96 (d0 : Dev nD) : Nat :=
  let c0_i32_4027 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_4026 : BitVec 32 := 1#32
  let v2680 : BitVec 32 := Scalar.muli v28 c1_i32_4026
  let v2681 : BitVec 32 := Scalar.addi c0_i32_4027 v2680
  v2681.toNat
def k0_off33 (d0 : Dev nD) (c0_i32_3893 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v2613 : BitVec 32 := Scalar.subi v20 c0_i32_3893
  let c8_i32_3894 : BitVec 32 := 8#32
  let v2614 : BitVec 32 := Scalar.addi v2613 c8_i32_3894
  let c4_i32_3895 : BitVec 32 := 4#32
  let v2615 : BitVec 32 := Scalar.remsi v2614 c4_i32_3895
  let c1024_i32_4040 : BitVec 32 := 1024#32
  let v2694 : BitVec 32 := Scalar.muli v2615 c1024_i32_4040
  let v2695 : Index := Scalar.indexCast v2694
  let c256_4041 : Index := 256#32
  ![v2695.toNat, 256]
def k0_off34 (d0 : Dev nD) (c0_i32_3896 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v2616 : BitVec 32 := Scalar.addi v20 c0_i32_3896
  let c4_i32_3897 : BitVec 32 := 4#32
  let v2617 : BitVec 32 := Scalar.remsi v2616 c4_i32_3897
  let c1024_i32_4048 : BitVec 32 := 1024#32
  let v2701 : BitVec 32 := Scalar.muli v2617 c1024_i32_4048
  let v2702 : Index := Scalar.indexCast v2701
  let c768_4049 : Index := 768#32
  ![v2702.toNat, 768]
def k0_dev97 (d0 : Dev nD) : Nat :=
  let c0_i32_4084 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_4083 : BitVec 32 := 1#32
  let v2717 : BitVec 32 := Scalar.muli v24 c1_i32_4083
  let v2718 : BitVec 32 := Scalar.addi c0_i32_4084 v2717
  v2718.toNat
def k0_dev98 (d0 : Dev nD) : Nat :=
  let c0_i32_4120 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_4119 : BitVec 32 := 1#32
  let v2735 : BitVec 32 := Scalar.muli v28 c1_i32_4119
  let v2736 : BitVec 32 := Scalar.addi c0_i32_4120 v2735
  v2736.toNat
def k0_dev99 (d0 : Dev nD) : Nat :=
  let c0_i32_4156 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_4155 : BitVec 32 := 1#32
  let v2753 : BitVec 32 := Scalar.muli v24 c1_i32_4155
  let v2754 : BitVec 32 := Scalar.addi c0_i32_4156 v2753
  v2754.toNat
def k0_dev100 (d0 : Dev nD) : Nat :=
  let c0_i32_4192 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_4191 : BitVec 32 := 1#32
  let v2771 : BitVec 32 := Scalar.muli v28 c1_i32_4191
  let v2772 : BitVec 32 := Scalar.addi c0_i32_4192 v2771
  v2772.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S65536x1024 : Shape := ⟨2, ![65536, 1024]⟩
abbrev S16x4096x1024 : Shape := ⟨3, ![16, 4096, 1024]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S16x4096x1024, .bf16⟩
  | .hbm, ⟨2, _⟩ => ⟨S16x4096x1024, .f32⟩
  | .hbm, ⟨3, _⟩ => ⟨S_, .f32⟩
  | .hbm, ⟨4, _⟩ => ⟨S4096x1024, .f32⟩
  | .hbm, ⟨5, _⟩ => ⟨S4096x1024, .bf16⟩
  | .hbm, ⟨6, _⟩ => ⟨S4096x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.KernelIdeal.Tables.lean ====
/-
# The kernel's body as a list of units

The body of this kernel is straight-line: an entry handshake on the barrier semaphore, then 96 remote copies,
the waits for them, and the loads and stores that prepare what is sent and consume what has landed. This module
names the parts by small indices — a phase, a direction, a column slab, a hop, a half — and states the body as
a list of units, each unit a short sequence of the program's own operations.

The mesh is four planes of four devices: device `c` is number `c % 4` of plane `c / 4`. Phases 1 and 4 run
around the four devices of a plane, phases 2 and 3 around the four planes.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.Sem

variable {F : FTy → Type} [FloatOps F]

/-! ## The indices -/

/-- The four phases: reduce-scatter in the plane, reduce-scatter across planes, gather across planes, gather in
    the plane. -/
inductive Ph | p1 | p2 | p3 | p4
  deriving DecidableEq

instance : Fintype Ph := ⟨{.p1, .p2, .p3, .p4}, fun x => by cases x <;> decide⟩

/-- A remote copy: its phase, whether it runs forward around the ring, its column slab, its hop, its half. -/
structure Ix where
  ph : Ph
  d : Bool
  sl : Fin 2
  h : Fin 3
  s : Fin 2
  deriving DecidableEq

instance : Fintype Ix := Fintype.ofEquiv (Ph × Bool × Fin 2 × Fin 3 × Fin 2)
  ⟨fun p => ⟨p.1, p.2.1, p.2.2.1, p.2.2.2.1, p.2.2.2.2⟩, fun i => ⟨i.ph, i.d, i.sl, i.h, i.s⟩, fun _ => rfl, fun _ => rfl⟩

/-- The phase's number in the semaphore arrays. -/
def Ph.num : Ph → Nat | .p1 => 0 | .p2 => 1 | .p3 => 2 | .p4 => 3

/-- The shape one remote copy of a phase moves. -/
abbrev tsh : Ph → Shape | .p1 => S512x256 | .p2 => S128x256 | .p3 => S128x256 | .p4 => S2x256x256

/-! ## The buffers, by direction (`true` forward) -/

abbrev xM : Memref sig .tc .vmem S4096x1024 .bf16 := Memref.whole cc0_stg0_0
abbrev outM : Memref sig .tc .vmem S4096x1024 .f32 := Memref.whole cc0_stg1_0
def p1s : Bool → Memref sig .tc .vmem S2x3x2x512x256 .bf16 | true => Memref.whole cc0_scratch0 | false => Memref.whole cc0_scratch2
def p1r : Bool → Memref sig .tc .vmem S2x3x2x512x256 .bf16 | true => Memref.whole cc0_scratch1 | false => Memref.whole cc0_scratch3
def resM : Bool → Memref sig .tc .vmem S2x4x256x256 .bf16 | true => Memref.whole cc0_scratch4 | false => Memref.whole cc0_scratch5
def p2s : Bool → Memref sig .tc .vmem S2x3x2x128x256 .bf16 | true => Memref.whole cc0_scratch6 | false => Memref.whole cc0_scratch8
def p2r : Bool → Memref sig .tc .vmem S2x3x2x128x256 .bf16 | true => Memref.whole cc0_scratch7 | false => Memref.whole cc0_scratch9
def redM : Bool → Memref sig .tc .vmem S2x256x256 .bf16 | true => Memref.whole cc0_scratch10 | false => Memref.whole cc0_scratch11
def respM : Bool → Memref sig .tc .vmem S2x4x256x256 .bf16 | true => Memref.whole cc0_scratch12 | false => Memref.whole cc0_scratch13
def p3b : Bool → Memref sig .tc .vmem S2x3x2x128x256 .bf16 | true => Memref.whole cc0_scratch14 | false => Memref.whole cc0_scratch15
def p4b : Bool → Memref sig .tc .vmem S2x3x2x2x256x256 .bf16 | true => Memref.whole cc0_scratch16 | false => Memref.whole cc0_scratch17
def ssemA : Bool → DmaSems sig S2x24 | true => cc0_scratch18 | false => cc0_scratch20
def rsemA : Bool → DmaSems sig S2x24 | true => cc0_scratch19 | false => cc0_scratch21

theorem p1s_whole (d : Bool) : (p1s d).IsWhole := by cases d <;> exact Memref.isWhole_whole _
theorem p1r_whole (d : Bool) : (p1r d).IsWhole := by cases d <;> exact Memref.isWhole_whole _
theorem resM_whole (d : Bool) : (resM d).IsWhole := by cases d <;> exact Memref.isWhole_whole _
theorem p2s_whole (d : Bool) : (p2s d).IsWhole := by cases d <;> exact Memref.isWhole_whole _
theorem p2r_whole (d : Bool) : (p2r d).IsWhole := by cases d <;> exact Memref.isWhole_whole _
theorem redM_whole (d : Bool) : (redM d).IsWhole := by cases d <;> exact Memref.isWhole_whole _
theorem respM_whole (d : Bool) : (respM d).IsWhole := by cases d <;> exact Memref.isWhole_whole _
theorem p3b_whole (d : Bool) : (p3b d).IsWhole := by cases d <;> exact Memref.isWhole_whole _
theorem p4b_whole (d : Bool) : (p4b d).IsWhole := by cases d <;> exact Memref.isWhole_whole _

/-! ## The rectangles at constant offsets -/

theorem slot1_inb : ∀ (sl : Fin 2) (h : Fin 3) (s : Fin 2) a, (![sl.val, h.val, s.val, 0, 0] : Fin 5 → Nat) a + S1x1x1x512x256.size a ≤ S2x3x2x512x256.size a := by decide
theorem slot2_inb : ∀ (sl : Fin 2) (h : Fin 3) (s : Fin 2) a, (![sl.val, h.val, s.val, 0, 0] : Fin 5 → Nat) a + S1x1x1x128x256.size a ≤ S2x3x2x128x256.size a := by decide
theorem slot4_inb : ∀ (sl : Fin 2) (h : Fin 3) (s : Fin 2) a, (![sl.val, h.val, s.val, 0, 0, 0] : Fin 6 → Nat) a + S1x1x1x2x256x256.size a ≤ S2x3x2x2x256x256.size a := by decide
theorem redH_inb : ∀ (sl s : Fin 2) a, (![sl.val, 128 * s.val, 0] : Fin 3 → Nat) a + S1x128x256.size a ≤ S2x256x256.size a := by decide
theorem redW_inb : ∀ (sl : Fin 2) a, (![sl.val, 0, 0] : Fin 3 → Nat) a + S1x256x256.size a ≤ S2x256x256.size a := by decide
theorem half_inb : ∀ (sl s : Fin 2) a, (![sl.val, 2 * s.val, 0, 0] : Fin 4 → Nat) a + S1x2x256x256.size a ≤ S2x4x256x256.size a := by decide
theorem pair3_inb : ∀ (sl : Fin 2) (h : Fin 3) a, (![sl.val, h.val, 0, 0, 0] : Fin 5 → Nat) a + S1x1x2x128x256.size a ≤ S2x3x2x128x256.size a := by decide
theorem pair4_inb : ∀ (sl : Fin 2) (h : Fin 3) a, (![sl.val, h.val, 0, 0, 0, 0] : Fin 6 → Nat) a + S1x1x2x2x256x256.size a ≤ S2x3x2x2x256x256.size a := by decide
theorem sem_inb : ∀ (ph : Ph) (sl : Fin 2) (h : Fin 3) (s : Fin 2) a, (![sl.val, 6 * ph.num + 2 * h.val + s.val] : Fin 2 → Nat) a + S1x1.size a ≤ S2x24.size a := by intro ph; cases ph <;> decide

abbrev slot1 (sl : Fin 2) (h : Fin 3) (s : Fin 2) : Rect S2x3x2x512x256 := Rect.unit (s := S2x3x2x512x256) ![sl.val, h.val, s.val, 0, 0] S1x1x1x512x256.size (slot1_inb sl h s)
abbrev slot2 (sl : Fin 2) (h : Fin 3) (s : Fin 2) : Rect S2x3x2x128x256 := Rect.unit (s := S2x3x2x128x256) ![sl.val, h.val, s.val, 0, 0] S1x1x1x128x256.size (slot2_inb sl h s)
abbrev slot4 (sl : Fin 2) (h : Fin 3) (s : Fin 2) : Rect S2x3x2x2x256x256 := Rect.unit (s := S2x3x2x2x256x256) ![sl.val, h.val, s.val, 0, 0, 0] S1x1x1x2x256x256.size (slot4_inb sl h s)
abbrev redH (sl s : Fin 2) : Rect S2x256x256 := Rect.unit (s := S2x256x256) ![sl.val, 128 * s.val, 0] S1x128x256.size (redH_inb sl s)
abbrev redW (sl : Fin 2) : Rect S2x256x256 := Rect.unit (s := S2x256x256) ![sl.val, 0, 0] S1x256x256.size (redW_inb sl)
abbrev half (sl s : Fin 2) : Rect S2x4x256x256 := Rect.unit (s := S2x4x256x256) ![sl.val, 2 * s.val, 0, 0] S1x2x256x256.size (half_inb sl s)
abbrev pair3 (sl : Fin 2) (h : Fin 3) : Rect S2x3x2x128x256 := Rect.unit (s := S2x3x2x128x256) ![sl.val, h.val, 0, 0, 0] S1x1x2x128x256.size (pair3_inb sl h)
abbrev pair4 (sl : Fin 2) (h : Fin 3) : Rect S2x3x2x2x256x256 := Rect.unit (s := S2x3x2x2x256x256) ![sl.val, h.val, 0, 0, 0, 0] S1x1x2x2x256x256.size (pair4_inb sl h)

theorem slot1_words : ∀ (sl : Fin 2) (h : Fin 3) (s : Fin 2), (slot1 sl h s).WholeWords (EltTy.packing .bf16) := by decide +kernel
theorem slot2_words : ∀ (sl : Fin 2) (h : Fin 3) (s : Fin 2), (slot2 sl h s).WholeWords (EltTy.packing .bf16) := by decide +kernel
theorem slot4_words : ∀ (sl : Fin 2) (h : Fin 3) (s : Fin 2), (slot4 sl h s).WholeWords (EltTy.packing .bf16) := by decide +kernel
theorem redH_words : ∀ (sl s : Fin 2), (redH sl s).WholeWords (EltTy.packing .bf16) := by decide +kernel
theorem half_words : ∀ (sl s : Fin 2), (half sl s).WholeWords (EltTy.packing .bf16) := by decide +kernel
theorem slot1_packed : ∀ (sl : Fin 2) (h : Fin 3) (s : Fin 2), (slot1 sl h s).PackedRows (EltTy.packing .bf16) := by decide +kernel
theorem slot2_packed : ∀ (sl : Fin 2) (h : Fin 3) (s : Fin 2), (slot2 sl h s).PackedRows (EltTy.packing .bf16) := by decide +kernel
theorem redH_packed : ∀ (sl s : Fin 2), (redH sl s).PackedRows (EltTy.packing .bf16) := by decide +kernel
theorem half_packed : ∀ (sl s : Fin 2), (half sl s).PackedRows (EltTy.packing .bf16) := by decide +kernel

/-! ## The copies' ends, semaphores and targets -/

abbrev p1slot (M : Memref sig .tc .vmem S2x3x2x512x256 .bf16) (sl : Fin 2) (h : Fin 3) (s : Fin 2) : Memref sig .tc .vmem S512x256 .bf16 :=
  (M.slice (slot1 sl h s) (fun _ => rfl)).squeeze S512x256 squeezes_S1x1x1x512x256_S512x256
abbrev p2slot (M : Memref sig .tc .vmem S2x3x2x128x256 .bf16) (sl : Fin 2) (h : Fin 3) (s : Fin 2) : Memref sig .tc .vmem S128x256 .bf16 :=
  (M.slice (slot2 sl h s) (fun _ => rfl)).squeeze S128x256 squeezes_S1x1x1x128x256_S128x256
abbrev p4slot (M : Memref sig .tc .vmem S2x3x2x2x256x256 .bf16) (sl : Fin 2) (h : Fin 3) (s : Fin 2) : Memref sig .tc .vmem S2x256x256 .bf16 :=
  (M.slice (slot4 sl h s) (fun _ => rfl)).squeeze S2x256x256 squeezes_S1x1x1x2x256x256_S2x256x256
abbrev redslot (M : Memref sig .tc .vmem S2x256x256 .bf16) (sl s : Fin 2) : Memref sig .tc .vmem S128x256 .bf16 :=
  (M.slice (redH sl s) (fun _ => rfl)).squeeze S128x256 squeezes_S1x128x256_S128x256
abbrev respslot (M : Memref sig .tc .vmem S2x4x256x256 .bf16) (sl s : Fin 2) : Memref sig .tc .vmem S2x256x256 .bf16 :=
  (M.slice (half sl s) (fun _ => rfl)).squeeze S2x256x256 squeezes_S1x2x256x256_S2x256x256

/-- The hop before `h + 1`. -/
abbrev prevHop : Fin 3 → Fin 3 | ⟨0, _⟩ => 0 | ⟨n + 1, h⟩ => ⟨n, by omega⟩

/-- Where a copy reads: the staging slot in the first two phases; in the last two the reduced piece at hop 0,
    and after it the piece the hop before has brought. -/
def srcM : (i : Ix) → Memref sig .tc .vmem (tsh i.ph) .bf16
  | ⟨.p1, d, sl, h, s⟩ => p1slot (p1s d) sl h s
  | ⟨.p2, d, sl, h, s⟩ => p2slot (p2s d) sl h s
  | ⟨.p3, d, sl, ⟨0, _⟩, s⟩ => redslot (redM d) sl s
  | ⟨.p3, d, sl, ⟨n + 1, hn⟩, s⟩ => p2slot (p3b d) sl ⟨n, by omega⟩ s
  | ⟨.p4, d, sl, ⟨0, _⟩, s⟩ => respslot (respM d) sl s
  | ⟨.p4, d, sl, ⟨n + 1, hn⟩, s⟩ => p4slot (p4b d) sl ⟨n, by omega⟩ s

/-- Where a copy writes, on its target. -/
def dstM : (i : Ix) → Memref sig .tc .vmem (tsh i.ph) .bf16
  | ⟨.p1, d, sl, h, s⟩ => p1slot (p1r d) sl h s
  | ⟨.p2, d, sl, h, s⟩ => p2slot (p2r d) sl h s
  | ⟨.p3, d, sl, h, s⟩ => p2slot (p3b d) sl h s
  | ⟨.p4, d, sl, h, s⟩ => p4slot (p4b d) sl h s

theorem srcM_exact : (i : Ix) → (srcM i).view.WordExact
  | ⟨.p1, d, sl, h, s⟩ => ((p1s_whole d).wordExact_slice rfl _ (slot1_words sl h s)).reshape _ _
  | ⟨.p2, d, sl, h, s⟩ => ((p2s_whole d).wordExact_slice rfl _ (slot2_words sl h s)).reshape _ _
  | ⟨.p3, d, sl, ⟨0, _⟩, s⟩ => ((redM_whole d).wordExact_slice rfl _ (redH_words sl s)).reshape _ _
  | ⟨.p3, d, sl, ⟨n + 1, hn⟩, s⟩ => ((p3b_whole d).wordExact_slice rfl _ (slot2_words sl ⟨n, by omega⟩ s)).reshape _ _
  | ⟨.p4, d, sl, ⟨0, _⟩, s⟩ => ((respM_whole d).wordExact_slice rfl _ (half_words sl s)).reshape _ _
  | ⟨.p4, d, sl, ⟨n + 1, hn⟩, s⟩ => ((p4b_whole d).wordExact_slice rfl _ (slot4_words sl ⟨n, by omega⟩ s)).reshape _ _

theorem dstM_exact : (i : Ix) → (dstM i).view.WordExact
  | ⟨.p1, d, sl, h, s⟩ => ((p1r_whole d).wordExact_slice rfl _ (slot1_words sl h s)).reshape _ _
  | ⟨.p2, d, sl, h, s⟩ => ((p2r_whole d).wordExact_slice rfl _ (slot2_words sl h s)).reshape _ _
  | ⟨.p3, d, sl, h, s⟩ => ((p3b_whole d).wordExact_slice rfl _ (slot2_words sl h s)).reshape _ _
  | ⟨.p4, d, sl, h, s⟩ => ((p4b_whole d).wordExact_slice rfl _ (slot4_words sl h s)).reshape _ _

/-- The semaphore a copy's sender waits on, and the one its target waits on. -/
def sS (i : Ix) : DmaSem sig :=
  (((ssemA i.d).slice (Rect.unit (s := S2x24) ![i.sl.val, 6 * i.ph.num + 2 * i.h.val + i.s.val] S1x1.size (sem_inb i.ph i.sl i.h i.s))).squeeze S_ squeezes_S1x1_S_).sem
def rS (i : Ix) : DmaSem sig :=
  (((rsemA i.d).slice (Rect.unit (s := S2x24) ![i.sl.val, 6 * i.ph.num + 2 * i.h.val + i.s.val] S1x1.size (sem_inb i.ph i.sl i.h i.s))).squeeze S_ squeezes_S1x1_S_).sem

/-- The four neighbours: after and before within the plane, after and before across the planes. -/
def succP (c : Dev nD) : Dev nD := ⟨k0_dev1 c, k0_dev1_lt c⟩
def predP (c : Dev nD) : Dev nD := ⟨k0_dev2 c, k0_dev2_lt c⟩
def succC (c : Dev nD) : Dev nD := ⟨k0_dev3 c, k0_dev3_lt c⟩
def predC (c : Dev nD) : Dev nD := ⟨k0_dev4 c, k0_dev4_lt c⟩

/-- A copy's target, by its phase and direction. -/
def tgtOf (c : Dev nD) : Ph → Bool → Dev nD
  | .p1, true => succP c | .p1, false => predP c | .p4, true => succP c | .p4, false => predP c
  | .p2, true => succC c | .p2, false => predC c | .p3, true => succC c | .p3, false => predC c
abbrev tgt (c : Dev nD) (i : Ix) : Dev nD := tgtOf c i.ph i.d

/-! ## The offsets computed from the device -/

/-- The rows and columns of the device's input a first-phase unit reads (`k` counts the unit's step). -/
def xOff (c : Dev nD) (d : Bool) (sl : Fin 2) (k : Fin 4) (s : Fin 2) : Fin 2 → Nat :=
  match d, sl.val, k.val with
  | true, 0, 0 => k0_off1 c (BitVec.ofNat 32 (512 * s.val))
  | true, 0, n + 1 => k0_off3 c (BitVec.ofNat 32 (1 + n)) (BitVec.ofNat 32 (512 * s.val))
  | false, 0, 0 => k0_off2 c (BitVec.ofNat 32 (512 * s.val))
  | false, 0, n + 1 => k0_off4 c (BitVec.ofNat 32 n) (BitVec.ofNat 32 (512 * s.val))
  | true, _ + 1, 0 => k0_off7 c (BitVec.ofNat 32 (512 * s.val))
  | true, _ + 1, n + 1 => k0_off13 c (BitVec.ofNat 32 (1 + n)) (BitVec.ofNat 32 (512 * s.val))
  | false, _ + 1, 0 => k0_off8 c (BitVec.ofNat 32 (512 * s.val))
  | false, _ + 1, n + 1 => k0_off14 c (BitVec.ofNat 32 n) (BitVec.ofNat 32 (512 * s.val))

/-- The quarter and rows of the plane's partial result a second-phase unit reads. -/
def qOff (c : Dev nD) (d : Bool) (sl : Fin 2) (k : Fin 4) (t : Fin 2) : Fin 4 → Nat :=
  match sl.val, k.val, t.val, d with
  | 0, 0, 0, _ => k0_off5 c
  | 0, 0, _ + 1, _ => k0_off6 c
  | 0, n + 1, 0, true => k0_off9 c (BitVec.ofNat 32 (1 + n))
  | 0, n + 1, 0, false => k0_off10 c (BitVec.ofNat 32 n)
  | 0, n + 1, _ + 1, true => k0_off11 c (BitVec.ofNat 32 (1 + n))
  | 0, n + 1, _ + 1, false => k0_off12 c (BitVec.ofNat 32 n)
  | _ + 1, 0, 0, _ => k0_off18 c
  | _ + 1, 0, _ + 1, _ => k0_off19 c
  | _ + 1, n + 1, 0, true => k0_off22 c (BitVec.ofNat 32 (1 + n))
  | _ + 1, n + 1, 0, false => k0_off23 c (BitVec.ofNat 32 n)
  | _ + 1, n + 1, _ + 1, true => k0_off24 c (BitVec.ofNat 32 (1 + n))
  | _ + 1, n + 1, _ + 1, false => k0_off25 c (BitVec.ofNat 32 n)

/-- The quarter of the gathered chunk the device's own result (`n = 0`) or hop `n - 1` of phase 3 fills. -/
def respOff (c : Dev nD) (d : Bool) (sl : Fin 2) (n : Fin 4) : Fin 4 → Nat :=
  match sl.val, d, n.val with
  | 0, true, 0 => k0_off15 c (BitVec.ofNat 32 1)
  | 0, false, 0 => k0_off15 c (BitVec.ofNat 32 3)
  | 0, true, n + 1 => k0_off20 c (BitVec.ofNat 32 n)
  | 0, false, n + 1 => k0_off15 c (BitVec.ofNat 32 n)
  | _ + 1, true, 0 => k0_off26 c (BitVec.ofNat 32 1)
  | _ + 1, false, 0 => k0_off26 c (BitVec.ofNat 32 3)
  | _ + 1, true, n + 1 => k0_off31 c (BitVec.ofNat 32 n)
  | _ + 1, false, n + 1 => k0_off26 c (BitVec.ofNat 32 n)

/-- The same quarter's rows and columns of the result. -/
def outOff (c : Dev nD) (d : Bool) (sl : Fin 2) (n : Fin 4) : Fin 2 → Nat :=
  match sl.val, d, n.val with
  | 0, true, 0 => k0_off16 c
  | 0, false, 0 => k0_off17 c (BitVec.ofNat 32 3)
  | 0, true, n + 1 => k0_off21 c (BitVec.ofNat 32 n)
  | 0, false, n + 1 => k0_off17 c (BitVec.ofNat 32 n)
  | _ + 1, true, 0 => k0_off27 c
  | _ + 1, false, 0 => k0_off28 c (BitVec.ofNat 32 3)
  | _ + 1, true, n + 1 => k0_off32 c (BitVec.ofNat 32 n)
  | _ + 1, false, n + 1 => k0_off28 c (BitVec.ofNat 32 n)

/-- The chunk of the result hop `h` of phase 4 fills. -/
def out4Off (c : Dev nD) (d : Bool) (sl : Fin 2) (h : Fin 3) : Fin 2 → Nat :=
  match sl.val, d with
  | 0, true => k0_off29 c (BitVec.ofNat 32 h.val)
  | 0, false => k0_off30 c (BitVec.ofNat 32 h.val)
  | _ + 1, true => k0_off33 c (BitVec.ofNat 32 h.val)
  | _ + 1, false => k0_off34 c (BitVec.ofNat 32 h.val)

/-- A ring's chunk after `k` steps from number `a`, of four: down forward, up backward. -/
def rot (d : Bool) (a k : Nat) : Nat := if d then (a + 8 - k) % 4 else (a + k) % 4
/-- The number a piece fully reduced at number `a` has: one on forward, one back backward. -/
def own (d : Bool) (a : Nat) : Nat := if d then (a + 1) % 4 else (a + 3) % 4
/-- The quarter phase 3's step `n` fills: the device's own first. -/
def rq (d : Bool) (a n : Nat) : Nat := if d then (a + 9 - n) % 4 else (a + n + 3) % 4
/-- The first column of a direction's slab. -/
def col (d : Bool) (sl : Nat) : Nat := (if d then 0 else 512) + 256 * sl

theorem xOff_eq : ∀ (c : Dev nD) (d : Bool) (sl : Fin 2) (k : Fin 4) (s : Fin 2), xOff c d sl k s = ![1024 * rot d (c.val % 4) k.val + 512 * s.val, col d sl.val] := by decide +kernel
theorem qOff_eq : ∀ (c : Dev nD) (d : Bool) (sl : Fin 2) (k : Fin 4) (t : Fin 2), qOff c d sl k t = ![sl.val, rot d (c.val / 4) k.val, 128 * t.val, 0] := by decide +kernel
theorem respOff_eq : ∀ (c : Dev nD) (d : Bool) (sl : Fin 2) (n : Fin 4), respOff c d sl n = ![sl.val, rq d (c.val / 4) n.val, 0, 0] := by decide +kernel
theorem outOff_eq : ∀ (c : Dev nD) (d : Bool) (sl : Fin 2) (n : Fin 4), outOff c d sl n = ![1024 * own d (c.val % 4) + 256 * rq d (c.val / 4) n.val, col d sl.val] := by decide +kernel
theorem out4Off_eq : ∀ (c : Dev nD) (d : Bool) (sl : Fin 2) (h : Fin 3), out4Off c d sl h = ![1024 * rot d (c.val % 4) h.val, col d sl.val] := by decide +kernel

theorem xOff_inb : ∀ (c : Dev nD) (d : Bool) (sl : Fin 2) (k : Fin 4) (s : Fin 2) a, xOff c d sl k s a + S512x256.size a ≤ S4096x1024.size a := by
  intro c d sl k s; rw [xOff_eq]; revert c d sl k s; decide +kernel
theorem qOff_inb : ∀ (c : Dev nD) (d : Bool) (sl : Fin 2) (k : Fin 4) (t : Fin 2) a, qOff c d sl k t a + S1x1x128x256.size a ≤ S2x4x256x256.size a := by
  intro c d sl k t; rw [qOff_eq]; revert c d sl k t; decide +kernel
theorem respOff_inb : ∀ (c : Dev nD) (d : Bool) (sl : Fin 2) (n : Fin 4) a, respOff c d sl n a + S1x1x256x256.size a ≤ S2x4x256x256.size a := by
  intro c d sl n; rw [respOff_eq]; revert c d sl n; decide +kernel
theorem outOff_inb : ∀ (c : Dev nD) (d : Bool) (sl : Fin 2) (n : Fin 4) a, outOff c d sl n a + S256x256.size a ≤ S4096x1024.size a := by
  intro c d sl n; rw [outOff_eq]; revert c d sl n; decide +kernel
theorem out4Off_inb : ∀ (c : Dev nD) (d : Bool) (sl : Fin 2) (h : Fin 3) a, out4Off c d sl h a + S1024x256.size a ≤ S4096x1024.size a := by
  intro c d sl h; rw [out4Off_eq]; revert c d sl h; decide +kernel

abbrev xR (c : Dev nD) (d : Bool) (sl : Fin 2) (k : Fin 4) (s : Fin 2) : Rect S4096x1024 := Rect.unit (s := S4096x1024) (xOff c d sl k s) S512x256.size (xOff_inb c d sl k s)
abbrev qR (c : Dev nD) (d : Bool) (sl : Fin 2) (k : Fin 4) (t : Fin 2) : Rect S2x4x256x256 := Rect.unit (s := S2x4x256x256) (qOff c d sl k t) S1x1x128x256.size (qOff_inb c d sl k t)
abbrev respR (c : Dev nD) (d : Bool) (sl : Fin 2) (n : Fin 4) : Rect S2x4x256x256 := Rect.unit (s := S2x4x256x256) (respOff c d sl n) S1x1x256x256.size (respOff_inb c d sl n)
abbrev outR (c : Dev nD) (d : Bool) (sl : Fin 2) (n : Fin 4) : Rect S4096x1024 := Rect.unit (s := S4096x1024) (outOff c d sl n) S256x256.size (outOff_inb c d sl n)
abbrev out4R (c : Dev nD) (d : Bool) (sl : Fin 2) (h : Fin 3) : Rect S4096x1024 := Rect.unit (s := S4096x1024) (out4Off c d sl h) S1024x256.size (out4Off_inb c d sl h)

theorem respR_packed : ∀ (c : Dev nD) (d : Bool) (sl : Fin 2) (n : Fin 4), (respR c d sl n).PackedRows (EltTy.packing .bf16) := by decide +kernel

/-! ## The units -/

/-- One unit of the body. `split` stands for no operation of the program: it is where the gathered chunk is
    taken as two halves. -/
inductive Un
  | send (i : Ix) | wait (i : Ix) | waitS (i : Ix)
  | seed1 (d : Bool) (sl s : Fin 2) | hop1 (d : Bool) (sl : Fin 2) (h : Fin 2) (s : Fin 2) | fin1 (d : Bool) (sl s : Fin 2)
  | seed2 (d : Bool) (sl s : Fin 2) | hop2 (d : Bool) (sl : Fin 2) (h : Fin 2) (s : Fin 2) | fin2 (d : Bool) (sl s : Fin 2)
  | own3 (d : Bool) (sl : Fin 2) | fin3 (d : Bool) (sl : Fin 2) (h : Fin 3)
  | split (d : Bool) (sl : Fin 2) | fin4 (d : Bool) (sl : Fin 2) (h : Fin 3)

/-- A program of the TensorCore with no result. -/
abbrev TProg (F : FTy → Type) [FloatOps F] : Type 1 := Prog (TpuEff nD τ sig (Elt F) Λ₀ .tc) PUnit

/-- A load, a look at the destination, a store. -/
abbrev copyOps {sa sb : Shape} {ea eb : EltTy} (A : Memref sig .tc .vmem sa ea) (ra : Rect sa) (ha : A.view.LoadsAt ra.toLoadRect)
    (B : Memref sig .tc .vmem sb eb) (rb : Rect sb) (hb : B.view.LoadsAt rb.toLoadRect)
    (pay : (ra.shape.Idx → Elt F ea) → rb.shape.Idx → Elt F eb) (hx : (B.access rb).Stores Finset.univ) (k : TProg F) : TProg F :=
  Prog.op (.load A ra.toLoadRect ha) fun v => Prog.op (.load B rb.toLoadRect hb) fun _ =>
    Prog.op (.store B rb (pay v) Finset.univ hx (.inl rfl)) fun _ => k

/-- Two loads, a look at the destination, a store of what both give. -/
abbrev addOps {sa sc sb : Shape} {ea ec eb : EltTy} (A : Memref sig .tc .vmem sa ea) (ra : Rect sa) (ha : A.view.LoadsAt ra.toLoadRect)
    (C : Memref sig .tc .vmem sc ec) (rc : Rect sc) (hc : C.view.LoadsAt rc.toLoadRect)
    (B : Memref sig .tc .vmem sb eb) (rb : Rect sb) (hb : B.view.LoadsAt rb.toLoadRect)
    (pay : (ra.shape.Idx → Elt F ea) → (rc.shape.Idx → Elt F ec) → rb.shape.Idx → Elt F eb)
    (hx : (B.access rb).Stores Finset.univ) (k : TProg F) : TProg F :=
  Prog.op (.load A ra.toLoadRect ha) fun v => Prog.op (.load C rc.toLoadRect hc) fun w => Prog.op (.load B rb.toLoadRect hb) fun _ =>
    Prog.op (.store B rb (pay v w) Finset.univ hx (.inl rfl)) fun _ => k

theorem tsh_pos (ph : Ph) : 0 < (tsh ph).numel := by cases ph <;> decide

/-- The operations of a unit, then `k`. -/
def runU (c : Dev nD) : Un → TProg F → TProg F
  | .send i, k => Prog.op (.enqueueDma (srcM i) (.remote (Dev.tc (tgt c i)) (dstM i) (.dma (sS i))) (.dma (rS i)) (srcM_exact i) (dstM_exact i) ⟨⟨rfl, Or.inl rfl⟩, trivial⟩) fun _ => k
  | .wait i, k => Prog.op (.waitDma2 (rS i) (srcM i) (dstM i) (srcM_exact i) (dstM_exact i)) fun _ => k
  | .waitS i, k => Prog.op (.waitDma2 (sS i) (dstM i) (srcM i) (dstM_exact i) (srcM_exact i)) fun _ => k
  | .seed1 d sl s, k => copyOps xM (xR c d sl 0 s) (View.loadsAt_vmem h_S512x256) (p1s d) (slot1 sl 0 s) (View.loadsAt_vmem h_S1x1x1x512x256) k0_pay1
      (View.stores_vmem h_S1x1x1x512x256 ((p1s_whole d).storeExact_slice rfl _ (slot1_packed sl 0 s)) (fun _ => rfl)) k
  | .hop1 d sl h s, k => addOps (p1r d) (slot1 sl h.castSucc s) (View.loadsAt_vmem h_S1x1x1x512x256) xM (xR c d sl h.castSucc.succ s) (View.loadsAt_vmem h_S512x256)
      (p1s d) (slot1 sl h.succ s) (View.loadsAt_vmem h_S1x1x1x512x256) k0_pay5
      (View.stores_vmem h_S1x1x1x512x256 ((p1s_whole d).storeExact_slice rfl _ (slot1_packed sl h.succ s)) (fun _ => rfl)) k
  | .fin1 d sl s, k => addOps (p1r d) (slot1 sl 2 s) (View.loadsAt_vmem h_S1x1x1x512x256) xM (xR c d sl 3 s) (View.loadsAt_vmem h_S512x256)
      (resM d) (half sl s) (View.loadsAt_vmem h_S1x2x256x256) k0_pay15
      (View.stores_vmem h_S1x2x256x256 ((resM_whole d).storeExact_slice rfl _ (half_packed sl s)) (fun _ => rfl)) k
  | .seed2 d sl s, k => copyOps (resM d) (qR c d sl 0 s) (View.loadsAt_vmem h_S1x1x128x256) (p2s d) (slot2 sl 0 s) (View.loadsAt_vmem h_S1x1x1x128x256) k0_pay23
      (View.stores_vmem h_S1x1x1x128x256 ((p2s_whole d).storeExact_slice rfl _ (slot2_packed sl 0 s)) (fun _ => rfl)) k
  | .hop2 d sl h s, k => addOps (p2r d) (slot2 sl h.castSucc s) (View.loadsAt_vmem h_S1x1x1x128x256) (resM d) (qR c d sl h.castSucc.succ s) (View.loadsAt_vmem h_S1x1x128x256)
      (p2s d) (slot2 sl h.succ s) (View.loadsAt_vmem h_S1x1x1x128x256) k0_pay31
      (View.stores_vmem h_S1x1x1x128x256 ((p2s_whole d).storeExact_slice rfl _ (slot2_packed sl h.succ s)) (fun _ => rfl)) k
  | .fin2 d sl s, k => addOps (p2r d) (slot2 sl 2 s) (View.loadsAt_vmem h_S1x1x1x128x256) (resM d) (qR c d sl 3 s) (View.loadsAt_vmem h_S1x1x128x256)
      (redM d) (redH sl s) (View.loadsAt_vmem h_S1x128x256) k0_pay51
      (View.stores_vmem h_S1x128x256 ((redM_whole d).storeExact_slice rfl _ (redH_packed sl s)) (fun _ => rfl)) k
  | .own3 d sl, k => copyOps (redM d) (redW sl) (View.loadsAt_vmem h_S1x256x256) (respM d) (respR c d sl 0) (View.loadsAt_vmem h_S1x1x256x256) k0_pay56
      (View.stores_vmem h_S1x1x256x256 ((respM_whole d).storeExact_slice rfl _ (respR_packed c d sl 0)) (fun _ => rfl))
      (copyOps (redM d) (redW sl) (View.loadsAt_vmem h_S1x256x256) outM (outR c d sl 0) (View.loadsAt_vmem h_S256x256) k0_pay57
        (View.stores_vmem_bits_univ h_S256x256 rfl) k)
  | .fin3 d sl h, k => copyOps (p3b d) (pair3 sl h) (View.loadsAt_vmem h_S1x1x2x128x256) (respM d) (respR c d sl h.succ) (View.loadsAt_vmem h_S1x1x256x256) k0_pay70
      (View.stores_vmem h_S1x1x256x256 ((respM_whole d).storeExact_slice rfl _ (respR_packed c d sl h.succ)) (fun _ => rfl))
      (copyOps (p3b d) (pair3 sl h) (View.loadsAt_vmem h_S1x1x2x128x256) outM (outR c d sl h.succ) (View.loadsAt_vmem h_S256x256) k0_pay71
        (View.stores_vmem_bits_univ h_S256x256 rfl) k)
  | .split d sl, k => k
  | .fin4 d sl h, k => copyOps (p4b d) (pair4 sl h) (View.loadsAt_vmem h_S1x1x2x2x256x256) outM (out4R c d sl h) (View.loadsAt_vmem h_S1024x256) k0_pay101
        (View.stores_vmem_bits_univ h_S1024x256 rfl) k

/-- The units of a list in order, then `k`. -/
def runL (c : Dev nD) : List Un → TProg F → TProg F
  | [], k => k
  | u :: us, k => runU c u (runL c us k)

/-! ## The program -/

/-- A list over both halves and both directions, forward first. -/
abbrev sd (f : Fin 2 → Bool → List Un) : List Un := f 0 true ++ (f 0 false ++ (f 1 true ++ f 1 false))

def uSeed1 (sl : Fin 2) : List Un := sd fun s d => [.seed1 d sl s, .send ⟨.p1, d, sl, 0, s⟩]
def uHop1 (sl : Fin 2) : Fin 3 → List Un
  | ⟨0, _⟩ => sd fun s d => [.wait ⟨.p1, d, sl, 0, s⟩, .hop1 d sl 0 s, .send ⟨.p1, d, sl, 1, s⟩]
  | ⟨1, _⟩ => sd fun s d => [.wait ⟨.p1, d, sl, 1, s⟩, .hop1 d sl 1 s, .send ⟨.p1, d, sl, 2, s⟩]
  | ⟨_ + 2, _⟩ => sd fun s d => [.wait ⟨.p1, d, sl, 2, s⟩, .fin1 d sl s]
def uSeed2 (sl : Fin 2) : List Un := sd fun s d => [.seed2 d sl s, .send ⟨.p2, d, sl, 0, s⟩]
def uHop2 (sl : Fin 2) : Fin 3 → List Un
  | ⟨0, _⟩ => sd fun s d => [.wait ⟨.p2, d, sl, 0, s⟩, .hop2 d sl 0 s, .send ⟨.p2, d, sl, 1, s⟩]
  | ⟨1, _⟩ => sd fun s d => [.wait ⟨.p2, d, sl, 1, s⟩, .hop2 d sl 1 s, .send ⟨.p2, d, sl, 2, s⟩]
  | ⟨_ + 2, _⟩ => (sd fun s d => [.wait ⟨.p2, d, sl, 2, s⟩, .fin2 d sl s, .send ⟨.p3, d, sl, 0, s⟩]) ++ [.own3 true sl, .own3 false sl]
def uHop3 (sl : Fin 2) (h : Fin 3) : List Un :=
  (sd fun s d => if h.val < 2 then [.wait ⟨.p3, d, sl, h, s⟩, .send ⟨.p3, d, sl, h + 1, s⟩] else [.wait ⟨.p3, d, sl, h, s⟩]) ++ [.fin3 true sl h, .fin3 false sl h]
def uSeed4 (sl : Fin 2) : List Un := [.split true sl, .split false sl] ++ sd fun s d => [.send ⟨.p4, d, sl, 0, s⟩]
def uHop4 (sl : Fin 2) (h : Fin 3) : List Un :=
  (sd fun s d => if h.val < 2 then [.wait ⟨.p4, d, sl, h, s⟩, .send ⟨.p4, d, sl, h + 1, s⟩] else [.wait ⟨.p4, d, sl, h, s⟩]) ++ [.fin4 true sl h, .fin4 false sl h]
def uDrain (sl : Fin 2) (h : Fin 3) : List Un :=
  ([0, 1] : List (Fin 2)).flatMap (fun s => [.waitS ⟨.p1, true, sl, h, s⟩, .waitS ⟨.p1, false, sl, h, s⟩, .waitS ⟨.p4, true, sl, h, s⟩, .waitS ⟨.p4, false, sl, h, s⟩])
    ++ ([0, 1] : List (Fin 2)).flatMap (fun s => [.waitS ⟨.p2, true, sl, h, s⟩, .waitS ⟨.p2, false, sl, h, s⟩, .waitS ⟨.p3, true, sl, h, s⟩, .waitS ⟨.p3, false, sl, h, s⟩])

def progA : List Un := uSeed1 0 ++ (uHop1 0 0 ++ (uHop1 0 1 ++ (uHop1 0 2 ++ uSeed2 0)))
def progB : List Un := uSeed1 1 ++ (uHop2 0 0 ++ (uHop1 1 0 ++ (uHop2 0 1 ++ (uHop1 1 1 ++ (uHop2 0 2 ++ (uHop1 1 2 ++ uSeed2 1))))))
def progC : List Un := uHop3 0 0 ++ (uHop2 1 0 ++ (uHop3 0 1 ++ (uHop2 1 1 ++ (uHop3 0 2 ++ (uHop2 1 2 ++ uSeed4 0)))))
def progD : List Un := uHop4 0 0 ++ (uHop3 1 0 ++ (uHop4 0 1 ++ (uHop3 1 1 ++ (uHop4 0 2 ++ (uHop3 1 2 ++ uSeed4 1)))))
def progE : List Un := uHop4 1 0 ++ (uHop4 1 1 ++ uHop4 1 2)
def progF : List Un := uDrain 0 0 ++ (uDrain 0 1 ++ (uDrain 0 2 ++ (uDrain 1 0 ++ (uDrain 1 1 ++ uDrain 1 2))))

/-- The units of the body, in the program's order. -/
def prog : List Un := progA ++ (progB ++ (progC ++ (progD ++ (progE ++ progF))))

/-- The barrier semaphore of the launch. -/
abbrev barS : Sem sig := sig.barrier 0 rfl

/-- The body: the entry handshake, then the units. -/
def bodyOf : TProg F :=
  Prog.op .deviceId fun c =>
  Prog.op (.semSignal ((succP c : Dev nD) : Thread nD τ) barS 1) fun _ =>
  Prog.op (.semSignal ((predP c : Dev nD) : Thread nD τ) barS 1) fun _ =>
  Prog.op (.semSignal ((succC c : Dev nD) : Thread nD τ) barS 1) fun _ =>
  Prog.op (.semSignal ((predC c : Dev nD) : Thread nD τ) barS 1) fun _ =>
  Prog.op (.semWait barS 4) fun _ => runL c prog (.ret ⟨⟩)

end Cert.KernelIdealProof

end
-- ==== Proof.KernelIdeal.Held.lean ====
/-
# Parts of a memref held, at known contents on a region

`held M c R W q f` is a share `q` of the elements of `M` on device `c` at the indices `R`, of which those at `W` are
known to read as `f`. The body's loads, stores and copies are stated over it, and so are the ways a memref is taken
apart into slots and put together again.
-/
module

public import proofs.«01_k».proof.Proof.KernelIdeal.Tables

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds of this launch's cells, duties named by four numbers. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition of a program of device `c`'s TensorCore. -/
abbrev WP (c : Dev nD) (P : TProg F) (Q : PUnit → sProp 𝕄) : sProp 𝕄 :=
  wp frame (wpE (defs₀ (F := F)) 𝒱₀ (c : Thread nD τ) none) Set.univ P Q

section Held

variable {sp : Space} {s : Shape} {e : EltTy}

/-- A share of the elements of `M` at `R`, reading as `f` at `W`. -/
def held (M : Memref sig .tc sp s e) (c : Dev nD) (R W : Finset s.Idx) (q : PosShare TreeShare) (f : s.Idx → Elt F e) : sProp 𝕄 :=
  iprop(∃ g : Buf (Elt F) (M.view.loc (c : Thread nD τ)), ⌜∀ x ∈ W, M.view.read (Elt F) g x = f x⌝ ∗ (M.view.loc (c : Thread nD τ) ↦[M.view.setOn R]{q} g))

variable {M : Memref sig .tc sp s e} {c : Dev nD} {R R₁ R₂ W W' W₁ W₂ : Finset s.Idx} {q : PosShare TreeShare} {f f' : s.Idx → Elt F e}

instance held_storable : BI.Storable (upEmb : UEmb _ 𝕄) (held (F := F) M c R W q f) := by unfold held; infer_instance

theorem setOn_mono (h : R₁ ⊆ R₂) : M.view.setOn R₁ ⊆ M.view.setOn R₂ := Finset.map_subset_map.mpr h

theorem setOn_disjoint (h : Disjoint R₁ R₂) : Disjoint (M.view.setOn R₁) (M.view.setOn R₂) := (Finset.disjoint_map _).mpr h

theorem setOn_biUnion {T : Type} [DecidableEq T] (S : Finset T) (K : T → Finset s.Idx) :
    M.view.setOn (S.biUnion K) = S.biUnion fun t => M.view.setOn (K t) := by
  ext i
  simp only [View.setOn, Finset.mem_map, Finset.mem_biUnion]
  constructor
  · rintro ⟨x, ⟨t, ht, hx⟩, rfl⟩; exact ⟨t, ht, x, hx, rfl⟩
  · rintro ⟨t, ht, x, hx, rfl⟩; exact ⟨x, ⟨t, ht, hx⟩, rfl⟩

theorem held_mono (h : W' ⊆ W) (hf : ∀ x ∈ W', f x = f' x) : held M c R W q f ⊢ held M c R W' q f' := by
  unfold held
  iintro ⟨%g, %hg, H⟩
  iexists g
  isplitr
  · ipureintro; intro x hx; rw [hg x (h hx), hf x hx]
  · iexact H

/-- A load of a known rectangle. -/
theorem held_load (r : Rect s) {cs : CoreSpace} {M : Memref sig .tc cs s e} {hl : M.view.LoadsAt r.toLoadRect} {k : (r.shape.Idx → Elt F e) → TProg F} {Q}
    (hR : r.set ⊆ R) (hW : r.set ⊆ W) :
    held M c R W q f ⊢ iprop((held M c R W q f -∗ WP c (k fun x => f (r.emb x)) Q) -∗ WP c (Prog.op (.load M r.toLoadRect hl) k) Q) := by
  iintro H Hk
  unfold held
  icases H with ⟨%g, %hg, H⟩
  iapply (wp_load 𝒱₀ (c : Thread nD τ) none Set.univ (m := M) (setOn_mono (by exact hR))) $$ H
  iintro H
  rw [show M.view.readAt (Elt F) r.toLoadRect g = fun x => f (r.emb x) from
    funext fun x => hg _ (hW (by rw [← Rect.map_emb_univ]; exact Finset.mem_map_of_mem _ (Finset.mem_univ x)))]
  iapply Hk
  iexists g
  isplitr
  · ipureintro; exact hg
  · iexact H

/-- A load whose value is not used. -/
theorem held_look (r : Rect s) {cs : CoreSpace} {M : Memref sig .tc cs s e} {hl : M.view.LoadsAt r.toLoadRect} {P : TProg F} {Q}
    (hR : r.set ⊆ R) :
    held M c R W q f ⊢ iprop((held M c R W q f -∗ WP c P Q) -∗ WP c (Prog.op (.load M r.toLoadRect hl) fun _ => P) Q) := by
  iintro H Hk
  unfold held
  icases H with ⟨%g, %hg, H⟩
  iapply (wp_load 𝒱₀ (c : Thread nD τ) none Set.univ (m := M) (setOn_mono (by exact hR))) $$ H
  iintro H
  iapply Hk
  iexists g
  isplitr
  · ipureintro; exact hg
  · iexact H

/-- A store: the rectangle becomes known. -/
theorem held_store (r : Rect s) {cs : CoreSpace} {M : Memref sig .tc cs s e} {w : r.shape.Idx → Elt F e} {hx : (M.access r).Stores Finset.univ} {P : TProg F} {Q}
    (hR : r.set ⊆ R) (hw : ∀ x, w x = f (r.emb x)) :
    held M c R W fullShare f
      ⊢ iprop((held M c R (W ∪ r.set) fullShare f -∗ WP c P Q) -∗ WP c (Prog.op (.store M r w Finset.univ hx (.inl rfl)) fun _ => P) Q) := by
  iintro H Hk
  unfold held
  icases H with ⟨%g, %hg, H⟩
  iapply (wp_store 𝒱₀ (c : Thread nD τ) none Set.univ (m := M) (r := r) (Mk := Finset.univ)
    (by rw [View.setOn_univ, View.set_slice]; exact setOn_mono hR)) $$ H
  iintro H
  iapply Hk
  iexists _
  isplitr
  · ipureintro
    intro x hxW
    by_cases hr : x ∈ r.set
    · rw [← Rect.map_emb_univ] at hr
      obtain ⟨y, -, rfl⟩ := Finset.mem_map.mp hr
      refine Eq.trans ?_ (hw y)
      exact View.read_write_of_mem (v := M.access r) g w (Finset.mem_univ y)
    · have hx' := hg x ((Finset.mem_union.mp hxW).resolve_right hr)
      rw [← hx', View.read_apply, View.read_apply]
      congr 1
      refine View.write_of_not_mem (v := M.access r) g w _ ?_
      rw [View.setOn_univ, View.set_slice]
      exact fun h => hr (M.view.mem_setOn.mp h)
  · iexact H

/-- Two disjoint regions, apart. -/
theorem held_split (hd : Disjoint R₁ R₂) : held M c (R₁ ∪ R₂) W q f ⊢ iprop(held M c R₁ W q f ∗ held M c R₂ W q f) := by
  unfold held
  iintro ⟨%g, %hg, H⟩
  rw [show M.view.setOn (R₁ ∪ R₂) = M.view.setOn R₁ ∪ M.view.setOn R₂ from Finset.map_union _ _]
  ihave H2 := (pointsTo_union (setOn_disjoint hd)).1 $$ H
  icases H2 with ⟨H₁, H₂⟩
  isplitl [H₁]
  · iexists g; isplitr; · ipureintro; exact hg
    iexact H₁
  · iexists g; isplitr; · ipureintro; exact hg
    iexact H₂

/-- Two disjoint regions, together. -/
theorem held_join (hd : Disjoint R₁ R₂) (h₁ : W₁ ⊆ R₁) (h₂ : W₂ ⊆ R₂) :
    iprop(held M c R₁ W₁ q f ∗ held M c R₂ W₂ q f) ⊢ held M c (R₁ ∪ R₂) (W₁ ∪ W₂) q f := by
  unfold held
  iintro ⟨⟨%g₁, %hg₁, H₁⟩, ⟨%g₂, %hg₂, H₂⟩⟩
  rw [show M.view.setOn (R₁ ∪ R₂) = M.view.setOn R₁ ∪ M.view.setOn R₂ from Finset.map_union _ _]
  iexists (M.view.setOn R₂).piecewise g₂ g₁
  isplitr
  · ipureintro
    intro x hx
    rw [View.read_apply]
    by_cases hr : x ∈ R₂
    · rw [Finset.piecewise_eq_of_mem _ _ _ (M.view.mem_setOn.mpr hr)]
      rcases Finset.mem_union.mp hx with h | h
      · exact absurd hr (Finset.disjoint_left.mp hd (h₁ h))
      · exact hg₂ x h
    · rw [Finset.piecewise_eq_of_notMem _ _ _ (fun h => hr (M.view.mem_setOn.mp h))]
      rcases Finset.mem_union.mp hx with h | h
      · exact hg₁ x h
      · exact absurd (h₂ h) hr
  · iapply (pointsTo_join (setOn_disjoint hd))
    isplitl [H₁]
    · iexact H₁
    · iexact H₂

/-- A family of pairwise disjoint regions, apart. -/
theorem held_splits {T : Type} [DecidableEq T] (S : Finset T) (K : T → Finset s.Idx) (hd : ∀ t ∈ S, ∀ t' ∈ S, t ≠ t' → Disjoint (K t) (K t')) (hS : S.Nonempty) :
    held M c (S.biUnion K) W q f ⊢ bigSep S fun t => held M c (K t) W q f := by
  induction hS using Finset.Nonempty.cons_induction with
  | singleton t => rw [bigSep_singleton, Finset.singleton_biUnion]
  | cons t S ht hS ih =>
    rw [Finset.cons_eq_insert, bigSep_insert ht, Finset.biUnion_insert]
    refine (held_split ?_).trans (sep_mono_right (ih (fun t h t' h' => hd t (by simp [h]) t' (by simp [h']))))
    exact (Finset.disjoint_biUnion_right _ _ _).mpr fun t' h' => hd t (by simp) t' (by simp [h']) (fun e => ht (e ▸ h'))

/-- A family of pairwise disjoint regions, together. -/
theorem held_joins {T : Type} [DecidableEq T] (S : Finset T) (K V : T → Finset s.Idx) (hV : ∀ t ∈ S, V t ⊆ K t)
    (hd : ∀ t ∈ S, ∀ t' ∈ S, t ≠ t' → Disjoint (K t) (K t')) (hS : S.Nonempty) :
    (bigSep S fun t => held M c (K t) (V t) q f) ⊢ held M c (S.biUnion K) (S.biUnion V) q f := by
  induction hS using Finset.Nonempty.cons_induction with
  | singleton t => rw [bigSep_singleton, Finset.singleton_biUnion, Finset.singleton_biUnion]
  | cons t S ht hS ih =>
    rw [Finset.cons_eq_insert, bigSep_insert ht, Finset.biUnion_insert, Finset.biUnion_insert]
    refine (sep_mono_right (ih (fun t h => hV t (by simp [h])) (fun t h t' h' => hd t (by simp [h]) t' (by simp [h'])))).trans (held_join ?_ (hV t (by simp)) ?_)
    · exact (Finset.disjoint_biUnion_right _ _ _).mpr fun t' h' => hd t (by simp) t' (by simp [h']) (fun e => ht (e ▸ h'))
    · exact Finset.biUnion_mono fun t h => hV t (by simp [h])

/-- A known region by shares: both halves know it. -/
theorem held_halve : held M c R W q f ⊢ iprop(held M c R W q.left f ∗ held M c R W q.right f) := by
  unfold held
  iintro ⟨%g, %hg, H⟩
  ihave H2 := (pointsTo_share (PosShare.mem_left_op_right q)).1 $$ H
  icases H2 with ⟨H₁, H₂⟩
  isplitl [H₁]
  · iexists g; isplitr; · ipureintro; exact hg
    iexact H₁
  · iexists g; isplitr; · ipureintro; exact hg
    iexact H₂

theorem held_rejoin : iprop(held M c R W q.left f ∗ held M c R W' q.right f') ⊢ held M c R W q f := by
  unfold held
  iintro ⟨⟨%g, %hg, Hl⟩, ⟨%g', -, Hr⟩⟩
  iapply (show iprop((M.view.loc (c : Thread nD τ) ↦[M.view.setOn R]{q.left} g) ∗ (M.view.loc (c : Thread nD τ) ↦[M.view.setOn R]{q.right} g'))
      ⊢ (iprop(∃ g : Buf (Elt F) (M.view.loc (c : Thread nD τ)), ⌜∀ x ∈ W, M.view.read (Elt F) g x = f x⌝ ∗ (M.view.loc (c : Thread nD τ) ↦[M.view.setOn R]{q} g)) : sProp 𝕄) from
    pure_elim _ pointsTo_agree fun hv => by
      rw [pointsTo_congr (f := g') (g := g) (fun i hi => ((hv i (Finset.mem_inter.mpr ⟨hi, hi⟩)).1).symm)]
      iintro H
      iexists g; isplitr; · ipureintro; exact hg
      iapply (pointsTo_share (PosShare.mem_left_op_right q)).2; iexact H)
  isplitl [Hl]; · iexact Hl
  iexact Hr

/-- A rectangle of a memref, as a memref of its own at another shape of as many elements. -/
theorem held_in {sp : Space} {M : Memref sig .tc sp s e} (r : Rect s) (hu : ∀ a, r.stride a = 1) {s' : Shape} (hq : r.shape.Squeezes s') {V : Finset s'.Idx} {v : s'.Idx → Elt F e}
    (h : ∀ x ∈ V, r.emb (Shape.reshapeEquiv hq.numel_eq x) ∈ W ∧ f (r.emb (Shape.reshapeEquiv hq.numel_eq x)) = v x) :
    held M c r.set W q f ⊢ held ((M.slice r hu).squeeze s' hq) c Finset.univ V q v := by
  unfold held
  iintro ⟨%g, %hg, H⟩
  rw [View.setOn_univ, show ((M.slice r hu).squeeze s' hq).view.set = M.view.setOn r.set from by
    exact (View.set_reshape (v := M.view.slice r) _).trans (View.set_slice ..)]
  iexists g
  isplitr
  · ipureintro; intro x hx
    exact (hg _ (h x hx).1).trans (h x hx).2
  · iexact H

theorem held_out {sp : Space} {M : Memref sig .tc sp s e} (r : Rect s) (hu : ∀ a, r.stride a = 1) {s' : Shape} (hq : r.shape.Squeezes s') {V : Finset s'.Idx} {v : s'.Idx → Elt F e}
    (h : ∀ y ∈ W, ∃ x ∈ V, r.emb (Shape.reshapeEquiv hq.numel_eq x) = y ∧ v x = f y) :
    held ((M.slice r hu).squeeze s' hq) c Finset.univ V q v ⊢ held M c r.set W q f := by
  unfold held
  iintro ⟨%g, %hg, H⟩
  rw [View.setOn_univ, show ((M.slice r hu).squeeze s' hq).view.set = M.view.setOn r.set from by
    exact (View.set_reshape (v := M.view.slice r) _).trans (View.set_slice ..)]
  iexists g
  isplitr
  · ipureintro; intro y hy
    obtain ⟨x, hx, rfl, hv⟩ := h y hy
    exact (hg x hx).trans hv
  · iexact H

/-- A whole buffer, nothing known of it. -/
theorem held_of_whole (b : Ref sig .tc) (f : b.ty.shape.Idx → Elt F b.ty.elt) :
    (iprop(∃ g, ((c : Thread nD τ).loc b) ↦{fullShare} g) : sProp 𝕄) ⊢ held (Memref.whole b) c Finset.univ ∅ fullShare f := by
  unfold held
  iintro ⟨%g, H⟩
  iexists g
  isplitr
  · ipureintro; intro x hx; exact absurd hx (Finset.notMem_empty _)
  · rw [show (Memref.whole b).view.setOn Finset.univ = Finset.univ from View.setOn_whole_univ b]
    iexact H

theorem whole_of_held (b : Ref sig .tc) {f : b.ty.shape.Idx → Elt F b.ty.elt} {W} :
    held (Memref.whole b) c Finset.univ W fullShare f ⊢ (iprop(∃ g, ((c : Thread nD τ).loc b) ↦{fullShare} g) : sProp 𝕄) := by
  unfold held
  iintro ⟨%g, -, H⟩
  iexists g
  rw [show (Memref.whole b).view.setOn Finset.univ = Finset.univ from View.setOn_whole_univ b]
  iexact H

end Held

end Cert.KernelIdealProof
end
-- ==== Proof.KernelIdeal.Common.lean ====
/-
# Values, cells and the schedule of the kernel

What every copy carries and every buffer comes to hold, as functions of the devices' inputs; the semaphore cells the
copies and the handshake run over; what each cell's one round hands over; the levels that order the waits.
-/
module

public import proofs.«01_k».proof.Proof.KernelIdeal.Held

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Values -/

/-- The devices a device's copies come from, in a plane and across planes. -/
def srcP (d : Bool) (c : Dev nD) : Dev nD := tgtOf c .p1 (!d)
def srcC (d : Bool) (c : Dev nD) : Dev nD := tgtOf c .p2 (!d)
/-- The device whose copy `i` lands on `c`. -/
def sdev (c : Dev nD) (i : Ix) : Dev nD := tgtOf c i.ph (!i.d)

theorem tgtOf_back : ∀ (c : Dev nD) (ph : Ph) (d : Bool), tgtOf (tgtOf c ph (!d)) ph d = c := by
  intro c ph d; revert c d; cases ph <;> decide
theorem tgtOf_forth : ∀ (c : Dev nD) (ph : Ph) (d : Bool), tgtOf (tgtOf c ph d) ph (!d) = c := by
  intro c ph d; revert c d; cases ph <;> decide
theorem tgt_sdev (c : Dev nD) (i : Ix) : tgt (sdev c i) i = c := tgtOf_back c i.ph i.d
theorem sdev_tgt (c : Dev nD) (i : Ix) : sdev (tgt c i) i = c := tgtOf_forth c i.ph i.d

/-- An array read at natural-number coordinates. -/
def atN {s : Shape} {α : Type} (hs : ∀ a, 0 < s.size a) (f : s.Idx → α) (o : Fin s.rank → ℕ) : α := f fun a => ⟨o a % s.size a, Nat.mod_lt _ (hs a)⟩

theorem atN_eq {s : Shape} {α : Type} (hs : ∀ a, 0 < s.size a) (f : s.Idx → α) {o : Fin s.rank → ℕ} (y : s.Idx) (h : ∀ a, o a = (y a).val) :
    atN hs f o = f y := by
  unfold atN
  refine congrArg f (funext fun a => Fin.ext ?_)
  simp only [h a]
  exact Nat.mod_eq_of_lt (y a).isLt

theorem x_pos : ∀ a, 0 < S4096x1024.size a := by decide

section Values
variable (X : Dev nD → S4096x1024.Idx → Elt F .bf16)

/-- The plane's partial sum of a row and column of a chunk after `h` hops, at device `c`. -/
def a1 (d : Bool) (sl : ℕ) : ℕ → Dev nD → ℕ → ℕ → Elt F .bf16
  | 0, c, r, q => atN x_pos (X c) ![1024 * rot d (c.val % 4) 0 + r, col d sl + q]
  | h + 1, c, r, q => (FloatOps.addf (φ := .bf16) (a1 d sl h (srcP d c) r q : F .bf16) (atN x_pos (X c) ![1024 * rot d (c.val % 4) (h + 1) + r, col d sl + q]))

/-- The planes' partial sum of a row and column of a quarter after `h` hops, at device `c`. -/
def a2 (d : Bool) (sl : ℕ) : ℕ → Dev nD → ℕ → ℕ → Elt F .bf16
  | 0, c, r, q => a1 X d sl 3 c (256 * rot d (c.val / 4) 0 + r) q
  | h + 1, c, r, q => (FloatOps.addf (φ := .bf16) (a2 d sl h (srcC d c) r q : F .bf16) (a1 X d sl 3 c (256 * rot d (c.val / 4) (h + 1) + r) q))

/-- The device of `c`'s line across the planes that has reduced quarter `qt`; and the one that has reduced quarter
    `qt` of chunk `k`. -/
def odev (d : Bool) (k qt : ℕ) : Dev nD := ⟨(4 * (if d then qt + 3 else qt + 1) % 16 + (if d then k + 3 else k + 1) % 4) % 16, Nat.mod_lt _ (by decide)⟩
def qdev (d : Bool) (c : Dev nD) (qt : ℕ) : Dev nD := odev d (own d (c.val % 4)) qt

/-- What the copies of a phase carry, sent by `c`. -/
def tvOf (c : Dev nD) : (ph : Ph) → (d : Bool) → (sl h s : ℕ) → (tsh ph).Idx → Elt F .bf16
  | .p1, d, sl, h, s => fun x : S512x256.Idx => a1 X d sl h c (512 * s + (x 0).val) (x 1).val
  | .p2, d, sl, h, s => fun x : S128x256.Idx => a2 X d sl h c (128 * s + (x 0).val) (x 1).val
  | .p3, d, sl, h, s => fun x : S128x256.Idx => a2 X d sl 3 ((srcC d)^[h] c) (128 * s + (x 0).val) (x 1).val
  | .p4, d, sl, h, s => fun x : S2x256x256.Idx => a2 X d sl 3 (qdev d ((srcP d)^[h] c) (2 * s + (x 0).val)) (x 1).val (x 2).val

/-- What copy `i` carries, sent by `c`. -/
abbrev tv (c : Dev nD) (i : Ix) : (tsh i.ph).Idx → Elt F .bf16 := tvOf X c i.ph i.d i.sl.val i.h.val i.s.val

/-- What the buffers hold once filled. -/
def p1sF (c : Dev nD) (d : Bool) : S2x3x2x512x256.Idx → Elt F .bf16 := fun y => a1 X d (y 0).val (y 1).val c (512 * (y 2).val + (y 3).val) (y 4).val
def p1rF (c : Dev nD) (d : Bool) : S2x3x2x512x256.Idx → Elt F .bf16 := p1sF X (srcP d c) d
def p2sF (c : Dev nD) (d : Bool) : S2x3x2x128x256.Idx → Elt F .bf16 := fun y => a2 X d (y 0).val (y 1).val c (128 * (y 2).val + (y 3).val) (y 4).val
def p2rF (c : Dev nD) (d : Bool) : S2x3x2x128x256.Idx → Elt F .bf16 := p2sF X (srcC d c) d
def resF (c : Dev nD) (d : Bool) : S2x4x256x256.Idx → Elt F .bf16 := fun y => a1 X d (y 0).val 3 c (256 * (y 1).val + (y 2).val) (y 3).val
def redF (c : Dev nD) (d : Bool) : S2x256x256.Idx → Elt F .bf16 := fun y => a2 X d (y 0).val 3 c (y 1).val (y 2).val
def p3F (c : Dev nD) (d : Bool) : S2x3x2x128x256.Idx → Elt F .bf16 := fun y => a2 X d (y 0).val 3 ((srcC d)^[(y 1).val + 1] c) (128 * (y 2).val + (y 3).val) (y 4).val
def respF (c : Dev nD) (d : Bool) : S2x4x256x256.Idx → Elt F .bf16 := fun y => a2 X d (y 0).val 3 (qdev d c (y 1).val) (y 2).val (y 3).val
def p4F (c : Dev nD) (d : Bool) : S2x3x2x2x256x256.Idx → Elt F .bf16 := fun y => a2 X d (y 0).val 3 (qdev d ((srcP d)^[(y 1).val + 1] c) (2 * (y 2).val + (y 3).val)) (y 4).val (y 5).val
/-- The result, the same on every device. -/
def outF : S4096x1024.Idx → Elt F .f32 := fun y =>
  FloatOps.extf (φ := .bf16) .f32 bitsLt_bf16_f32
    (a2 X (decide ((y 1).val < 512)) ((y 1).val % 512 / 256) 3 (odev (decide ((y 1).val < 512)) ((y 0).val / 1024) ((y 0).val % 1024 / 256)) ((y 0).val % 256) ((y 1).val % 256) : F .bf16)

end Values

/-! ## The cells -/

/-- A cell of a device: the barrier's, or a copy's — `false` where its sender waits, `true` where its target waits. -/
abbrev CK : Type := Option (Bool × Ix)

def csem : CK → SemLoc sig
  | none => .reg barS
  | some (false, i) => .dma (sS i)
  | some (true, i) => .dma (rS i)

abbrev cell (c : Dev nD) (k : CK) : GSem nD τ sig := ((c : Thread nD τ), csem k)

def phOf : ℕ → Ph | 0 => .p1 | 1 => .p2 | 2 => .p3 | _ => .p4

/-- Which cell a semaphore is. -/
def dec : SemLoc sig → Option CK
  | .reg s => if s = barS then some none else none
  | .dma q => if q.val < 2 then none else
      some (some (decide ((q.val - 2) / 48 % 2 = 1),
        ⟨phOf ((q.val - 2) % 24 / 6), decide ((q.val - 2) / 96 = 0), Fin.ofNat 2 ((q.val - 2) % 48 / 24), Fin.ofNat 3 ((q.val - 2) % 6 / 2), Fin.ofNat 2 ((q.val - 2) % 2)⟩))

theorem sS_val (i : Ix) : (sS i).val = 2 + (if i.d then 0 else 96) + 24 * i.sl.val + 6 * i.ph.num + 2 * i.h.val + i.s.val := by
  revert i; decide +kernel
theorem rS_val (i : Ix) : (rS i).val = 50 + (if i.d then 0 else 96) + 24 * i.sl.val + 6 * i.ph.num + 2 * i.h.val + i.s.val := by
  revert i; decide +kernel

theorem dec_csem (k : CK) : dec (csem k) = some k := by
  revert k; decide +kernel

theorem csem_injective : Function.Injective csem := fun a b h => by
  have := congrArg dec h; rw [dec_csem, dec_csem] at this; exact Option.some.inj this

theorem cell_inj {c c' : Dev nD} {k k' : CK} : cell c k = cell c' k' ↔ c = c' ∧ k = k' := by
  constructor
  · intro h
    exact ⟨congrArg (fun g : GSem nD τ sig => g.1.1) h, csem_injective (congrArg Prod.snd h)⟩
  · rintro ⟨rfl, rfl⟩; rfl

/-- The credit of a copy. -/
def N (i : Ix) : ℕ := (dstM i).view.dmaCredit

theorem N_pos (i : Ix) : 0 < N i := View.dmaCredit_pos _ (tsh_pos i.ph)
theorem credit_src (i : Ix) : (srcM i).view.dmaCredit = N i := by
  revert i; rintro ⟨ph, d, sl, h, s⟩; unfold N; cases ph <;> cases d <;> (obtain ⟨h, hh⟩ := h; rcases h with _ | h) <;> rfl

/-! ## The schedule -/

section Sched
variable (X : Dev nD → S4096x1024.Idx → Elt F .bf16)

/-- The share of its source a copy takes along: a half where the body reads the source meanwhile. -/
def qS (i : Ix) : PosShare TreeShare :=
  match i.ph, i.h.val with
  | .p1, _ => fullShare | .p2, _ => fullShare | .p3, _ => fullShare.left | .p4, 0 => fullShare | .p4, _ + 1 => fullShare.left

/-- The handshake's signal that lends the landing slots of a phase and direction. -/
def duty : Ph → Bool → Fin 4
  | .p1, false => 0 | .p4, false => 0 | .p1, true => 1 | .p4, true => 1
  | .p2, false => 2 | .p3, false => 2 | .p2, true => 3 | .p3, true => 3

/-- Copy `i`'s landing slot on device `c`, contents unknown. -/
abbrev room (c : Dev nD) (i : Ix) : sProp 𝕄 := held (dstM i) c Finset.univ ∅ fullShare (tv X (sdev c i) i)

def lends (k : Fin 4) : Finset Ix := Finset.univ.filter fun i => duty i.ph i.d = k

/-- What the handshake's signal `k` brings device `c`: the landing slots on the targets of its copies. -/
def barPay (c : Dev nD) (k : Fin 4) : sProp 𝕄 := bigSep (lends k) fun i => room X (tgt c i) i
def sendPay (c : Dev nD) (i : Ix) : sProp 𝕄 := held (srcM i) c Finset.univ Finset.univ (qS i) (tv X c i)
def recvPay (c : Dev nD) (i : Ix) : sProp 𝕄 := held (dstM i) c Finset.univ Finset.univ fullShare (tv X (sdev c i) i)

def payOf (c : Dev nD) : CK → Fin 4 → sProp 𝕄
  | none, k => barPay X c k
  | some (false, i), _ => sendPay X c i
  | some (true, i), _ => recvPay X c i

def dutyOf : CK → Finset (Fin 4) | none => Finset.univ | some _ => {0}
def amtOf : CK → ℕ | none => 1 | some (_, i) => N i

theorem amtOf_pos (k : CK) : 0 < amtOf k := by
  rcases k with _ | ⟨b, i⟩
  · exact Nat.one_pos
  · exact N_pos i

instance payOf_storable (c : Dev nD) (k : CK) (d : Fin 4) : BI.Storable (upEmb : UEmb _ 𝕄) (payOf (F := F) X c k d) := by
  rcases k with _ | ⟨b, i⟩
  · unfold payOf barPay; infer_instance
  · cases b
    · unfold payOf sendPay; infer_instance
    · unfold payOf recvPay; infer_instance

/-- One round: the barrier cell has four duties of one unit, a copy's cell one of the copy's credit. -/
def Rd : Rounds.Schedule (GSem nD τ sig) (Fin 4) 𝕄 where
  duties g r := if r = 0 ∧ g.1.2 = .tc then (match dec g.2 with | some k => dutyOf k | none => ∅) else ∅
  unitless _ := False
  amount g _ _ := match dec g.2 with | some k => amtOf k | none => 1
  payload g _ d := match dec g.2 with | some k => payOf X g.1.1 k d | none => iprop(emp)
  amount_pos g _ _ _ := by
    rcases dec g.2 with _ | k
    · exact Nat.one_pos
    · exact amtOf_pos k

instance Rd_payload_storable (g : GSem nD τ sig) (r : ℕ) (d : Fin 4) : BI.Storable (upEmb : UEmb _ 𝕄) ((Rd (F := F) X).payload g r d) := by
  show BI.Storable upEmb (match dec g.2 with | some k => payOf X g.1.1 k d | none => iprop(emp))
  split <;> infer_instance

variable (c : Dev nD) (k : CK)

theorem duties_cell : (Rd (F := F) X).duties (cell c k) 0 = dutyOf k := by
  dsimp only [Rd, cell]; rw [if_pos ⟨rfl, rfl⟩, dec_csem]
theorem duties_later (g : GSem nD τ sig) : ∀ r, 1 ≤ r → (Rd (F := F) X).duties g r = ∅ :=
  fun r hr => by dsimp only [Rd]; rw [if_neg fun h => by omega]
theorem amount_cell (d : Fin 4) : (Rd (F := F) X).amount (cell c k) 0 d = amtOf k := by dsimp only [Rd, cell]; rw [dec_csem]
theorem payload_cell (d : Fin 4) : (Rd (F := F) X).payload (cell c k) 0 d = payOf X c k d := by dsimp only [Rd, cell]; rw [dec_csem]

theorem expect_bar : (Rd (F := F) X).expect (cell c none) 0 = 4 := by
  unfold Schedule.expect Schedule.amountOf
  rw [duties_cell, Finset.sum_congr rfl fun d _ => amount_cell X c none d]; rfl
theorem expect_dma (b : Bool) (i : Ix) : (Rd (F := F) X).expect (cell c (some (b, i))) 0 = N i := by
  unfold Schedule.expect Schedule.amountOf
  rw [duties_cell]; unfold dutyOf; rw [Finset.sum_singleton, amount_cell]; rfl

theorem rest_dma (b : Bool) (i : Ix) :
    bigSep ((Rd (F := F) X).duties (cell c (some (b, i))) 0 \ ∅) (fun d => (Rd (F := F) X).payload (cell c (some (b, i))) 0 d) = payOf X c (some (b, i)) 0 := by
  rw [Finset.sdiff_empty, duties_cell]; unfold dutyOf; rw [bigSep_singleton, payload_cell]
theorem rest_bar :
    bigSep ((Rd (F := F) X).duties (cell c none) 0 \ ∅) (fun d => (Rd (F := F) X).payload (cell c none) 0 d) = bigSep Finset.univ fun k => barPay X c k := by
  rw [Finset.sdiff_empty, duties_cell]; unfold dutyOf
  exact congrArg (bigSep Finset.univ) (funext fun d => payload_cell X c none d)

end Sched

/-! ## The order of the waits -/

/-- The place of a copy in the program: no copy is awaited before every copy of its place and of the places below has been started. -/
def lvl (i : Ix) : ℕ :=
  match i.ph, i.sl.val, i.h.val with
  | .p1, 0, h => h
  | .p1, _ + 1, 0 => 4 | .p1, _ + 1, h + 1 => 6 + 2 * h
  | .p2, 0, 0 => 3 | .p2, 0, h + 1 => 5 + 2 * h
  | .p2, _ + 1, 0 => 11 | .p2, _ + 1, h + 1 => 13 + 2 * h
  | .p3, 0, 0 => 9 | .p3, 0, h + 1 => 12 + 2 * h
  | .p3, _ + 1, 0 => 17 | .p3, _ + 1, h + 1 => 20 + 2 * h
  | .p4, 0, 0 => 18 | .p4, 0, h + 1 => 19 + 2 * h
  | .p4, _ + 1, 0 => 25 | .p4, _ + 1, h + 1 => 26 + h

def L (g : GSem nD τ sig) : Finset Unit := if g.1.2 = .tc then {()} else ∅
/-- Barrier cells at 1, the cells of landings above by their copies' places, everything else at 0. -/
def lv (g : GSem nD τ sig) (_ : Unit) : ℕ :=
  match dec g.2 with
  | some none => 1
  | some (some (true, i)) => lvl i + 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (cell c none) u = 1 := by dsimp only [lv, cell]; rw [dec_csem]
theorem lv_recv (c : Dev nD) (i : Ix) (u : Unit) : lv (cell c (some (true, i))) u = lvl i + 2 := by dsimp only [lv, cell]; rw [dec_csem]
theorem lv_send (c : Dev nD) (i : Ix) (u : Unit) : lv (cell c (some (false, i))) u = 0 := by dsimp only [lv, cell]; rw [dec_csem]

/-- What device `c` owes for the copies it has not started yet. -/
def Osum (c : Dev nD) : List Ix → CellTallies nD τ sig Unit
  | [] => 0
  | i :: l => Osum c l + tallyAt (cell (tgt c i) (some (true, i))) () (N i)

theorem Osum_pos {c : Dev nD} {l : List Ix} {g : GSem nD τ sig} {u : Unit} (h : 0 < Osum c l g u) : ∃ i ∈ l, g = cell (tgt c i) (some (true, i)) := by
  induction l with
  | nil => exact absurd h (Nat.lt_irrefl 0)
  | cons i l ih =>
    unfold Osum at h
    rw [Pi.add_apply, Finsupp.add_apply, tallyAt_apply] at h
    by_cases hg : g = cell (tgt c i) (some (true, i)) ∧ u = ()
    · exact ⟨i, List.mem_cons_self, hg.1⟩
    · rw [if_neg hg] at h
      obtain ⟨j, hj, e⟩ := ih h
      exact ⟨j, List.mem_cons_of_mem _ hj, e⟩

/-- A landing may be awaited while every copy still to be started has a higher place. -/
theorem mayWait_recv (c : Dev nD) (i : Ix) (l : List Ix) (h : ∀ j ∈ l, lvl i < lvl j) :
    (levAts L lv : sProp 𝕄) ⊢ MayWait (c : Thread nD τ) (csem (some (true, i))) () (Osum c l) :=
  MayOwe.of_cut (L := L) (lev := lv) (lvl i + 2) (fun p hp => by rw [Finset.mem_singleton.mp hp, L_tc]; exact Finset.mem_singleton_self _)
    (fun g u hg => by obtain ⟨j, _, rfl⟩ := Osum_pos hg; exact Finset.mem_singleton_self _)
    (fun p hp => by rw [Finset.mem_singleton.mp hp]; exact le_of_eq (lv_recv c i ()))
    (fun g u hg => by obtain ⟨j, hj, rfl⟩ := Osum_pos hg; rw [lv_recv]; have := h j hj; omega)

/-- The barrier may be awaited while only copies are still to be started. -/
theorem mayWait_bar (c : Dev nD) (l : List Ix) :
    (levAts L lv : sProp 𝕄) ⊢ MayWait (c : Thread nD τ) (.reg barS) () (Osum c l) :=
  MayOwe.of_cut (L := L) (lev := lv) 1 (fun p hp => by rw [Finset.mem_singleton.mp hp, L_tc]; exact Finset.mem_singleton_self _)
    (fun g u hg => by obtain ⟨j, _, rfl⟩ := Osum_pos hg; exact Finset.mem_singleton_self _)
    (fun p hp => by rw [Finset.mem_singleton.mp hp]; exact le_of_eq (lv_bar c ()))
    (fun g u hg => by obtain ⟨j, hj, rfl⟩ := Osum_pos hg; rw [lv_recv]; omega)

/-- What device `c` owes at launch: its copies, and a unit of each neighbour's barrier. -/
def O₃ (c : Dev nD) (l : List Ix) : CellTallies nD τ sig Unit := Osum c l + tallyAt (cell (predC c) none) () 1
def O₂ (c : Dev nD) (l : List Ix) : CellTallies nD τ sig Unit := O₃ c l + tallyAt (cell (succC c) none) () 1
def O₁ (c : Dev nD) (l : List Ix) : CellTallies nD τ sig Unit := O₂ c l + tallyAt (cell (predP c) none) () 1
def O₀ (c : Dev nD) (l : List Ix) : CellTallies nD τ sig Unit := O₁ c l + tallyAt (cell (succP c) none) () 1

theorem O₀_pos {c : Dev nD} {l : List Ix} {g : GSem nD τ sig} {u : Unit} (h : 0 < O₀ c l g u) :
    (∃ c' i, g = cell c' (some (true, i))) ∨ ∃ c', g = cell c' none := by
  unfold O₀ O₁ O₂ O₃ at h
  simp only [Pi.add_apply, Finsupp.add_apply, tallyAt_apply] at h
  by_cases h0 : 0 < Osum c l g u
  · obtain ⟨i, _, e⟩ := Osum_pos h0; exact .inl ⟨_, i, e⟩
  · right
    by_contra hn
    rw [not_exists] at hn
    rw [if_neg (fun h => hn _ h.1), if_neg (fun h => hn _ h.1), if_neg (fun h => hn _ h.1), if_neg (fun h => hn _ h.1)] at h
    omega

theorem mayWait_stage (c : Dev nD) (q : DmaSem sig) (hq : dec (.dma q) = none) (O : CellTallies nD τ sig Unit) (l : List Ix) (hO : O = O₀ c l ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨c', i, rfl⟩ | ⟨c', rfl⟩ <;> exact Finset.mem_singleton_self _)
      (fun p hp => by rw [Finset.mem_singleton.mp hp]; dsimp only [lv]; rw [hq])
      (fun g u hg => by
        rcases O₀_pos hg with ⟨c', i, rfl⟩ | ⟨c', rfl⟩
        · rw [lv_recv]; omega
        · rw [lv_bar]; omega)
  · rw [MayWait_zero]; iintro -; iempintro

end Cert.KernelIdealProof
end
-- ==== Proof.KernelIdeal.Vals.lean ====
/-
# What each unit stores, and the slots

Each unit's stored value is what the destination's filled contents say at the stored rectangle; and each slot, seen as
a memref of its own, holds what its copy carries.
-/
module

public import proofs.«01_k».proof.Proof.KernelIdeal.Common
public import Idealize.ShloMosaic.Lib.ValueIdxCore
public import Idealize.ShloMosaic.Lib.ValueIdxRank6
public import Idealize.ShloMosaic.Lib.Pipeline.Value
public import Idealize.ShloMosaic.Lib.Pointwise.ElementwiseCore

@[expose] public section

noncomputable section

namespace Cert.KernelIdealProof

open Cert.KernelIdeal Cert.KernelIdeal.Gen
open Idealize.ShloMosaic
open Idealize.ShloMosaic.TcCoe
open Idealize.ShloMosaic.ValueIdx
open Idealize.SL Idealize.SL.Sem

variable {F : FTy → Type} [FloatOps F]

/-! ## Positions -/

theorem emb_off {s : Shape} {off size : Fin s.rank → ℕ} (inb : ∀ a, off a + size a ≤ s.size a) (y : (Rect.unit (s := s) off size inb).shape.Idx) (a : Fin s.rank) :
    (((Rect.unit (s := s) off size inb).emb y) a).val = off a + (y a).val := by
  rw [Rect.emb_apply]; show off a + 1 * (y a).val = _; rw [Nat.one_mul]

theorem pos2 {n0 n1 : ℕ} (i : (⟨2, ![n0, n1]⟩ : Shape).Idx) : (Shape.rowMajor _ i).val = (i 0).val * n1 + (i 1).val := Shape.rowMajor_val_two i
theorem pos3 {n0 n1 n2 : ℕ} (i : (⟨3, ![n0, n1, n2]⟩ : Shape).Idx) : (Shape.rowMajor _ i).val = ((i 0).val * n1 + (i 1).val) * n2 + (i 2).val := Shape.rowMajor_val_three i
theorem pos4 {n0 n1 n2 n3 : ℕ} (i : (⟨4, ![n0, n1, n2, n3]⟩ : Shape).Idx) : (Shape.rowMajor _ i).val = (((i 0).val * n1 + (i 1).val) * n2 + (i 2).val) * n3 + (i 3).val := Shape.rowMajor_val_four i
theorem pos5 {n0 n1 n2 n3 n4 : ℕ} (i : (⟨5, ![n0, n1, n2, n3, n4]⟩ : Shape).Idx) :
    (Shape.rowMajor _ i).val = ((((i 0).val * n1 + (i 1).val) * n2 + (i 2).val) * n3 + (i 3).val) * n4 + (i 4).val := Shape.rowMajor_val_five i
theorem pos6 {n0 n1 n2 n3 n4 n5 : ℕ} (i : (⟨6, ![n0, n1, n2, n3, n4, n5]⟩ : Shape).Idx) :
    (Shape.rowMajor _ i).val = (((((i 0).val * n1 + (i 1).val) * n2 + (i 2).val) * n3 + (i 3).val) * n4 + (i 4).val) * n5 + (i 5).val := Shape.rowMajor_val_six i

theorem zero5 {n3 n4 : ℕ} (y : (⟨5, ![1, 1, 1, n3, n4]⟩ : Shape).Idx) : (y 0).val = 0 ∧ (y 1).val = 0 ∧ (y 2).val = 0 :=
  ⟨Nat.lt_one_iff.mp (y 0).isLt, Nat.lt_one_iff.mp (y 1).isLt, Nat.lt_one_iff.mp (y 2).isLt⟩
theorem zero4 {n2 n3 : ℕ} (y : (⟨4, ![1, 1, n2, n3]⟩ : Shape).Idx) : (y 0).val = 0 ∧ (y 1).val = 0 :=
  ⟨Nat.lt_one_iff.mp (y 0).isLt, Nat.lt_one_iff.mp (y 1).isLt⟩

/-! ## The payloads at an index -/

section Pay
variable {n : ℕ}

theorem cast1_in {a b : ℕ} {α : Type} (v : (⟨2, ![a, b]⟩ : Shape).Idx → α) (h : (⟨2, ![a, b]⟩ : Shape).ShapeCasts ⟨5, ![1, 1, 1, a, b]⟩) (y) :
    shapeCast ⟨5, ![1, 1, 1, a, b]⟩ v h y = v (ix2 (y 3) (y 4)) :=
  shapeCast_apply _ _ _ _ (by
    obtain ⟨h0, h1, h2⟩ := zero5 y
    rw [pos2, pos5, h0, h1, h2]; show (y 3).val * b + (y 4).val = (((0 * 1 + 0) * 1 + 0) * a + (y 3).val) * b + (y 4).val; simp)
theorem cast1_out {a b : ℕ} {α : Type} (v : (⟨5, ![1, 1, 1, a, b]⟩ : Shape).Idx → α) (h : (⟨5, ![1, 1, 1, a, b]⟩ : Shape).ShapeCasts ⟨2, ![a, b]⟩) (x) :
    shapeCast ⟨2, ![a, b]⟩ v h x = v (ix5 0 0 0 (x 0) (x 1)) :=
  shapeCast_apply _ _ _ _ (by
    rw [pos2, pos5]; show (((0 * 1 + 0) * 1 + 0) * a + (x 0).val) * b + (x 1).val = (x 0).val * b + (x 1).val; simp)
theorem cast2_in {a b : ℕ} {α : Type} (v : (⟨2, ![a, b]⟩ : Shape).Idx → α) (h : (⟨2, ![a, b]⟩ : Shape).ShapeCasts ⟨4, ![1, 1, a, b]⟩) (y) :
    shapeCast ⟨4, ![1, 1, a, b]⟩ v h y = v (ix2 (y 2) (y 3)) :=
  shapeCast_apply _ _ _ _ (by
    obtain ⟨h0, h1⟩ := zero4 y
    rw [pos2, pos4, h0, h1]; show (y 2).val * b + (y 3).val = ((0 * 1 + 0) * a + (y 2).val) * b + (y 3).val; simp)
theorem cast2_out {a b : ℕ} {α : Type} (v : (⟨4, ![1, 1, a, b]⟩ : Shape).Idx → α) (h : (⟨4, ![1, 1, a, b]⟩ : Shape).ShapeCasts ⟨2, ![a, b]⟩) (x) :
    shapeCast ⟨2, ![a, b]⟩ v h x = v (ix4 0 0 (x 0) (x 1)) :=
  shapeCast_apply _ _ _ _ (by
    rw [pos2, pos4]; show ((0 * 1 + 0) * a + (x 0).val) * b + (x 1).val = (x 0).val * b + (x 1).val; simp)
theorem cast3_in {a b : ℕ} {α : Type} (v : (⟨2, ![a, b]⟩ : Shape).Idx → α) (h : (⟨2, ![a, b]⟩ : Shape).ShapeCasts ⟨3, ![1, a, b]⟩) (y) :
    shapeCast ⟨3, ![1, a, b]⟩ v h y = v (ix2 (y 1) (y 2)) :=
  shapeCast_apply _ _ _ _ (by
    have h0 : (y 0).val = 0 := Nat.lt_one_iff.mp (y 0).isLt
    rw [pos2, pos3, h0]; show (y 1).val * b + (y 2).val = (0 * a + (y 1).val) * b + (y 2).val; simp)
theorem cast3_out {a b : ℕ} {α : Type} (v : (⟨3, ![1, a, b]⟩ : Shape).Idx → α) (h : (⟨3, ![1, a, b]⟩ : Shape).ShapeCasts ⟨2, ![a, b]⟩) (x) :
    shapeCast ⟨2, ![a, b]⟩ v h x = v (ix3 0 (x 0) (x 1)) :=
  shapeCast_apply _ _ _ _ (by
    rw [pos2, pos3]; show (0 * a + (x 0).val) * b + (x 1).val = (x 0).val * b + (x 1).val; simp)

theorem pay1_at (v : Vec F S512x256 .bf16) (y) : k0_pay1 v y = v (ix2 (y 3) (y 4)) := by
  unfold k0_pay1
  exact (cast1_in _ _ y).trans (shapeCast_apply _ _ _ _ rfl)
theorem pay5_at (v : Vec F S1x1x1x512x256 .bf16) (w : Vec F S512x256 .bf16) (y) :
    k0_pay5 v w y = FloatOps.addf (φ := .bf16) (v (ix5 0 0 0 (y 3) (y 4))) (w (ix2 (y 3) (y 4))) := by
  unfold k0_pay5
  refine (cast1_in _ _ y).trans ((addf_apply ..).trans ?_)
  rw [cast1_out, shapeCast_apply w _ _ (ix2 (y 3) (y 4)) rfl]
theorem pay15_at (v : Vec F S1x1x1x512x256 .bf16) (w : Vec F S512x256 .bf16) (y : S1x2x256x256.Idx) (k : S512x256.Idx)
    (h0 : (k 0).val = 256 * (y 1).val + (y 2).val) (h1 : (k 1).val = (y 3).val) :
    k0_pay15 v w y = FloatOps.addf (φ := .bf16) (v (ix5 0 0 0 (k 0) (k 1))) (w k) := by
  unfold k0_pay15
  refine (shapeCast_apply _ _ y (ix3 (n0 := 2) (n1 := 256) (n2 := 256) (y 1) (y 2) (y 3)) ?_).trans ((shapeCast_apply _ _ _ k ?_).trans ((addf_apply ..).trans ?_))
  · have h : (y 0).val = 0 := Nat.lt_one_iff.mp (y 0).isLt
    rw [pos3, pos4, h]; show ((y 1).val * 256 + (y 2).val) * 256 + (y 3).val = ((0 * 2 + (y 1).val) * 256 + (y 2).val) * 256 + (y 3).val; simp
  · rw [pos2, pos3, h0, h1]; show (256 * (y 1).val + (y 2).val) * 256 + (y 3).val = ((y 1).val * 256 + (y 2).val) * 256 + (y 3).val; omega
  · rw [cast1_out, shapeCast_apply w _ _ k rfl]
theorem pay23_at (v : Vec F S1x1x128x256 .bf16) (y) : k0_pay23 v y = v (ix4 0 0 (y 3) (y 4)) := by
  unfold k0_pay23
  exact (cast1_in _ _ y).trans (cast2_out _ _ _)
theorem pay31_at (v : Vec F S1x1x1x128x256 .bf16) (w : Vec F S1x1x128x256 .bf16) (y) :
    k0_pay31 v w y = FloatOps.addf (φ := .bf16) (v (ix5 0 0 0 (y 3) (y 4))) (w (ix4 0 0 (y 3) (y 4))) := by
  unfold k0_pay31
  refine (cast1_in _ _ y).trans ((addf_apply ..).trans ?_)
  rw [cast1_out, cast2_out]
theorem pay51_at (v : Vec F S1x1x1x128x256 .bf16) (w : Vec F S1x1x128x256 .bf16) (y) :
    k0_pay51 v w y = FloatOps.addf (φ := .bf16) (v (ix5 0 0 0 (y 1) (y 2))) (w (ix4 0 0 (y 1) (y 2))) := by
  unfold k0_pay51
  refine (cast3_in _ _ y).trans ((addf_apply ..).trans ?_)
  rw [cast1_out, cast2_out]
theorem pay56_at (v : Vec F S1x256x256 .bf16) (y) : k0_pay56 v y = v (ix3 0 (y 2) (y 3)) := by
  unfold k0_pay56
  exact (cast2_in _ _ y).trans (cast3_out _ _ _)
theorem pay57_at (v : Vec F S1x256x256 .bf16) (y) : k0_pay57 v y = FloatOps.extf (φ := .bf16) .f32 bitsLt_bf16_f32 (v (ix3 0 (y 0) (y 1))) := by
  unfold k0_pay57
  refine (extf_apply ..).trans ?_
  rw [cast3_out]
theorem cast70 {φ : EltTy} (v : S1x1x2x128x256.Idx → Elt F φ) (h : S1x1x2x128x256.ShapeCasts S2x128x256) (x : S2x128x256.Idx) :
    shapeCast S2x128x256 v h x = v (ix5 0 0 (x 0) (x 1) (x 2)) :=
  shapeCast_apply _ _ _ _ (by
    rw [pos3, pos5]; show (((0 * 1 + 0) * 2 + (x 0).val) * 128 + (x 1).val) * 256 + (x 2).val = ((x 0).val * 128 + (x 1).val) * 256 + (x 2).val; simp)
theorem pay70_at (v : Vec F S1x1x2x128x256 .bf16) (y : S1x1x256x256.Idx) (k : S2x128x256.Idx)
    (h0 : 128 * (k 0).val + (k 1).val = (y 2).val) (h1 : (k 2).val = (y 3).val) :
    k0_pay70 v y = v (ix5 0 0 (k 0) (k 1) (k 2)) := by
  unfold k0_pay70
  refine (cast2_in _ _ y).trans ((shapeCast_apply _ _ _ k ?_).trans (cast70 v _ k))
  rw [pos3, pos2, h1]; show ((k 0).val * 128 + (k 1).val) * 256 + (y 3).val = (y 2).val * 256 + (y 3).val; omega
theorem pay71_at (v : Vec F S1x1x2x128x256 .bf16) (y : S256x256.Idx) (k : S2x128x256.Idx)
    (h0 : 128 * (k 0).val + (k 1).val = (y 0).val) (h1 : (k 2).val = (y 1).val) :
    k0_pay71 v y = FloatOps.extf (φ := .bf16) .f32 bitsLt_bf16_f32 (v (ix5 0 0 (k 0) (k 1) (k 2))) := by
  unfold k0_pay71
  refine (shapeCast_apply _ _ _ k ?_).trans ((extf_apply ..).trans ?_)
  · rw [pos3, pos2, h1]; show ((k 0).val * 128 + (k 1).val) * 256 + (y 1).val = (y 0).val * 256 + (y 1).val; omega
  · rw [cast70]
theorem pay101_at (v : Vec F S1x1x2x2x256x256 .bf16) (y : S1024x256.Idx) (k : S2x2x256x256.Idx)
    (h0 : 512 * (k 0).val + 256 * (k 1).val + (k 2).val = (y 0).val) (h1 : (k 3).val = (y 1).val) :
    k0_pay101 v y = FloatOps.extf (φ := .bf16) .f32 bitsLt_bf16_f32 (v (ix6 0 0 (k 0) (k 1) (k 2) (k 3))) := by
  unfold k0_pay101
  refine (shapeCast_apply _ _ _ k ?_).trans ((extf_apply ..).trans (congrArg _ ?_))
  · rw [pos4, pos2, h1]
    show (((k 0).val * 2 + (k 1).val) * 256 + (k 2).val) * 256 + (y 1).val = (y 0).val * 256 + (y 1).val; omega
  · refine shapeCast_apply _ _ _ _ ?_
    rw [pos4, pos6]
    show ((((0 * 1 + 0) * 2 + (k 0).val) * 2 + (k 1).val) * 256 + (k 2).val) * 256 + (k 3).val = (((k 0).val * 2 + (k 1).val) * 256 + (k 2).val) * 256 + (k 3).val; simp

end Pay

/-! ## The filled contents at each rectangle -/

section At
variable (X : Dev nD → S4096x1024.Idx → Elt F .bf16) (c : Dev nD) (d : Bool) (sl : Fin 2)

theorem x_at (k : Fin 4) (s : Fin 2) (x : S512x256.Idx) :
    X c ((xR c d sl k s).emb x) = atN x_pos (X c) ![1024 * rot d (c.val % 4) k.val + (512 * s.val + (x 0).val), col d sl.val + (x 1).val] := by
  refine (atN_eq _ _ _ fun a => ?_).symm
  rw [emb_off, congrFun (xOff_eq c d sl k s) a]
  fin_cases a
  · show _ + (_ + _) = (_ + _) + (x 0).val; omega
  · rfl

theorem p1s_at (h : Fin 3) (s : Fin 2) (y : S1x1x1x512x256.Idx) :
    p1sF X c d ((slot1 sl h s).emb y) = a1 X d sl.val h.val c (512 * s.val + (y 3).val) (y 4).val := by
  obtain ⟨h0, h1, h2⟩ := zero5 y
  unfold p1sF; simp only [emb_off, h0, h1, h2, Nat.add_zero]
  show a1 X d sl.val h.val c (512 * s.val + (0 + (y 3).val)) (0 + (y 4).val) = _
  rw [Nat.zero_add, Nat.zero_add]

theorem p2s_at (h : Fin 3) (s : Fin 2) (y : S1x1x1x128x256.Idx) :
    p2sF X c d ((slot2 sl h s).emb y) = a2 X d sl.val h.val c (128 * s.val + (y 3).val) (y 4).val := by
  obtain ⟨h0, h1, h2⟩ := zero5 y
  unfold p2sF; simp only [emb_off, h0, h1, h2, Nat.add_zero]
  show a2 X d sl.val h.val c (128 * s.val + (0 + (y 3).val)) (0 + (y 4).val) = _
  rw [Nat.zero_add, Nat.zero_add]

theorem p3_at (h : Fin 3) (s : Fin 2) (y : S1x1x1x128x256.Idx) :
    p3F X c d ((slot2 sl h s).emb y) = a2 X d sl.val 3 ((srcC d)^[h.val + 1] c) (128 * s.val + (y 3).val) (y 4).val := by
  obtain ⟨h0, h1, h2⟩ := zero5 y
  unfold p3F; simp only [emb_off, h0, h1, h2, Nat.add_zero]
  show a2 X d sl.val 3 ((srcC d)^[h.val + 1] c) (128 * s.val + (0 + (y 3).val)) (0 + (y 4).val) = _
  rw [Nat.zero_add, Nat.zero_add]

theorem pair3_at (h : Fin 3) (y : S1x1x2x128x256.Idx) :
    p3F X c d ((pair3 sl h).emb y) = a2 X d sl.val 3 ((srcC d)^[h.val + 1] c) (128 * (y 2).val + (y 3).val) (y 4).val := by
  have h0 : (y 0).val = 0 := Nat.lt_one_iff.mp (y 0).isLt
  have h1 : (y 1).val = 0 := Nat.lt_one_iff.mp (y 1).isLt
  unfold p3F; simp only [emb_off, h0, h1, Nat.add_zero]
  show a2 X d sl.val 3 ((srcC d)^[h.val + 1] c) (128 * (0 + (y 2).val) + (0 + (y 3).val)) (0 + (y 4).val) = _
  simp only [Nat.zero_add]

theorem p4_at (h : Fin 3) (s : Fin 2) (y : S1x1x1x2x256x256.Idx) :
    p4F X c d ((slot4 sl h s).emb y) = a2 X d sl.val 3 (qdev d ((srcP d)^[h.val + 1] c) (2 * s.val + (y 3).val)) (y 4).val (y 5).val := by
  have h0 : (y 0).val = 0 := Nat.lt_one_iff.mp (y 0).isLt
  have h1 : (y 1).val = 0 := Nat.lt_one_iff.mp (y 1).isLt
  have h2 : (y 2).val = 0 := Nat.lt_one_iff.mp (y 2).isLt
  unfold p4F; simp only [emb_off, h0, h1, h2, Nat.add_zero]
  show a2 X d sl.val 3 (qdev d ((srcP d)^[h.val + 1] c) (2 * s.val + (0 + (y 3).val))) (0 + (y 4).val) (0 + (y 5).val) = _
  simp only [Nat.zero_add]

theorem pair4_at (h : Fin 3) (y : S1x1x2x2x256x256.Idx) :
    p4F X c d ((pair4 sl h).emb y) = a2 X d sl.val 3 (qdev d ((srcP d)^[h.val + 1] c) (2 * (y 2).val + (y 3).val)) (y 4).val (y 5).val := by
  have h0 : (y 0).val = 0 := Nat.lt_one_iff.mp (y 0).isLt
  have h1 : (y 1).val = 0 := Nat.lt_one_iff.mp (y 1).isLt
  unfold p4F; simp only [emb_off, h0, h1, Nat.add_zero]
  show a2 X d sl.val 3 (qdev d ((srcP d)^[h.val + 1] c) (2 * (0 + (y 2).val) + (0 + (y 3).val))) (0 + (y 4).val) (0 + (y 5).val) = _
  simp only [Nat.zero_add]

theorem q_at (k : Fin 4) (t : Fin 2) (y : S1x1x128x256.Idx) :
    resF X c d ((qR c d sl k t).emb y) = a1 X d sl.val 3 c (256 * rot d (c.val / 4) k.val + (128 * t.val + (y 2).val)) (y 3).val := by
  obtain ⟨h0, h1⟩ := zero4 y
  unfold resF; simp only [emb_off, qOff_eq, h0, h1, Nat.add_zero]
  show a1 X d sl.val 3 c (256 * rot d (c.val / 4) k.val + (128 * t.val + (y 2).val)) (0 + (y 3).val) = _
  simp only [Nat.zero_add]

theorem half_at (s : Fin 2) (y : S1x2x256x256.Idx) :
    resF X c d ((half sl s).emb y) = a1 X d sl.val 3 c (256 * (2 * s.val + (y 1).val) + (y 2).val) (y 3).val := by
  have h0 : (y 0).val = 0 := Nat.lt_one_iff.mp (y 0).isLt
  unfold resF; simp only [emb_off, h0, Nat.add_zero]
  show a1 X d sl.val 3 c (256 * (2 * s.val + (y 1).val) + (0 + (y 2).val)) (0 + (y 3).val) = _
  simp only [Nat.zero_add]

theorem redH_at (s : Fin 2) (y : S1x128x256.Idx) :
    redF X c d ((redH sl s).emb y) = a2 X d sl.val 3 c (128 * s.val + (y 1).val) (y 2).val := by
  have h0 : (y 0).val = 0 := Nat.lt_one_iff.mp (y 0).isLt
  unfold redF; simp only [emb_off, h0, Nat.add_zero]
  show a2 X d sl.val 3 c (128 * s.val + (y 1).val) (0 + (y 2).val) = _
  simp only [Nat.zero_add]

theorem redW_at (y : S1x256x256.Idx) : redF X c d ((redW sl).emb y) = a2 X d sl.val 3 c (y 1).val (y 2).val := by
  have h0 : (y 0).val = 0 := Nat.lt_one_iff.mp (y 0).isLt
  unfold redF; simp only [emb_off, h0, Nat.add_zero]
  show a2 X d sl.val 3 c (0 + (y 1).val) (0 + (y 2).val) = _
  simp only [Nat.zero_add]

theorem resp_at (n : Fin 4) (y : S1x1x256x256.Idx) :
    respF X c d ((respR c d sl n).emb y) = a2 X d sl.val 3 (qdev d c (rq d (c.val / 4) n.val)) (y 2).val (y 3).val := by
  obtain ⟨h0, h1⟩ := zero4 y
  unfold respF; simp only [emb_off, respOff_eq, h0, h1, Nat.add_zero]
  show a2 X d sl.val 3 (qdev d c (rq d (c.val / 4) n.val)) (0 + (y 2).val) (0 + (y 3).val) = _
  simp only [Nat.zero_add]

theorem respHalf_at (s : Fin 2) (y : S1x2x256x256.Idx) :
    respF X c d ((half sl s).emb y) = a2 X d sl.val 3 (qdev d c (2 * s.val + (y 1).val)) (y 2).val (y 3).val := by
  have h0 : (y 0).val = 0 := Nat.lt_one_iff.mp (y 0).isLt
  unfold respF; simp only [emb_off, h0, Nat.add_zero]
  show a2 X d sl.val 3 (qdev d c (2 * s.val + (y 1).val)) (0 + (y 2).val) (0 + (y 3).val) = _
  simp only [Nat.zero_add]

theorem col_parts (q : ℕ) (hq : q < 256) : decide (col d sl.val + q < 512) = d ∧ (col d sl.val + q) % 512 / 256 = sl.val ∧ (col d sl.val + q) % 256 = q := by
  have := sl.isLt
  unfold col
  refine ⟨?_, ?_, ?_⟩
  · cases d <;> simp <;> omega
  · cases d <;> simp <;> omega
  · cases d <;> simp <;> omega

/-- The result at a row and column given by their parts. -/
theorem out_parts (y : S4096x1024.Idx) (k qt r q : ℕ) (hqt : qt < 4) (hr : r < 256) (hq : q < 256)
    (h0 : (y 0).val = 1024 * k + (256 * qt + r)) (h1 : (y 1).val = col d sl.val + q) :
    outF X y = FloatOps.extf (φ := .bf16) .f32 bitsLt_bf16_f32 (a2 X d sl.val 3 (odev d k qt) r q : F .bf16) := by
  obtain ⟨e0, e1, e2⟩ := col_parts d sl q hq
  unfold outF
  rw [h0, h1, e0, e1, e2, show (1024 * k + (256 * qt + r)) / 1024 = k by omega, show (1024 * k + (256 * qt + r)) % 1024 / 256 = qt by omega,
    show (1024 * k + (256 * qt + r)) % 256 = r by omega]

theorem rq_lt (a n : ℕ) : rq d a n < 4 := by unfold rq; split <;> omega

theorem out_at (n : Fin 4) (y : S256x256.Idx) :
    outF X ((outR c d sl n).emb y) = FloatOps.extf (φ := .bf16) .f32 bitsLt_bf16_f32 (a2 X d sl.val 3 (qdev d c (rq d (c.val / 4) n.val)) (y 0).val (y 1).val : F .bf16) := by
  refine out_parts X d sl _ (own d (c.val % 4)) (rq d (c.val / 4) n.val) (y 0).val (y 1).val (rq_lt ..) (y 0).isLt (y 1).isLt ?_ ?_
  · rw [emb_off, congrFun (outOff_eq c d sl n) 0]; show (_ + _) + (y 0).val = _; omega
  · rw [emb_off, congrFun (outOff_eq c d sl n) 1]; rfl

theorem out4_at (h : Fin 3) (y : S1024x256.Idx) :
    outF X ((out4R c d sl h).emb y) = FloatOps.extf (φ := .bf16) .f32 bitsLt_bf16_f32 (a2 X d sl.val 3 (odev d (rot d (c.val % 4) h.val) ((y 0).val / 256)) ((y 0).val % 256) (y 1).val : F .bf16) := by
  have hy : (y 0).val < 1024 := (y 0).isLt
  refine out_parts X d sl _ (rot d (c.val % 4) h.val) ((y 0).val / 256) ((y 0).val % 256) (y 1).val (by omega) (by omega) (y 1).isLt ?_ ?_
  · rw [emb_off, congrFun (out4Off_eq c d sl h) 0]; show 1024 * rot d (c.val % 4) h.val + (y 0).val = _; omega
  · rw [emb_off, congrFun (out4Off_eq c d sl h) 1]; rfl

end At

/-! ## Which device a piece comes from -/

theorem dev_own : ∀ (c : Dev nD) (d : Bool), qdev d c (rq d (c.val / 4) 0) = c := by decide +kernel
theorem dev_fin3 : ∀ (c : Dev nD) (d : Bool) (h : Fin 3), qdev d c (rq d (c.val / 4) (h.val + 1)) = (srcC d)^[h.val + 1] c := by decide +kernel
theorem dev_fin4 : ∀ (c : Dev nD) (d : Bool) (h : Fin 3), own d (((srcP d)^[h.val + 1] c).val % 4) = rot d (c.val % 4) h.val := by decide +kernel

/-! ## The units' stored values -/

section Units
variable (X : Dev nD → S4096x1024.Idx → Elt F .bf16) (c : Dev nD) (d : Bool) (sl : Fin 2)

theorem seed1_val (s : Fin 2) (y) : k0_pay1 (fun x => X c ((xR c d sl 0 s).emb x)) y = p1sF X c d ((slot1 sl 0 s).emb y) := by
  rw [pay1_at, p1s_at]; exact x_at X c d sl 0 s _
theorem hop1_val (h : Fin 2) (s : Fin 2) (y) :
    k0_pay5 (fun x => p1rF X c d ((slot1 sl h.castSucc s).emb x)) (fun x => X c ((xR c d sl h.castSucc.succ s).emb x)) y = p1sF X c d ((slot1 sl h.succ s).emb y) := by
  rw [pay5_at, p1s_at]; unfold p1rF
  rw [p1s_at, x_at X c]; rfl
theorem fin1_val (s : Fin 2) (y) :
    k0_pay15 (fun x => p1rF X c d ((slot1 sl 2 s).emb x)) (fun x => X c ((xR c d sl 3 s).emb x)) y = resF X c d ((half sl s).emb y) := by
  have hy1 : (y 1).val < 2 := (y 1).isLt
  have hy2 : (y 2).val < 256 := (y 2).isLt
  rw [pay15_at _ _ y (ix2 ⟨256 * (y 1).val + (y 2).val, by omega⟩ (y 3)) rfl rfl, half_at]; unfold p1rF
  rw [p1s_at, x_at X c]
  show FloatOps.addf (φ := .bf16) (a1 X d sl.val 2 (srcP d c) (512 * s.val + (256 * (y 1).val + (y 2).val)) (y 3).val : F .bf16)
    (atN x_pos (X c) ![1024 * rot d (c.val % 4) 3 + (512 * s.val + (256 * (y 1).val + (y 2).val)), col d sl.val + (y 3).val]) = _
  rw [show 512 * s.val + (256 * (y 1).val + (y 2).val) = 256 * (2 * s.val + (y 1).val) + (y 2).val by omega]; rfl
theorem seed2_val (s : Fin 2) (y) : k0_pay23 (fun x => resF X c d ((qR c d sl 0 s).emb x)) y = p2sF X c d ((slot2 sl 0 s).emb y) := by
  rw [pay23_at, p2s_at]; exact q_at X c d sl 0 s _
theorem hop2_val (h : Fin 2) (s : Fin 2) (y) :
    k0_pay31 (fun x => p2rF X c d ((slot2 sl h.castSucc s).emb x)) (fun x => resF X c d ((qR c d sl h.castSucc.succ s).emb x)) y = p2sF X c d ((slot2 sl h.succ s).emb y) := by
  rw [pay31_at, p2s_at]; unfold p2rF
  rw [p2s_at, q_at]; rfl
theorem fin2_val (s : Fin 2) (y) :
    k0_pay51 (fun x => p2rF X c d ((slot2 sl 2 s).emb x)) (fun x => resF X c d ((qR c d sl 3 s).emb x)) y = redF X c d ((redH sl s).emb y) := by
  rw [pay51_at, redH_at]; unfold p2rF
  rw [p2s_at, q_at]; rfl
theorem own3_val (y) : k0_pay56 (fun x => redF X c d ((redW sl).emb x)) y = respF X c d ((respR c d sl 0).emb y) := by
  rw [pay56_at, resp_at, redW_at]
  show a2 X d sl.val 3 c _ _ = a2 X d sl.val 3 (qdev d c (rq d (c.val / 4) 0)) _ _
  rw [dev_own]
theorem own3_out (y) : k0_pay57 (fun x => redF X c d ((redW sl).emb x)) y = outF X ((outR c d sl 0).emb y) := by
  rw [pay57_at, out_at, redW_at]
  show _ = FloatOps.extf (φ := .bf16) .f32 bitsLt_bf16_f32 (a2 X d sl.val 3 (qdev d c (rq d (c.val / 4) 0)) _ _ : F .bf16)
  rw [dev_own]
theorem fin3_val (h : Fin 3) (y) : k0_pay70 (fun x => p3F X c d ((pair3 sl h).emb x)) y = respF X c d ((respR c d sl h.succ).emb y) := by
  have hy : (y 2).val < 256 := (y 2).isLt
  rw [pay70_at _ y (ix3 ⟨(y 2).val / 128, by omega⟩ ⟨(y 2).val % 128, by omega⟩ (y 3)) (by show 128 * ((y 2).val / 128) + (y 2).val % 128 = _; omega) rfl, resp_at, pair3_at]
  show a2 X d sl.val 3 _ (128 * ((y 2).val / 128) + (y 2).val % 128) _ = a2 X d sl.val 3 (qdev d c (rq d (c.val / 4) (h.val + 1))) _ _
  rw [dev_fin3, show 128 * ((y 2).val / 128) + (y 2).val % 128 = (y 2).val by omega]
theorem fin3_out (h : Fin 3) (y) : k0_pay71 (fun x => p3F X c d ((pair3 sl h).emb x)) y = outF X ((outR c d sl h.succ).emb y) := by
  have hy : (y 0).val < 256 := (y 0).isLt
  rw [pay71_at _ y (ix3 ⟨(y 0).val / 128, by omega⟩ ⟨(y 0).val % 128, by omega⟩ (y 1)) (by show 128 * ((y 0).val / 128) + (y 0).val % 128 = _; omega) rfl, out_at, pair3_at]
  show FloatOps.extf (φ := .bf16) .f32 bitsLt_bf16_f32 (a2 X d sl.val 3 _ (128 * ((y 0).val / 128) + (y 0).val % 128) _ : F .bf16)
    = FloatOps.extf (φ := .bf16) .f32 bitsLt_bf16_f32 (a2 X d sl.val 3 (qdev d c (rq d (c.val / 4) (h.val + 1))) _ _ : F .bf16)
  rw [dev_fin3, show 128 * ((y 0).val / 128) + (y 0).val % 128 = (y 0).val by omega]
theorem fin4_out (h : Fin 3) (y) : k0_pay101 (fun x => p4F X c d ((pair4 sl h).emb x)) y = outF X ((out4R c d sl h).emb y) := by
  have hy : (y 0).val < 1024 := (y 0).isLt
  rw [pay101_at _ y (ix4 ⟨(y 0).val / 512, by omega⟩ ⟨(y 0).val / 256 % 2, by omega⟩ ⟨(y 0).val % 256, by omega⟩ (y 1))
    (by show 512 * ((y 0).val / 512) + 256 * ((y 0).val / 256 % 2) + (y 0).val % 256 = _; omega) rfl, out4_at, pair4_at]
  show FloatOps.extf (φ := .bf16) .f32 bitsLt_bf16_f32 (a2 X d sl.val 3 (odev d (own d (((srcP d)^[h.val + 1] c).val % 4)) (2 * ((y 0).val / 512) + (y 0).val / 256 % 2)) _ _ : F .bf16) = _
  rw [dev_fin4, show 2 * ((y 0).val / 512) + (y 0).val / 256 % 2 = (y 0).val / 256 by omega]

end Units

/-! ## The slots as memrefs of their own -/

section Fit
variable (X : Dev nD → S4096x1024.Idx → Elt F .bf16) (c : Dev nD) (d : Bool) (sl : Fin 2) (h : Fin 3) (s : Fin 2)

theorem into1 (x : S512x256.Idx) : Shape.reshapeEquiv squeezes_S1x1x1x512x256_S512x256.numel_eq x = (ix5 (n0 := 1) (n1 := 1) (n2 := 1) 0 0 0 (x 0) (x 1) : S1x1x1x512x256.Idx) :=
  Shape.reshapeEquiv_eq_of_rowMajor _ (by rw [pos2, pos5]; show (((0 * 1 + 0) * 1 + 0) * 512 + (x 0).val) * 256 + (x 1).val = (x 0).val * 256 + (x 1).val; simp)
theorem into2 (x : S128x256.Idx) : Shape.reshapeEquiv squeezes_S1x1x1x128x256_S128x256.numel_eq x = (ix5 (n0 := 1) (n1 := 1) (n2 := 1) 0 0 0 (x 0) (x 1) : S1x1x1x128x256.Idx) :=
  Shape.reshapeEquiv_eq_of_rowMajor _ (by rw [pos2, pos5]; show (((0 * 1 + 0) * 1 + 0) * 128 + (x 0).val) * 256 + (x 1).val = (x 0).val * 256 + (x 1).val; simp)
theorem into3 (x : S128x256.Idx) : Shape.reshapeEquiv squeezes_S1x128x256_S128x256.numel_eq x = (ix3 (n0 := 1) 0 (x 0) (x 1) : S1x128x256.Idx) :=
  Shape.reshapeEquiv_eq_of_rowMajor _ (by rw [pos2, pos3]; show (0 * 128 + (x 0).val) * 256 + (x 1).val = (x 0).val * 256 + (x 1).val; simp)
theorem into4 (x : S2x256x256.Idx) : Shape.reshapeEquiv squeezes_S1x1x1x2x256x256_S2x256x256.numel_eq x = (ix6 (n0 := 1) (n1 := 1) (n2 := 1) 0 0 0 (x 0) (x 1) (x 2) : S1x1x1x2x256x256.Idx) :=
  Shape.reshapeEquiv_eq_of_rowMajor _ (by
    rw [pos3, pos6]; show ((((0 * 1 + 0) * 1 + 0) * 2 + (x 0).val) * 256 + (x 1).val) * 256 + (x 2).val = ((x 0).val * 256 + (x 1).val) * 256 + (x 2).val; simp)
theorem into5 (x : S2x256x256.Idx) : Shape.reshapeEquiv squeezes_S1x2x256x256_S2x256x256.numel_eq x = (ix4 (n0 := 1) 0 (x 0) (x 1) (x 2) : S1x2x256x256.Idx) :=
  Shape.reshapeEquiv_eq_of_rowMajor _ (by
    rw [pos3, pos4]; show ((0 * 2 + (x 0).val) * 256 + (x 1).val) * 256 + (x 2).val = ((x 0).val * 256 + (x 1).val) * 256 + (x 2).val; simp)

theorem fit_p1s (x : S512x256.Idx) : p1sF X c d ((slot1 sl h s).emb (Shape.reshapeEquiv squeezes_S1x1x1x512x256_S512x256.numel_eq x)) = tvOf X c .p1 d sl.val h.val s.val x := by
  rw [into1, p1s_at]; rfl
theorem fit_p1r (x : S512x256.Idx) : p1rF X c d ((slot1 sl h s).emb (Shape.reshapeEquiv squeezes_S1x1x1x512x256_S512x256.numel_eq x)) = tv X (sdev c ⟨.p1, d, sl, h, s⟩) ⟨.p1, d, sl, h, s⟩ x :=
  fit_p1s X (srcP d c) d sl h s x
theorem fit_p2s (x : S128x256.Idx) : p2sF X c d ((slot2 sl h s).emb (Shape.reshapeEquiv squeezes_S1x1x1x128x256_S128x256.numel_eq x)) = tvOf X c .p2 d sl.val h.val s.val x := by
  rw [into2, p2s_at]; rfl
theorem fit_p2r (x : S128x256.Idx) : p2rF X c d ((slot2 sl h s).emb (Shape.reshapeEquiv squeezes_S1x1x1x128x256_S128x256.numel_eq x)) = tv X (sdev c ⟨.p2, d, sl, h, s⟩) ⟨.p2, d, sl, h, s⟩ x :=
  fit_p2s X (srcC d c) d sl h s x
theorem fit_red (x : S128x256.Idx) : redF X c d ((redH sl s).emb (Shape.reshapeEquiv squeezes_S1x128x256_S128x256.numel_eq x)) = tvOf X c .p3 d sl.val 0 s.val x := by
  rw [into3, redH_at]; rfl
theorem fit_p3 (x : S128x256.Idx) : p3F X c d ((slot2 sl h s).emb (Shape.reshapeEquiv squeezes_S1x1x1x128x256_S128x256.numel_eq x)) = tvOf X c .p3 d sl.val (h.val + 1) s.val x := by
  rw [into2, p3_at]; rfl
theorem fit_p3r (x : S128x256.Idx) : p3F X c d ((slot2 sl h s).emb (Shape.reshapeEquiv squeezes_S1x1x1x128x256_S128x256.numel_eq x)) = tv X (sdev c ⟨.p3, d, sl, h, s⟩) ⟨.p3, d, sl, h, s⟩ x := by
  rw [fit_p3, show sdev c ⟨.p3, d, sl, h, s⟩ = srcC d c by cases d <;> rfl]; rfl
theorem fit_resp (x : S2x256x256.Idx) : respF X c d ((half sl s).emb (Shape.reshapeEquiv squeezes_S1x2x256x256_S2x256x256.numel_eq x)) = tvOf X c .p4 d sl.val 0 s.val x := by
  rw [into5, respHalf_at]; rfl
theorem fit_p4 (x : S2x256x256.Idx) : p4F X c d ((slot4 sl h s).emb (Shape.reshapeEquiv squeezes_S1x1x1x2x256x256_S2x256x256.numel_eq x)) = tvOf X c .p4 d sl.val (h.val + 1) s.val x := by
  rw [into4, p4_at]; rfl
theorem fit_p4r (x : S2x256x256.Idx) : p4F X c d ((slot4 sl h s).emb (Shape.reshapeEquiv squeezes_S1x1x1x2x256x256_S2x256x256.numel_eq x)) = tv X (sdev c ⟨.p4, d, sl, h, s⟩) ⟨.p4, d, sl, h, s⟩ x := by
  rw [fit_p4, show sdev c ⟨.p4, d, sl, h, s⟩ = srcP d c by cases d <;> rfl]; rfl

end Fit

end Cert.KernelIdealProof
end
-- ==== Proof.KernelIdeal.Parts.lean ====
/-
# Copying between held memrefs, and the parts of the buffers

The sequences of loads and stores the units are made of, over held memrefs; slots seen in their buffer and back; and
which elements each rectangle of the body holds.
-/
module

public import proofs.«01_k».proof.Proof.KernelIdeal.Held
public import proofs.«01_k».proof.Proof.KernelIdeal.Common
public import proofs.«01_k».proof.Proof.KernelIdeal.Vals

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Copying and adding between held memrefs -/

section Ops
variable {c : Dev nD} {sa sb sc : Shape} {ea eb ec : EltTy}

theorem wp_copy {A : Memref sig .tc .vmem sa ea} {ra : Rect sa} {ha : A.view.LoadsAt ra.toLoadRect}
    {B : Memref sig .tc .vmem sb eb} {rb : Rect sb} {hb : B.view.LoadsAt rb.toLoadRect}
    {pay : (ra.shape.Idx → Elt F ea) → rb.shape.Idx → Elt F eb} {hx : (B.access rb).Stores Finset.univ} {P : TProg F} {Q : PUnit → sProp 𝕄}
    {RA WA : Finset sa.Idx} {RB WB : Finset sb.Idx} {q : PosShare TreeShare} {fa : sa.Idx → Elt F ea} {fb : sb.Idx → Elt F eb}
    (h1 : ra.set ⊆ RA) (h2 : ra.set ⊆ WA) (h3 : rb.set ⊆ RB) (hv : ∀ y, pay (fun x => fa (ra.emb x)) y = fb (rb.emb y)) :
    iprop(held A c RA WA q fa ∗ held B c RB WB fullShare fb)
      ⊢ iprop((held A c RA WA q fa ∗ held B c RB (WB ∪ rb.set) fullShare fb -∗ WP c P Q) -∗ WP c (copyOps A ra ha B rb hb pay hx P) Q) := by
  iintro ⟨HA, HB⟩ Hk
  iapply (held_load ra h1 h2) $$ HA
  iintro HA
  iapply (held_look rb h3) $$ HB
  iintro HB
  iapply (held_store rb h3 hv) $$ HB
  iintro HB
  iapply Hk
  isplitl [HA]
  · iexact HA
  · iexact HB

theorem wp_add {A : Memref sig .tc .vmem sa ea} {ra : Rect sa} {ha : A.view.LoadsAt ra.toLoadRect}
    {C : Memref sig .tc .vmem sc ec} {rc : Rect sc} {hc : C.view.LoadsAt rc.toLoadRect}
    {B : Memref sig .tc .vmem sb eb} {rb : Rect sb} {hb : B.view.LoadsAt rb.toLoadRect}
    {pay : (ra.shape.Idx → Elt F ea) → (rc.shape.Idx → Elt F ec) → rb.shape.Idx → Elt F eb} {hx : (B.access rb).Stores Finset.univ} {P : TProg F} {Q : PUnit → sProp 𝕄}
    {RA WA : Finset sa.Idx} {RC WC : Finset sc.Idx} {RB WB : Finset sb.Idx} {q q' : PosShare TreeShare}
    {fa : sa.Idx → Elt F ea} {fc : sc.Idx → Elt F ec} {fb : sb.Idx → Elt F eb}
    (h1 : ra.set ⊆ RA) (h2 : ra.set ⊆ WA) (h4 : rc.set ⊆ RC) (h5 : rc.set ⊆ WC) (h3 : rb.set ⊆ RB)
    (hv : ∀ y, pay (fun x => fa (ra.emb x)) (fun x => fc (rc.emb x)) y = fb (rb.emb y)) :
    iprop(held A c RA WA q fa ∗ held C c RC WC q' fc ∗ held B c RB WB fullShare fb)
      ⊢ iprop((held A c RA WA q fa ∗ held C c RC WC q' fc ∗ held B c RB (WB ∪ rb.set) fullShare fb -∗ WP c P Q)
          -∗ WP c (addOps A ra ha C rc hc B rb hb pay hx P) Q) := by
  iintro ⟨HA, HC, HB⟩ Hk
  iapply (held_load ra h1 h2) $$ HA
  iintro HA
  iapply (held_load rc h4 h5) $$ HC
  iintro HC
  iapply (held_look rb h3) $$ HB
  iintro HB
  iapply (held_store rb h3 hv) $$ HB
  iintro HB
  iapply Hk
  isplitl [HA]
  · iexact HA
  isplitl [HC]
  · iexact HC
  · iexact HB

end Ops

/-! ## A slot seen in its buffer, and back -/

section Slot
variable {s s' : Shape} {e : EltTy} {M : Memref sig .tc .vmem s e} {c : Dev nD} {r : Rect s} {hu : ∀ a, r.stride a = 1} {hq : r.shape.Squeezes s'}
  {q : PosShare TreeShare} {f : s.Idx → Elt F e} {v : s'.Idx → Elt F e}

theorem mem_emb (r : Rect s) (x : r.shape.Idx) : r.emb x ∈ r.set := by
  rw [← Rect.map_emb_univ]; exact Finset.mem_map_of_mem _ (Finset.mem_univ x)

theorem slot_in (fit : ∀ x, f (r.emb (Shape.reshapeEquiv hq.numel_eq x)) = v x) :
    held M c r.set r.set q f ⊢ held ((M.slice r hu).squeeze s' hq) c Finset.univ Finset.univ q v :=
  held_in r hu hq fun x _ => ⟨mem_emb r _, fit x⟩

theorem slot_in_none : held M c r.set ∅ q f ⊢ held ((M.slice r hu).squeeze s' hq) c Finset.univ ∅ q v :=
  held_in r hu hq fun x h => absurd h (Finset.notMem_empty x)

theorem slot_out (fit : ∀ x, f (r.emb (Shape.reshapeEquiv hq.numel_eq x)) = v x) :
    held ((M.slice r hu).squeeze s' hq) c Finset.univ Finset.univ q v ⊢ held M c r.set r.set q f :=
  held_out r hu hq fun y hy => by
    rw [← Rect.map_emb_univ] at hy
    obtain ⟨z, -, rfl⟩ := Finset.mem_map.mp hy
    refine ⟨(Shape.reshapeEquiv hq.numel_eq).symm z, Finset.mem_univ _, by rw [Equiv.apply_symm_apply], ?_⟩
    rw [← fit, Equiv.apply_symm_apply]

theorem slot_out_none : held ((M.slice r hu).squeeze s' hq) c Finset.univ ∅ q v ⊢ held M c r.set ∅ q f :=
  held_out r hu hq fun y h => absurd h (Finset.notMem_empty y)

end Slot

/-! ## The parts of the buffers -/

/-- A slab of a buffer of four quarters, and of the result. -/
theorem slab4_inb : ∀ (sl : Fin 2) a, (![sl.val, 0, 0, 0] : Fin 4 → Nat) a + (![1, 4, 256, 256] : Fin 4 → Nat) a ≤ S2x4x256x256.size a := by decide
theorem slabO_inb : ∀ (d : Bool) (sl : Fin 2) a, (![0, col d sl.val] : Fin 2 → Nat) a + (![4096, 256] : Fin 2 → Nat) a ≤ S4096x1024.size a := by decide
abbrev slab4 (sl : Fin 2) : Rect S2x4x256x256 := Rect.unit (s := S2x4x256x256) ![sl.val, 0, 0, 0] (![1, 4, 256, 256] : Fin 4 → Nat) (slab4_inb sl)
abbrev slabO (d : Bool) (sl : Fin 2) : Rect S4096x1024 := Rect.unit (s := S4096x1024) ![0, col d sl.val] (![4096, 256] : Fin 2 → Nat) (slabO_inb d sl)

theorem unit_sub {s : Shape} {o z o' z' : Fin s.rank → ℕ} {i : ∀ a, o a + z a ≤ s.size a} {i' : ∀ a, o' a + z' a ≤ s.size a}
    (h : ∀ a, o' a ≤ o a ∧ o a + z a ≤ o' a + z' a) : (Rect.unit (s := s) o z i).set ⊆ (Rect.unit (s := s) o' z' i').set := fun x hx => by
  rw [Rect.mem_set_unit] at hx ⊢
  exact fun a => ⟨(h a).1.trans (hx a).1, (hx a).2.trans_le (h a).2⟩

/-- What of the plane's partial result, of the gathered chunk and of the result is filled after `n` steps. -/
def resW (sl : Fin 2) : ℕ → Finset S2x4x256x256.Idx
  | 0 => ∅
  | n + 1 => resW sl n ∪ (half sl (Fin.ofNat 2 n)).set
def respW (c : Dev nD) (d : Bool) (sl : Fin 2) : ℕ → Finset S2x4x256x256.Idx
  | 0 => ∅
  | n + 1 => respW c d sl n ∪ (respR c d sl (Fin.ofNat 4 n)).set
def outW (c : Dev nD) (d : Bool) (sl : Fin 2) : ℕ → Finset S4096x1024.Idx
  | 0 => ∅
  | n + 1 => outW c d sl n ∪ (if n < 4 then (outR c d sl (Fin.ofNat 4 n)).set else (out4R c d sl (Fin.ofNat 3 (n - 4))).set)

theorem half_sub (sl s : Fin 2) : (half sl s).set ⊆ (slab4 sl).set := unit_sub (by revert sl s; decide)
theorem q_sub (c : Dev nD) (d : Bool) (sl : Fin 2) (k : Fin 4) (t : Fin 2) : (qR c d sl k t).set ⊆ (slab4 sl).set :=
  unit_sub fun a => by rw [congrFun (qOff_eq c d sl k t) a]; revert c d sl k t a; decide +kernel
theorem resp_sub (c : Dev nD) (d : Bool) (sl : Fin 2) (n : Fin 4) : (respR c d sl n).set ⊆ (slab4 sl).set :=
  unit_sub fun a => by rw [congrFun (respOff_eq c d sl n) a]; revert c d sl n a; decide +kernel
theorem out_sub (c : Dev nD) (d : Bool) (sl : Fin 2) (n : Fin 4) : (outR c d sl n).set ⊆ (slabO d sl).set :=
  unit_sub fun a => by rw [congrFun (outOff_eq c d sl n) a]; revert c d sl n a; decide +kernel
theorem out4_sub (c : Dev nD) (d : Bool) (sl : Fin 2) (h : Fin 3) : (out4R c d sl h).set ⊆ (slabO d sl).set :=
  unit_sub fun a => by rw [congrFun (out4Off_eq c d sl h) a]; revert c d sl h a; decide +kernel

theorem mem_half (sl s : Fin 2) (y : S2x4x256x256.Idx) : y ∈ (half sl s).set ↔ (y 0).val = sl.val ∧ (y 1).val / 2 = s.val := by
  rw [Rect.mem_set_unit]
  constructor
  · intro h
    have h0 : sl.val ≤ (y 0).val ∧ (y 0).val < sl.val + 1 := h 0
    have h1 : 2 * s.val ≤ (y 1).val ∧ (y 1).val < 2 * s.val + 2 := h 1
    omega
  · rintro ⟨h0, h1⟩ a
    have e2 : (y 2).val < 256 := (y 2).isLt
    have e3 : (y 3).val < 256 := (y 3).isLt
    fin_cases a
    · show sl.val ≤ (y 0).val ∧ (y 0).val < sl.val + 1; omega
    · show 2 * s.val ≤ (y 1).val ∧ (y 1).val < 2 * s.val + 2; omega
    · show 0 ≤ (y 2).val ∧ (y 2).val < 0 + 256; omega
    · show 0 ≤ (y 3).val ∧ (y 3).val < 0 + 256; omega

theorem mem_slab4 (sl : Fin 2) (y : S2x4x256x256.Idx) : y ∈ (slab4 sl).set ↔ (y 0).val = sl.val := by
  rw [Rect.mem_set_unit]
  constructor
  · intro h
    have h0 : sl.val ≤ (y 0).val ∧ (y 0).val < sl.val + 1 := h 0
    omega
  · intro h0 a
    have e1 : (y 1).val < 4 := (y 1).isLt
    have e2 : (y 2).val < 256 := (y 2).isLt
    have e3 : (y 3).val < 256 := (y 3).isLt
    fin_cases a
    · show sl.val ≤ (y 0).val ∧ (y 0).val < sl.val + 1; omega
    · show 0 ≤ (y 1).val ∧ (y 1).val < 0 + 4; omega
    · show 0 ≤ (y 2).val ∧ (y 2).val < 0 + 256; omega
    · show 0 ≤ (y 3).val ∧ (y 3).val < 0 + 256; omega

theorem slab4_halves (sl : Fin 2) : (half sl 0).set ∪ (half sl 1).set = (slab4 sl).set := by
  ext y
  rw [Finset.mem_union, mem_half, mem_half, mem_slab4]
  have e1 : (y 1).val < 4 := (y 1).isLt
  show _ ∧ _ = 0 ∨ _ ∧ _ = 1 ↔ _
  omega

theorem resW_full (sl : Fin 2) : resW sl 2 = (slab4 sl).set := by
  rw [← slab4_halves]; unfold resW; unfold resW; unfold resW; rw [Finset.empty_union]; rfl

theorem mem_resp (c : Dev nD) (d : Bool) (sl : Fin 2) (n : Fin 4) (y : S2x4x256x256.Idx) (h0 : (y 0).val = sl.val) (h1 : (y 1).val = rq d (c.val / 4) n.val) :
    y ∈ (respR c d sl n).set := by
  rw [Rect.mem_set_unit]
  intro a
  rw [congrFun (respOff_eq c d sl n) a]
  have e2 : (y 2).val < 256 := (y 2).isLt
  have e3 : (y 3).val < 256 := (y 3).isLt
  fin_cases a
  · show sl.val ≤ (y 0).val ∧ (y 0).val < sl.val + 1; omega
  · show rq d (c.val / 4) n.val ≤ (y 1).val ∧ (y 1).val < rq d (c.val / 4) n.val + 1; omega
  · show 0 ≤ (y 2).val ∧ (y 2).val < 0 + 256; omega
  · show 0 ≤ (y 3).val ∧ (y 3).val < 0 + 256; omega

theorem mem_out (c : Dev nD) (d : Bool) (sl : Fin 2) (n : Fin 4) (y : S4096x1024.Idx) (h0 : (y 0).val / 256 = 4 * own d (c.val % 4) + rq d (c.val / 4) n.val)
    (h1 : col d sl.val ≤ (y 1).val ∧ (y 1).val < col d sl.val + 256) : y ∈ (outR c d sl n).set := by
  rw [Rect.mem_set_unit]
  intro a
  rw [congrFun (outOff_eq c d sl n) a]
  fin_cases a
  · show 1024 * own d (c.val % 4) + 256 * rq d (c.val / 4) n.val ≤ (y 0).val ∧ (y 0).val < 1024 * own d (c.val % 4) + 256 * rq d (c.val / 4) n.val + 256; omega
  · exact h1

theorem mem_out4 (c : Dev nD) (d : Bool) (sl : Fin 2) (h : Fin 3) (y : S4096x1024.Idx) (h0 : (y 0).val / 1024 = rot d (c.val % 4) h.val)
    (h1 : col d sl.val ≤ (y 1).val ∧ (y 1).val < col d sl.val + 256) : y ∈ (out4R c d sl h).set := by
  rw [Rect.mem_set_unit]
  intro a
  rw [congrFun (out4Off_eq c d sl h) a]
  fin_cases a
  · show 1024 * rot d (c.val % 4) h.val ≤ (y 0).val ∧ (y 0).val < 1024 * rot d (c.val % 4) h.val + 1024; omega
  · exact h1

theorem rq_onto : ∀ (c : Dev nD) (d : Bool) (q : Fin 4), ∃ n : Fin 4, q.val = rq d (c.val / 4) n.val := by decide +kernel
theorem rot_onto : ∀ (c : Dev nD) (d : Bool) (k : Fin 4), k.val = own d (c.val % 4) ∨ ∃ h : Fin 3, k.val = rot d (c.val % 4) h.val := by decide +kernel

theorem respW_sub (c : Dev nD) (d : Bool) (sl : Fin 2) : ∀ n, respW c d sl n ⊆ (slab4 sl).set
  | 0 => Finset.empty_subset _
  | n + 1 => Finset.union_subset (respW_sub c d sl n) (resp_sub ..)
theorem outW_sub (c : Dev nD) (d : Bool) (sl : Fin 2) : ∀ n, outW c d sl n ⊆ (slabO d sl).set
  | 0 => Finset.empty_subset _
  | n + 1 => Finset.union_subset (outW_sub c d sl n) (by split; exact out_sub ..; exact out4_sub ..)

theorem respW_mono (c : Dev nD) (d : Bool) (sl : Fin 2) {n m : ℕ} (h : n ≤ m) : respW c d sl n ⊆ respW c d sl m := by
  induction h with
  | refl => exact Finset.Subset.refl _
  | step _ ih => exact ih.trans Finset.subset_union_left
theorem outW_mono (c : Dev nD) (d : Bool) (sl : Fin 2) {n m : ℕ} (h : n ≤ m) : outW c d sl n ⊆ outW c d sl m := by
  induction h with
  | refl => exact Finset.Subset.refl _
  | step _ ih => exact ih.trans Finset.subset_union_left

theorem respW_full (c : Dev nD) (d : Bool) (sl : Fin 2) : respW c d sl 4 = (slab4 sl).set := by
  refine (respW_sub c d sl 4).antisymm fun y hy => ?_
  obtain ⟨n, hn⟩ := rq_onto c d (y 1)
  refine respW_mono c d sl (show n.val + 1 ≤ 4 from n.isLt) ?_
  unfold respW
  rw [show Fin.ofNat 4 n.val = n from Fin.ext (Nat.mod_eq_of_lt n.isLt)]
  exact Finset.mem_union_right _ (mem_resp c d sl n y ((mem_slab4 sl y).mp hy) hn)

theorem outW_full (c : Dev nD) (d : Bool) (sl : Fin 2) : outW c d sl 7 = (slabO d sl).set := by
  refine (outW_sub c d sl 7).antisymm fun y hy => ?_
  have h1 : col d sl.val ≤ (y 1).val ∧ (y 1).val < col d sl.val + 256 := (Rect.mem_set_unit ..).mp hy 1
  have h0 : (y 0).val < 4096 := (y 0).isLt
  rcases rot_onto c d ⟨(y 0).val / 1024, by omega⟩ with hk | ⟨h, hk⟩
  · obtain ⟨n, hn⟩ := rq_onto c d ⟨(y 0).val / 256 % 4, by omega⟩
    have hn' : (y 0).val / 256 % 4 = rq d (c.val / 4) n.val := hn
    have hk' : (y 0).val / 1024 = own d (c.val % 4) := hk
    refine outW_mono c d sl (show n.val + 1 ≤ 7 by omega) ?_
    unfold outW
    rw [show Fin.ofNat 4 n.val = n from Fin.ext (Nat.mod_eq_of_lt n.isLt), if_pos n.isLt]
    exact Finset.mem_union_right _ (mem_out c d sl n y (by omega) h1)
  · refine outW_mono c d sl (show (h.val + 4) + 1 ≤ 7 by omega) ?_
    unfold outW
    rw [if_neg (by omega), show Fin.ofNat 3 (h.val + 4 - 4) = h from Fin.ext (by show (h.val + 4 - 4) % 3 = h.val; omega)]
    exact Finset.mem_union_right _ (mem_out4 c d sl h y hk h1)

theorem mem_slot2 (sl : Fin 2) (h : Fin 3) (s : Fin 2) (y : S2x3x2x128x256.Idx) :
    y ∈ (slot2 sl h s).set ↔ (y 0).val = sl.val ∧ (y 1).val = h.val ∧ (y 2).val = s.val := by
  rw [Rect.mem_set_unit]
  constructor
  · intro e
    have h0 : sl.val ≤ (y 0).val ∧ (y 0).val < sl.val + 1 := e 0
    have h1 : h.val ≤ (y 1).val ∧ (y 1).val < h.val + 1 := e 1
    have h2 : s.val ≤ (y 2).val ∧ (y 2).val < s.val + 1 := e 2
    omega
  · rintro ⟨h0, h1, h2⟩ a
    have e3 : (y 3).val < 128 := (y 3).isLt
    have e4 : (y 4).val < 256 := (y 4).isLt
    fin_cases a
    · show sl.val ≤ (y 0).val ∧ (y 0).val < sl.val + 1; omega
    · show h.val ≤ (y 1).val ∧ (y 1).val < h.val + 1; omega
    · show s.val ≤ (y 2).val ∧ (y 2).val < s.val + 1; omega
    · show 0 ≤ (y 3).val ∧ (y 3).val < 0 + 128; omega
    · show 0 ≤ (y 4).val ∧ (y 4).val < 0 + 256; omega

theorem mem_slot1 (sl : Fin 2) (h : Fin 3) (s : Fin 2) (y : S2x3x2x512x256.Idx) :
    y ∈ (slot1 sl h s).set ↔ (y 0).val = sl.val ∧ (y 1).val = h.val ∧ (y 2).val = s.val := by
  rw [Rect.mem_set_unit]
  constructor
  · intro e
    have h0 : sl.val ≤ (y 0).val ∧ (y 0).val < sl.val + 1 := e 0
    have h1 : h.val ≤ (y 1).val ∧ (y 1).val < h.val + 1 := e 1
    have h2 : s.val ≤ (y 2).val ∧ (y 2).val < s.val + 1 := e 2
    omega
  · rintro ⟨h0, h1, h2⟩ a
    have e3 : (y 3).val < 512 := (y 3).isLt
    have e4 : (y 4).val < 256 := (y 4).isLt
    fin_cases a
    · show sl.val ≤ (y 0).val ∧ (y 0).val < sl.val + 1; omega
    · show h.val ≤ (y 1).val ∧ (y 1).val < h.val + 1; omega
    · show s.val ≤ (y 2).val ∧ (y 2).val < s.val + 1; omega
    · show 0 ≤ (y 3).val ∧ (y 3).val < 0 + 512; omega
    · show 0 ≤ (y 4).val ∧ (y 4).val < 0 + 256; omega

theorem mem_slot4 (sl : Fin 2) (h : Fin 3) (s : Fin 2) (y : S2x3x2x2x256x256.Idx) :
    y ∈ (slot4 sl h s).set ↔ (y 0).val = sl.val ∧ (y 1).val = h.val ∧ (y 2).val = s.val := by
  rw [Rect.mem_set_unit]
  constructor
  · intro e
    have h0 : sl.val ≤ (y 0).val ∧ (y 0).val < sl.val + 1 := e 0
    have h1 : h.val ≤ (y 1).val ∧ (y 1).val < h.val + 1 := e 1
    have h2 : s.val ≤ (y 2).val ∧ (y 2).val < s.val + 1 := e 2
    omega
  · rintro ⟨h0, h1, h2⟩ a
    have e3 : (y 3).val < 2 := (y 3).isLt
    have e4 : (y 4).val < 256 := (y 4).isLt
    have e5 : (y 5).val < 256 := (y 5).isLt
    fin_cases a
    · show sl.val ≤ (y 0).val ∧ (y 0).val < sl.val + 1; omega
    · show h.val ≤ (y 1).val ∧ (y 1).val < h.val + 1; omega
    · show s.val ≤ (y 2).val ∧ (y 2).val < s.val + 1; omega
    · show 0 ≤ (y 3).val ∧ (y 3).val < 0 + 2; omega
    · show 0 ≤ (y 4).val ∧ (y 4).val < 0 + 256; omega
    · show 0 ≤ (y 5).val ∧ (y 5).val < 0 + 256; omega

theorem mem_redH (sl s : Fin 2) (y : S2x256x256.Idx) : y ∈ (redH sl s).set ↔ (y 0).val = sl.val ∧ (y 1).val / 128 = s.val := by
  rw [Rect.mem_set_unit]
  constructor
  · intro h
    have h0 : sl.val ≤ (y 0).val ∧ (y 0).val < sl.val + 1 := h 0
    have h1 : 128 * s.val ≤ (y 1).val ∧ (y 1).val < 128 * s.val + 128 := h 1
    omega
  · rintro ⟨h0, h1⟩ a
    have e2 : (y 2).val < 256 := (y 2).isLt
    fin_cases a
    · show sl.val ≤ (y 0).val ∧ (y 0).val < sl.val + 1; omega
    · show 128 * s.val ≤ (y 1).val ∧ (y 1).val < 128 * s.val + 128; omega
    · show 0 ≤ (y 2).val ∧ (y 2).val < 0 + 256; omega

theorem pair3_sub (sl : Fin 2) (h : Fin 3) : (pair3 sl h).set ⊆ (slot2 sl h 0).set ∪ (slot2 sl h 1).set := fun y hy => by
  rw [Rect.mem_set_unit] at hy
  rw [Finset.mem_union, mem_slot2, mem_slot2]
  have h0 : sl.val ≤ (y 0).val ∧ (y 0).val < sl.val + 1 := hy 0
  have h1 : h.val ≤ (y 1).val ∧ (y 1).val < h.val + 1 := hy 1
  have h2 : (y 2).val < 2 := (y 2).isLt
  show _ ∧ _ ∧ _ = 0 ∨ _ ∧ _ ∧ _ = 1
  omega
theorem pair4_sub (sl : Fin 2) (h : Fin 3) : (pair4 sl h).set ⊆ (slot4 sl h 0).set ∪ (slot4 sl h 1).set := fun y hy => by
  rw [Rect.mem_set_unit] at hy
  rw [Finset.mem_union, mem_slot4, mem_slot4]
  have h0 : sl.val ≤ (y 0).val ∧ (y 0).val < sl.val + 1 := hy 0
  have h1 : h.val ≤ (y 1).val ∧ (y 1).val < h.val + 1 := hy 1
  have h2 : (y 2).val < 2 := (y 2).isLt
  show _ ∧ _ ∧ _ = 0 ∨ _ ∧ _ ∧ _ = 1
  omega
theorem redW_sub (sl : Fin 2) : (redW sl).set ⊆ (redH sl 0).set ∪ (redH sl 1).set := fun y hy => by
  rw [Rect.mem_set_unit] at hy
  rw [Finset.mem_union, mem_redH, mem_redH]
  have h0 : sl.val ≤ (y 0).val ∧ (y 0).val < sl.val + 1 := hy 0
  have h1 : (y 1).val < 256 := (y 1).isLt
  show _ ∧ _ = 0 ∨ _ ∧ _ = 1
  omega

theorem slot2_disj (sl : Fin 2) (h : Fin 3) : Disjoint (slot2 sl h 0).set (slot2 sl h 1).set := Finset.disjoint_left.mpr fun y a b => by
  have := ((mem_slot2 ..).mp a).2.2.symm.trans ((mem_slot2 ..).mp b).2.2; exact absurd this (by decide)
theorem slot4_disj (sl : Fin 2) (h : Fin 3) : Disjoint (slot4 sl h 0).set (slot4 sl h 1).set := Finset.disjoint_left.mpr fun y a b => by
  have := ((mem_slot4 ..).mp a).2.2.symm.trans ((mem_slot4 ..).mp b).2.2; exact absurd this (by decide)
theorem redH_disj (sl : Fin 2) : Disjoint (redH sl 0).set (redH sl 1).set := Finset.disjoint_left.mpr fun y a b => by
  have := ((mem_redH ..).mp a).2.symm.trans ((mem_redH ..).mp b).2; exact absurd this (by decide)
theorem half_disj (sl : Fin 2) : Disjoint (half sl 0).set (half sl 1).set := Finset.disjoint_left.mpr fun y a b => by
  have := ((mem_half ..).mp a).2.symm.trans ((mem_half ..).mp b).2; exact absurd this (by decide)

end Cert.KernelIdealProof
end
-- ==== Proof.KernelIdeal.Units.lean ====
/-
# The units over what they hold

What a device holds between units is a list of pieces (`Atom`): copies to start, under way, awaited or done, slots
empty, filled or half lent, and the buffers filled part by part. Each unit takes some pieces and leaves others.
-/
module

public import proofs.«01_k».proof.Proof.KernelIdeal.Parts

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A piece of what a device holds: a copy not started, under way, over at its sender, awaited, over at its target; a
    copy's source slot, empty or filled, or its right half share while the left is lent; a landed copy's slot, whole or
    its right half share; a slab of the plane's partial result, of the gathered chunk, of the result, `n` steps done. -/
inductive Atom
  | unsent (i : Ix) | fly (i : Ix) | sdone (i : Ix) | await (i : Ix) | got (i : Ix)
  | stg (i : Ix) (w : Bool) | stgR (i : Ix) | land (i : Ix) | landR (i : Ix)
  | res (d : Bool) (sl : Fin 2) (n : ℕ) | resp (d : Bool) (sl : Fin 2) (n : ℕ) | out (d : Bool) (sl : Fin 2) (n : ℕ)
  deriving DecidableEq

/-- What is known of a slot: all of it or nothing. -/
abbrev known {s : Shape} : Bool → Finset s.Idx | true => Finset.univ | false => ∅

section
variable (X : Dev nD → S4096x1024.Idx → Elt F .bf16) (c : Dev nD)

def den : Atom → sProp 𝕄
  | .unsent i => iprop(room X (tgt c i) i ∗ dutyTok ER (cell c (some (false, i))) 0 0 ∗ dutyTok ER (cell (tgt c i) (some (true, i))) 0 0 ∗ atPos ER (cell c (some (false, i))) 0 ∅ 0)
  | .fly i => iprop(cred (tallyAt (cell c (some (false, i))) () (N i)) ∗ atPos ER (cell c (some (false, i))) 0 ∅ 0)
  | .sdone i => semVal (cell c (some (false, i))) 0
  | .await i => iprop(cred (tallyAt (cell c (some (true, i))) () (N i)) ∗ atPos ER (cell c (some (true, i))) 0 ∅ 0)
  | .got i => semVal (cell c (some (true, i))) 0
  | .stg i w => held (srcM i) c Finset.univ (known w) fullShare (tv X c i)
  | .stgR i => held (srcM i) c Finset.univ Finset.univ fullShare.right (tv X c i)
  | .land i => held (dstM i) c Finset.univ Finset.univ fullShare (tv X (sdev c i) i)
  | .landR i => held (dstM i) c Finset.univ Finset.univ fullShare.right (tv X (sdev c i) i)
  | .res d sl n => held (resM d) c (slab4 sl).set (resW sl n) fullShare (resF X c d)
  | .resp d sl n => held (respM d) c (slab4 sl).set (respW c d sl n) fullShare (respF X c d)
  | .out d sl n => held outM c (slabO d sl).set (outW c d sl n) fullShare (outF X)

/-- The pieces of a list, together. -/
def sepL {α : Type} (Φ : α → sProp 𝕄) : List α → sProp 𝕄
  | [] => iprop(emp)
  | a :: l => iprop(Φ a ∗ sepL Φ l)

abbrev xHeld : sProp 𝕄 := held xM c Finset.univ Finset.univ fullShare (X c)

/-- From `pre` the unit's operations run and leave `post`. -/
def Trip (pre : sProp 𝕄) (u : Un) (post : sProp 𝕄) : Prop :=
  ∀ (P : TProg F) (Q : PUnit → sProp 𝕄), pre ⊢ iprop((post -∗ WP c P Q) -∗ WP c (runU c u P) Q)

/-- The pieces a unit takes and those it leaves. -/
def takes : Un → List Atom
  | .seed1 d sl s => [.stg ⟨.p1, d, sl, 0, s⟩ false]
  | .hop1 d sl h s => [.land ⟨.p1, d, sl, h.castSucc, s⟩, .stg ⟨.p1, d, sl, h.succ, s⟩ false]
  | .fin1 d sl s => [.land ⟨.p1, d, sl, 2, s⟩, .res d sl s.val]
  | .seed2 d sl s => [.res d sl 2, .stg ⟨.p2, d, sl, 0, s⟩ false]
  | .hop2 d sl h s => [.land ⟨.p2, d, sl, h.castSucc, s⟩, .res d sl 2, .stg ⟨.p2, d, sl, h.succ, s⟩ false]
  | .fin2 d sl s => [.land ⟨.p2, d, sl, 2, s⟩, .res d sl 2, .stg ⟨.p3, d, sl, 0, s⟩ false]
  | .own3 d sl => [.stgR ⟨.p3, d, sl, 0, 0⟩, .stgR ⟨.p3, d, sl, 0, 1⟩, .resp d sl 0, .out d sl 0]
  | .fin3 d sl h => [if h.val < 2 then .landR ⟨.p3, d, sl, h, 0⟩ else .land ⟨.p3, d, sl, h, 0⟩, if h.val < 2 then .landR ⟨.p3, d, sl, h, 1⟩ else .land ⟨.p3, d, sl, h, 1⟩,
      .resp d sl (h.val + 1), .out d sl (h.val + 1)]
  | .split d sl => [.resp d sl 4]
  | .fin4 d sl h => [if h.val < 2 then .landR ⟨.p4, d, sl, h, 0⟩ else .land ⟨.p4, d, sl, h, 0⟩, if h.val < 2 then .landR ⟨.p4, d, sl, h, 1⟩ else .land ⟨.p4, d, sl, h, 1⟩,
      .out d sl (h.val + 4)]
  | _ => []
def leaves : Un → List Atom
  | .seed1 d sl s => [.stg ⟨.p1, d, sl, 0, s⟩ true]
  | .hop1 d sl h s => [.land ⟨.p1, d, sl, h.castSucc, s⟩, .stg ⟨.p1, d, sl, h.succ, s⟩ true]
  | .fin1 d sl s => [.land ⟨.p1, d, sl, 2, s⟩, .res d sl (s.val + 1)]
  | .seed2 d sl s => [.res d sl 2, .stg ⟨.p2, d, sl, 0, s⟩ true]
  | .hop2 d sl h s => [.land ⟨.p2, d, sl, h.castSucc, s⟩, .res d sl 2, .stg ⟨.p2, d, sl, h.succ, s⟩ true]
  | .fin2 d sl s => [.land ⟨.p2, d, sl, 2, s⟩, .res d sl 2, .stg ⟨.p3, d, sl, 0, s⟩ true]
  | .own3 d sl => [.stgR ⟨.p3, d, sl, 0, 0⟩, .stgR ⟨.p3, d, sl, 0, 1⟩, .resp d sl 1, .out d sl 1]
  | .fin3 d sl h => [if h.val < 2 then .landR ⟨.p3, d, sl, h, 0⟩ else .land ⟨.p3, d, sl, h, 0⟩, if h.val < 2 then .landR ⟨.p3, d, sl, h, 1⟩ else .land ⟨.p3, d, sl, h, 1⟩,
      .resp d sl (h.val + 2), .out d sl (h.val + 2)]
  | .split d sl => [.stg ⟨.p4, d, sl, 0, 0⟩ true, .stg ⟨.p4, d, sl, 0, 1⟩ true]
  | .fin4 d sl h => [if h.val < 2 then .landR ⟨.p4, d, sl, h, 0⟩ else .land ⟨.p4, d, sl, h, 0⟩, if h.val < 2 then .landR ⟨.p4, d, sl, h, 1⟩ else .land ⟨.p4, d, sl, h, 1⟩,
      .out d sl (h.val + 5)]
  | _ => []

variable (d : Bool) (sl s : Fin 2)

theorem x_sub (k : Fin 4) : (xR c d sl k s).set ⊆ (Finset.univ : Finset S4096x1024.Idx) := Finset.subset_univ _

/-! ### Slots as pieces -/

section Pieces
variable {X c d sl s} {h : Fin 3} {q : PosShare TreeShare}

theorem p1s_none : den X c (.stg ⟨.p1, d, sl, h, s⟩ false) ⊢ held (p1s d) c (slot1 sl h s).set ∅ fullShare (p1sF X c d) :=
  slot_out_none (M := p1s d) (r := slot1 sl h s) (hu := fun _ => rfl) (hq := squeezes_S1x1x1x512x256_S512x256)
theorem p1s_full : held (p1s d) c (slot1 sl h s).set (slot1 sl h s).set fullShare (p1sF X c d) ⊢ den X c (.stg ⟨.p1, d, sl, h, s⟩ true) :=
  slot_in (M := p1s d) (r := slot1 sl h s) (hu := fun _ => rfl) (hq := squeezes_S1x1x1x512x256_S512x256) (fit_p1s X c d sl h s)
theorem p1r_out : den X c (.land ⟨.p1, d, sl, h, s⟩) ⊢ held (p1r d) c (slot1 sl h s).set (slot1 sl h s).set fullShare (p1rF X c d) :=
  slot_out (M := p1r d) (r := slot1 sl h s) (hu := fun _ => rfl) (hq := squeezes_S1x1x1x512x256_S512x256) (fit_p1r X c d sl h s)
theorem p1r_in : held (p1r d) c (slot1 sl h s).set (slot1 sl h s).set fullShare (p1rF X c d) ⊢ den X c (.land ⟨.p1, d, sl, h, s⟩) :=
  slot_in (M := p1r d) (r := slot1 sl h s) (hu := fun _ => rfl) (hq := squeezes_S1x1x1x512x256_S512x256) (fit_p1r X c d sl h s)
theorem p2s_none : den X c (.stg ⟨.p2, d, sl, h, s⟩ false) ⊢ held (p2s d) c (slot2 sl h s).set ∅ fullShare (p2sF X c d) :=
  slot_out_none (M := p2s d) (r := slot2 sl h s) (hu := fun _ => rfl) (hq := squeezes_S1x1x1x128x256_S128x256)
theorem p2s_full : held (p2s d) c (slot2 sl h s).set (slot2 sl h s).set fullShare (p2sF X c d) ⊢ den X c (.stg ⟨.p2, d, sl, h, s⟩ true) :=
  slot_in (M := p2s d) (r := slot2 sl h s) (hu := fun _ => rfl) (hq := squeezes_S1x1x1x128x256_S128x256) (fit_p2s X c d sl h s)
theorem p2r_out : den X c (.land ⟨.p2, d, sl, h, s⟩) ⊢ held (p2r d) c (slot2 sl h s).set (slot2 sl h s).set fullShare (p2rF X c d) :=
  slot_out (M := p2r d) (r := slot2 sl h s) (hu := fun _ => rfl) (hq := squeezes_S1x1x1x128x256_S128x256) (fit_p2r X c d sl h s)
theorem p2r_in : held (p2r d) c (slot2 sl h s).set (slot2 sl h s).set fullShare (p2rF X c d) ⊢ den X c (.land ⟨.p2, d, sl, h, s⟩) :=
  slot_in (M := p2r d) (r := slot2 sl h s) (hu := fun _ => rfl) (hq := squeezes_S1x1x1x128x256_S128x256) (fit_p2r X c d sl h s)
theorem red_none : den X c (.stg ⟨.p3, d, sl, 0, s⟩ false) ⊢ held (redM d) c (redH sl s).set ∅ fullShare (redF X c d) :=
  slot_out_none (M := redM d) (r := redH sl s) (hu := fun _ => rfl) (hq := squeezes_S1x128x256_S128x256)
theorem red_full : held (redM d) c (redH sl s).set (redH sl s).set fullShare (redF X c d) ⊢ den X c (.stg ⟨.p3, d, sl, 0, s⟩ true) :=
  slot_in (M := redM d) (r := redH sl s) (hu := fun _ => rfl) (hq := squeezes_S1x128x256_S128x256) (fit_red X c d sl s)
theorem redR_out : den X c (.stgR ⟨.p3, d, sl, 0, s⟩) ⊢ held (redM d) c (redH sl s).set (redH sl s).set fullShare.right (redF X c d) :=
  slot_out (M := redM d) (r := redH sl s) (hu := fun _ => rfl) (hq := squeezes_S1x128x256_S128x256) (fit_red X c d sl s)
theorem redR_in : held (redM d) c (redH sl s).set (redH sl s).set fullShare.right (redF X c d) ⊢ den X c (.stgR ⟨.p3, d, sl, 0, s⟩) :=
  slot_in (M := redM d) (r := redH sl s) (hu := fun _ => rfl) (hq := squeezes_S1x128x256_S128x256) (fit_red X c d sl s)
theorem resp_full : held (respM d) c (half sl s).set (half sl s).set fullShare (respF X c d) ⊢ den X c (.stg ⟨.p4, d, sl, 0, s⟩ true) :=
  slot_in (M := respM d) (r := half sl s) (hu := fun _ => rfl) (hq := squeezes_S1x2x256x256_S2x256x256) (fit_resp X c d sl s)

theorem den_res (n : ℕ) : den X c (.res d sl n) = held (resM d) c (slab4 sl).set (resW sl n) fullShare (resF X c d) := rfl
theorem den_resp (n : ℕ) : den X c (.resp d sl n) = held (respM d) c (slab4 sl).set (respW c d sl n) fullShare (respF X c d) := rfl
theorem den_out (n : ℕ) : den X c (.out d sl n) = held outM c (slabO d sl).set (outW c d sl n) fullShare (outF X) := rfl

/-- The share of a landed slot kept while a later copy reads it too: the right half before the last hop. -/
abbrev qL (h : Fin 3) : PosShare TreeShare := if h.val < 2 then fullShare.right else fullShare

theorem den_land (i : Ix) : den X c (if h.val < 2 then .landR i else .land i) = held (dstM i) c Finset.univ Finset.univ (qL h) (tv X (sdev c i) i) := by
  unfold qL; split <;> rfl

theorem p3_out : den X c (if h.val < 2 then .landR ⟨.p3, d, sl, h, s⟩ else .land ⟨.p3, d, sl, h, s⟩)
    ⊢ held (p3b d) c (slot2 sl h s).set (slot2 sl h s).set (qL h) (p3F X c d) := by
  rw [den_land]
  exact slot_out (M := p3b d) (r := slot2 sl h s) (hu := fun _ => rfl) (hq := squeezes_S1x1x1x128x256_S128x256) (fit_p3r X c d sl h s)
theorem p3_in : held (p3b d) c (slot2 sl h s).set (slot2 sl h s).set (qL h) (p3F X c d)
    ⊢ den X c (if h.val < 2 then .landR ⟨.p3, d, sl, h, s⟩ else .land ⟨.p3, d, sl, h, s⟩) := by
  rw [den_land]
  exact slot_in (M := p3b d) (r := slot2 sl h s) (hu := fun _ => rfl) (hq := squeezes_S1x1x1x128x256_S128x256) (fit_p3r X c d sl h s)
theorem p4_out : den X c (if h.val < 2 then .landR ⟨.p4, d, sl, h, s⟩ else .land ⟨.p4, d, sl, h, s⟩)
    ⊢ held (p4b d) c (slot4 sl h s).set (slot4 sl h s).set (qL h) (p4F X c d) := by
  rw [den_land]
  exact slot_out (M := p4b d) (r := slot4 sl h s) (hu := fun _ => rfl) (hq := squeezes_S1x1x1x2x256x256_S2x256x256) (fit_p4r X c d sl h s)
theorem p4_in : held (p4b d) c (slot4 sl h s).set (slot4 sl h s).set (qL h) (p4F X c d)
    ⊢ den X c (if h.val < 2 then .landR ⟨.p4, d, sl, h, s⟩ else .land ⟨.p4, d, sl, h, s⟩) := by
  rw [den_land]
  exact slot_in (M := p4b d) (r := slot4 sl h s) (hu := fun _ => rfl) (hq := squeezes_S1x1x1x2x256x256_S2x256x256) (fit_p4r X c d sl h s)

/-- Two known regions as one known region, and back. -/
theorem held_both {sp : Space} {s : Shape} {e : EltTy} {M : Memref sig .tc sp s e} {R₁ R₂ : Finset s.Idx} {f : s.Idx → Elt F e} (hd : Disjoint R₁ R₂) :
    iprop(held M c R₁ R₁ q f ∗ held M c R₂ R₂ q f) ⊢ held M c (R₁ ∪ R₂) (R₁ ∪ R₂) q f :=
  held_join hd (Finset.Subset.refl _) (Finset.Subset.refl _)
theorem held_apart {sp : Space} {s : Shape} {e : EltTy} {M : Memref sig .tc sp s e} {R₁ R₂ : Finset s.Idx} {f : s.Idx → Elt F e} (hd : Disjoint R₁ R₂) :
    held M c (R₁ ∪ R₂) (R₁ ∪ R₂) q f ⊢ iprop(held M c R₁ R₁ q f ∗ held M c R₂ R₂ q f) := by
  iintro H
  ihave H := (held_split hd) $$ H
  icases H with ⟨H0, H1⟩
  isplitl [H0]
  · iapply (held_mono Finset.subset_union_left fun _ _ => rfl) $$ H0
  · iapply (held_mono Finset.subset_union_right fun _ _ => rfl) $$ H1

end Pieces

/-! ### The units -/

theorem trip_seed1 : Trip c iprop(xHeld X c ∗ sepL (den X c) (takes (.seed1 d sl s))) (.seed1 d sl s) iprop(xHeld X c ∗ sepL (den X c) (leaves (.seed1 d sl s))) := by
  intro P Q; dsimp only [takes, leaves, sepL]
  iintro ⟨Hx, H, -⟩ Hk
  ihave H := p1s_none $$ H
  iapply (wp_copy (A := xM) (B := p1s d) (ra := xR c d sl 0 s) (rb := slot1 sl 0 s) (pay := k0_pay1) (fa := X c) (fb := p1sF X c d) (x_sub c d sl s 0) (x_sub c d sl s 0) (Finset.Subset.refl _) (seed1_val X c d sl s)) $$ [Hx H]
  · isplitl [Hx]
    · iexact Hx
    · iexact H
  rw [Finset.empty_union]
  iintro ⟨Hx, H⟩
  iapply Hk
  isplitl [Hx]
  · iexact Hx
  isplitl [H]
  · iapply p1s_full $$ H
  · iempintro

theorem trip_hop1 (h : Fin 2) : Trip c iprop(xHeld X c ∗ sepL (den X c) (takes (.hop1 d sl h s))) (.hop1 d sl h s) iprop(xHeld X c ∗ sepL (den X c) (leaves (.hop1 d sl h s))) := by
  intro P Q; dsimp only [takes, leaves, sepL]
  iintro ⟨Hx, Hr, H, -⟩ Hk
  ihave H := p1s_none $$ H
  ihave Hr := p1r_out $$ Hr
  iapply (wp_add (A := p1r d) (C := xM) (B := p1s d) (ra := slot1 sl h.castSucc s) (rc := xR c d sl h.castSucc.succ s) (rb := slot1 sl h.succ s) (pay := k0_pay5) (fa := p1rF X c d) (fc := X c) (fb := p1sF X c d) (Finset.Subset.refl _) (Finset.Subset.refl _) (x_sub c d sl s h.castSucc.succ) (x_sub c d sl s h.castSucc.succ) (Finset.Subset.refl _) (hop1_val X c d sl h s)) $$ [Hx Hr H]
  · isplitl [Hr]
    · iexact Hr
    isplitl [Hx]
    · iexact Hx
    · iexact H
  rw [Finset.empty_union]
  iintro ⟨Hr, Hx, H⟩
  iapply Hk
  isplitl [Hx]
  · iexact Hx
  isplitl [Hr]
  · iapply p1r_in $$ Hr
  isplitl [H]
  · iapply p1s_full $$ H
  · iempintro

theorem trip_fin1 : Trip c iprop(xHeld X c ∗ sepL (den X c) (takes (.fin1 d sl s))) (.fin1 d sl s) iprop(xHeld X c ∗ sepL (den X c) (leaves (.fin1 d sl s))) := by
  intro P Q; dsimp only [takes, leaves, sepL]; simp only [den_res, den_resp, den_out]
  iintro ⟨Hx, Hr, H, -⟩ Hk
  ihave Hr := p1r_out $$ Hr
  iapply (wp_add (A := p1r d) (C := xM) (B := resM d) (ra := slot1 sl 2 s) (rc := xR c d sl 3 s) (rb := half sl s) (pay := k0_pay15) (fa := p1rF X c d) (fc := X c) (fb := resF X c d) (Finset.Subset.refl _) (Finset.Subset.refl _) (x_sub c d sl s 3) (x_sub c d sl s 3) (half_sub sl s) (fin1_val X c d sl s)) $$ [Hx Hr H]
  · isplitl [Hr]
    · iexact Hr
    isplitl [Hx]
    · iexact Hx
    · iexact H
  iintro ⟨Hr, Hx, H⟩
  iapply Hk
  isplitl [Hx]
  · iexact Hx
  isplitl [Hr]
  · iapply p1r_in $$ Hr
  isplitl [H]
  · rw [show resW sl s.val ∪ (half sl s).set = resW sl (s.val + 1) by
      conv => rhs; unfold resW
      rw [show Fin.ofNat 2 s.val = s from Fin.ext (Nat.mod_eq_of_lt s.isLt)]]
    iexact H
  · iempintro

theorem q_known (k : Fin 4) (t : Fin 2) : (qR c d sl k t).set ⊆ resW sl 2 := by rw [resW_full]; exact q_sub c d sl k t

theorem trip_seed2 : Trip c iprop(xHeld X c ∗ sepL (den X c) (takes (.seed2 d sl s))) (.seed2 d sl s) iprop(xHeld X c ∗ sepL (den X c) (leaves (.seed2 d sl s))) := by
  intro P Q; dsimp only [takes, leaves, sepL]; simp only [den_res, den_resp, den_out]
  iintro ⟨Hx, Hq, H, -⟩ Hk
  ihave H := p2s_none $$ H
  iapply (wp_copy (A := resM d) (B := p2s d) (ra := qR c d sl 0 s) (rb := slot2 sl 0 s) (pay := k0_pay23) (fa := resF X c d) (fb := p2sF X c d) (q_sub c d sl 0 s) (q_known c d sl 0 s) (Finset.Subset.refl _) (seed2_val X c d sl s)) $$ [Hq H]
  · isplitl [Hq]
    · iexact Hq
    · iexact H
  rw [Finset.empty_union]
  iintro ⟨Hq, H⟩
  iapply Hk
  isplitl [Hx]
  · iexact Hx
  isplitl [Hq]
  · iexact Hq
  isplitl [H]
  · iapply p2s_full $$ H
  · iempintro

theorem trip_hop2 (h : Fin 2) : Trip c iprop(xHeld X c ∗ sepL (den X c) (takes (.hop2 d sl h s))) (.hop2 d sl h s) iprop(xHeld X c ∗ sepL (den X c) (leaves (.hop2 d sl h s))) := by
  intro P Q; dsimp only [takes, leaves, sepL]; simp only [den_res, den_resp, den_out]
  iintro ⟨Hx, Hr, Hq, H, -⟩ Hk
  ihave H := p2s_none $$ H
  ihave Hr := p2r_out $$ Hr
  iapply (wp_add (A := p2r d) (C := resM d) (B := p2s d) (ra := slot2 sl h.castSucc s) (rc := qR c d sl h.castSucc.succ s) (rb := slot2 sl h.succ s) (pay := k0_pay31) (fa := p2rF X c d) (fc := resF X c d) (fb := p2sF X c d) (Finset.Subset.refl _) (Finset.Subset.refl _) (q_sub c d sl h.castSucc.succ s) (q_known c d sl h.castSucc.succ s) (Finset.Subset.refl _) (hop2_val X c d sl h s)) $$ [Hq Hr H]
  · isplitl [Hr]
    · iexact Hr
    isplitl [Hq]
    · iexact Hq
    · iexact H
  rw [Finset.empty_union]
  iintro ⟨Hr, Hq, H⟩
  iapply Hk
  isplitl [Hx]
  · iexact Hx
  isplitl [Hr]
  · iapply p2r_in $$ Hr
  isplitl [Hq]
  · iexact Hq
  isplitl [H]
  · iapply p2s_full $$ H
  · iempintro

theorem trip_fin2 : Trip c iprop(xHeld X c ∗ sepL (den X c) (takes (.fin2 d sl s))) (.fin2 d sl s) iprop(xHeld X c ∗ sepL (den X c) (leaves (.fin2 d sl s))) := by
  intro P Q; dsimp only [takes, leaves, sepL]; simp only [den_res, den_resp, den_out]
  iintro ⟨Hx, Hr, Hq, H, -⟩ Hk
  ihave H := red_none $$ H
  ihave Hr := p2r_out $$ Hr
  iapply (wp_add (A := p2r d) (C := resM d) (B := redM d) (ra := slot2 sl 2 s) (rc := qR c d sl 3 s) (rb := redH sl s) (pay := k0_pay51) (fa := p2rF X c d) (fc := resF X c d) (fb := redF X c d) (Finset.Subset.refl _) (Finset.Subset.refl _) (q_sub c d sl 3 s) (q_known c d sl 3 s) (Finset.Subset.refl _) (fin2_val X c d sl s)) $$ [Hq Hr H]
  · isplitl [Hr]
    · iexact Hr
    isplitl [Hq]
    · iexact Hq
    · iexact H
  rw [Finset.empty_union]
  iintro ⟨Hr, Hq, H⟩
  iapply Hk
  isplitl [Hx]
  · iexact Hx
  isplitl [Hr]
  · iapply p2r_in $$ Hr
  isplitl [Hq]
  · iexact Hq
  isplitl [H]
  · iapply red_full $$ H
  · iempintro

theorem respW_succ (n : Fin 4) : respW c d sl n.val ∪ (respR c d sl n).set = respW c d sl (n.val + 1) := by
  conv => rhs; unfold respW
  rw [show Fin.ofNat 4 n.val = n from Fin.ext (Nat.mod_eq_of_lt n.isLt)]
theorem outW_succ (n : Fin 4) : outW c d sl n.val ∪ (outR c d sl n).set = outW c d sl (n.val + 1) := by
  conv => rhs; unfold outW
  rw [show Fin.ofNat 4 n.val = n from Fin.ext (Nat.mod_eq_of_lt n.isLt), if_pos n.isLt]
theorem outW_succ4 (h : Fin 3) : outW c d sl (h.val + 4) ∪ (out4R c d sl h).set = outW c d sl (h.val + 5) := by
  conv => rhs; unfold outW
  rw [if_neg (by omega), show Fin.ofNat 3 (h.val + 4 - 4) = h from Fin.ext (by show (h.val + 4 - 4) % 3 = h.val; omega)]

theorem trip_own3 : Trip c iprop(xHeld X c ∗ sepL (den X c) (takes (.own3 d sl))) (.own3 d sl) iprop(xHeld X c ∗ sepL (den X c) (leaves (.own3 d sl))) := by
  intro P Q; dsimp only [takes, leaves, sepL]; simp only [den_res, den_resp, den_out]
  iintro ⟨Hx, H0, H1, Hp, Ho, -⟩ Hk
  ihave H0 := redR_out $$ H0
  ihave H1 := redR_out $$ H1
  ihave H := (held_both (redH_disj sl)) $$ [H0 H1]
  · isplitl [H0]
    · iexact H0
    · iexact H1
  iapply (wp_copy (A := redM d) (B := respM d) (ra := redW sl) (rb := respR c d sl 0) (pay := k0_pay56) (fa := redF X c d) (fb := respF X c d) (redW_sub sl) (redW_sub sl) (resp_sub c d sl 0) (own3_val X c d sl)) $$ [H Hp]
  · isplitl [H]
    · iexact H
    · iexact Hp
  iintro ⟨H, Hp⟩
  iapply (wp_copy (A := redM d) (B := outM) (ra := redW sl) (rb := outR c d sl 0) (pay := k0_pay57) (fa := redF X c d) (fb := outF X) (redW_sub sl) (redW_sub sl) (out_sub c d sl 0) (own3_out X c d sl)) $$ [H Ho]
  · isplitl [H]
    · iexact H
    · iexact Ho
  iintro ⟨H, Ho⟩
  ihave H := (held_apart (redH_disj sl)) $$ H
  icases H with ⟨H0, H1⟩
  iapply Hk
  isplitl [Hx]
  · iexact Hx
  isplitl [H0]
  · iapply redR_in $$ H0
  isplitl [H1]
  · iapply redR_in $$ H1
  isplitl [Hp]
  · rw [show respW c d sl 0 ∪ (respR c d sl 0).set = respW c d sl 1 from respW_succ c d sl 0]; iexact Hp
  isplitl [Ho]
  · rw [show outW c d sl 0 ∪ (outR c d sl 0).set = outW c d sl 1 from outW_succ c d sl 0]; iexact Ho
  · iempintro

theorem trip_fin3 (h : Fin 3) : Trip c iprop(xHeld X c ∗ sepL (den X c) (takes (.fin3 d sl h))) (.fin3 d sl h) iprop(xHeld X c ∗ sepL (den X c) (leaves (.fin3 d sl h))) := by
  intro P Q; dsimp only [takes, leaves, sepL]; simp only [den_res, den_resp, den_out]
  iintro ⟨Hx, H0, H1, Hp, Ho, -⟩ Hk
  ihave H0 := p3_out $$ H0
  ihave H1 := p3_out $$ H1
  ihave H := (held_both (slot2_disj sl h)) $$ [H0 H1]
  · isplitl [H0]
    · iexact H0
    · iexact H1
  iapply (wp_copy (A := p3b d) (B := respM d) (ra := pair3 sl h) (rb := respR c d sl h.succ) (pay := k0_pay70) (fa := p3F X c d) (fb := respF X c d) (pair3_sub sl h) (pair3_sub sl h) (resp_sub c d sl h.succ) (fin3_val X c d sl h)) $$ [H Hp]
  · isplitl [H]
    · iexact H
    · iexact Hp
  iintro ⟨H, Hp⟩
  iapply (wp_copy (A := p3b d) (B := outM) (ra := pair3 sl h) (rb := outR c d sl h.succ) (pay := k0_pay71) (fa := p3F X c d) (fb := outF X) (pair3_sub sl h) (pair3_sub sl h) (out_sub c d sl h.succ) (fin3_out X c d sl h)) $$ [H Ho]
  · isplitl [H]
    · iexact H
    · iexact Ho
  iintro ⟨H, Ho⟩
  ihave H := (held_apart (slot2_disj sl h)) $$ H
  icases H with ⟨H0, H1⟩
  iapply Hk
  isplitl [Hx]
  · iexact Hx
  isplitl [H0]
  · iapply p3_in $$ H0
  isplitl [H1]
  · iapply p3_in $$ H1
  isplitl [Hp]
  · rw [show h.val + 1 = h.succ.val from rfl, respW_succ c d sl h.succ]; iexact Hp
  isplitl [Ho]
  · rw [show h.val + 1 = h.succ.val from rfl, outW_succ c d sl h.succ]; iexact Ho
  · iempintro

theorem trip_split : Trip c iprop(xHeld X c ∗ sepL (den X c) (takes (.split d sl))) (.split d sl) iprop(xHeld X c ∗ sepL (den X c) (leaves (.split d sl))) := by
  intro P Q; dsimp only [takes, leaves, sepL]; simp only [den_resp]
  rw [respW_full, ← slab4_halves]
  iintro ⟨Hx, H, -⟩ Hk
  ihave H := (held_apart (half_disj sl)) $$ H
  icases H with ⟨H0, H1⟩
  iapply Hk
  isplitl [Hx]
  · iexact Hx
  isplitl [H0]
  · iapply resp_full $$ H0
  isplitl [H1]
  · iapply resp_full $$ H1
  · iempintro

theorem trip_fin4 (h : Fin 3) : Trip c iprop(xHeld X c ∗ sepL (den X c) (takes (.fin4 d sl h))) (.fin4 d sl h) iprop(xHeld X c ∗ sepL (den X c) (leaves (.fin4 d sl h))) := by
  intro P Q; dsimp only [takes, leaves, sepL]; simp only [den_res, den_resp, den_out]
  iintro ⟨Hx, H0, H1, Ho, -⟩ Hk
  ihave H0 := p4_out $$ H0
  ihave H1 := p4_out $$ H1
  ihave H := (held_both (slot4_disj sl h)) $$ [H0 H1]
  · isplitl [H0]
    · iexact H0
    · iexact H1
  iapply (wp_copy (A := p4b d) (B := outM) (ra := pair4 sl h) (rb := out4R c d sl h) (pay := k0_pay101) (fa := p4F X c d) (fb := outF X) (pair4_sub sl h) (pair4_sub sl h) (out4_sub c d sl h) (fin4_out X c d sl h)) $$ [H Ho]
  · isplitl [H]
    · iexact H
    · iexact Ho
  iintro ⟨H, Ho⟩
  ihave H := (held_apart (slot4_disj sl h)) $$ H
  icases H with ⟨H0, H1⟩
  iapply Hk
  isplitl [Hx]
  · iexact Hx
  isplitl [H0]
  · iapply p4_in $$ H0
  isplitl [H1]
  · iapply p4_in $$ H1
  isplitl [Ho]
  · rw [outW_succ4 c d sl h]; iexact Ho
  · iempintro

end

end Cert.KernelIdealProof
end
-- ==== Proof.KernelIdeal.Steps.lean ====
/-
# The body

Copies started and awaited, over the pieces; the units' bookkeeping as a function on lists of pieces; and that a run
of the bookkeeping is a run of the body.
-/
module

public import proofs.«01_k».proof.Proof.KernelIdeal.Units

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (X : Dev nD → S4096x1024.Idx → Elt F .bf16) (K : Dev nD × CK → ℕ) (c : Dev nD)

/-! ## What every device may use again and again -/

/-- The cells' invariants under the names `K`, that every cell has reached its round, and the order of the waits. -/
def recs : sProp 𝕄 :=
  iprop((bigSep Finset.univ fun ck : Dev nD × CK => cellInv ER (Rd X) (K ck) (cell ck.1 ck.2))
    ∗ (bigSep Finset.univ fun ck : Dev nD × CK => reached ER (cell ck.1 ck.2) 0) ∗ levAts L lv)

instance recs_persistent : BI.Persistent (recs (F := F) X K) := by unfold recs; infer_instance

theorem inv_at (ck : Dev nD × CK) : bigSep Finset.univ (fun ck : Dev nD × CK => cellInv ER (Rd X) (K ck) (cell ck.1 ck.2)) ⊢ (cellInv ER (Rd X) (K ck) (cell ck.1 ck.2) : sProp 𝕄) :=
  bigSep_elim (Finset.mem_univ ck)
theorem reached_at (ck : Dev nD × CK) : bigSep Finset.univ (fun ck : Dev nD × CK => reached ER (cell ck.1 ck.2) 0) ⊢ (reached ER (cell ck.1 ck.2) 0 : sProp 𝕄) :=
  bigSep_elim (Finset.mem_univ ck)
theorem recs_inv (ck : Dev nD × CK) : recs (F := F) X K ⊢ cellInv ER (Rd X) (K ck) (cell ck.1 ck.2) := by
  unfold recs
  iintro ⟨#H, -, -⟩
  iapply (inv_at X K ck) $$ H
theorem recs_reached (ck : Dev nD × CK) : recs (F := F) X K ⊢ reached ER (cell ck.1 ck.2) 0 := by
  unfold recs
  iintro ⟨-, #H, -⟩
  iapply (reached_at ck) $$ H
theorem recs_lev : recs (F := F) X K ⊢ levAts L lv := by
  unfold recs
  iintro ⟨-, -, #H⟩
  iexact H

set_option maxRecDepth 8000 in
theorem recs_may (i : Ix) (l : List Ix) (hl : ∀ j ∈ l, lvl i < lvl j) : recs (F := F) X K ⊢ MayWait (c : Thread nD τ) (csem (some (true, i))) () (Osum c l) :=
  (recs_lev X K).trans (mayWait_recv c i l hl)

/-- The device owes the copies of `l`, whatever it has waited for. -/
abbrev owing (l : List Ix) : sProp 𝕄 := iprop(∃ W, owes (c : Thread nD τ) (Osum c l) W)

/-! ## Copies started and awaited -/

theorem den_unsent (i : Ix) : den X c (.unsent i)
    = iprop(room X (tgt c i) i ∗ dutyTok ER (cell c (some (false, i))) 0 0 ∗ dutyTok ER (cell (tgt c i) (some (true, i))) 0 0 ∗ atPos ER (cell c (some (false, i))) 0 ∅ 0) := rfl
theorem den_fly (i : Ix) : den X c (.fly i) = iprop(cred (tallyAt (cell c (some (false, i))) () (N i)) ∗ atPos ER (cell c (some (false, i))) 0 ∅ 0) := rfl
theorem den_sdone (i : Ix) : den X c (.sdone i) = semVal (cell c (some (false, i))) 0 := rfl
theorem den_await (i : Ix) : den X c (.await i) = iprop(cred (tallyAt (cell c (some (true, i))) () (N i)) ∗ atPos ER (cell c (some (true, i))) 0 ∅ 0) := rfl
theorem den_got (i : Ix) : den X c (.got i) = semVal (cell c (some (true, i))) 0 := rfl
theorem den_fill (i : Ix) : den X c (.land i) = recvPay X c i := rfl

theorem step_send (i : Ix) (l : List Ix) (P : TProg F) (Q : PUnit → sProp 𝕄) :
    iprop(recs X K ∗ owing c (i :: l) ∗ den X c (.unsent i) ∗ sendPay X c i)
      ⊢ iprop((owing c l ∗ den X c (.fly i) -∗ WP c P Q) -∗ WP c (runU c (.send i) P) Q) := by
  rw [den_unsent, den_fly]; unfold room sendPay held
  rw [View.setOn_univ, View.setOn_univ]
  iintro ⟨#HR, ⟨%W, HO⟩, ⟨⟨%fd, -, Hd⟩, Ht1, Ht2, Hat⟩, ⟨%fs, %hfs, Hs⟩⟩ Hk
  have hread : (srcM i).view.read (Elt F) fs = tv X c i := funext fun x => hfs x (Finset.mem_univ x)
  iapply (Rounds.wp_send_pointsTo 𝒱₀ ER (Rd X) (c : Thread nD τ) none (κ₁ := K (c, some (false, i))) (κ₂ := K (tgt c i, some (true, i)))
    (c' := ((tgt c i : Dev nD) : Thread nD τ)) (src := srcM i) (dst := dstM i) (sS := .dma (sS i)) (sem := .dma (rS i)) (q := qS i) (fs := fs)
    (r₁ := 0) (r₂ := 0) (d₁ := 0) (d₂ := 0) (fd := fd)
    (by rw [show (((c : Thread nD τ), SemLoc.dma (sS i)) : GSem nD τ sig) = cell c (some (false, i)) from rfl, duties_cell]; exact Finset.mem_singleton_self _)
    (by rw [show (((tgt c i : Dev nD) : Thread nD τ), SemLoc.dma (rS i)) = cell (tgt c i) (some (true, i)) from rfl, duties_cell]; exact Finset.mem_singleton_self _)
    () () (N i) rfl (amount_cell X c (some (false, i)) 0) (amount_cell X (tgt c i) (some (true, i)) 0) (Osum c l) rfl (W := W)
    (by
      rw [show (((c : Thread nD τ), SemLoc.dma (sS i)) : GSem nD τ sig) = cell c (some (false, i)) from rfl, payload_cell]
      show _ ⊢ sendPay X c i
      unfold sendPay held
      rw [View.setOn_univ]
      iintro H
      iexists fs
      isplitr
      · ipureintro; exact hfs
      · iexact H)
    (by
      rw [show (((tgt c i : Dev nD) : Thread nD τ), SemLoc.dma (rS i)) = cell (tgt c i) (some (true, i)) from rfl, payload_cell]
      show _ ⊢ recvPay X (tgt c i) i
      unfold recvPay held
      rw [View.setOn_univ, sdev_tgt]
      iintro H
      iexists (dstM i).view.write (Elt F) fd ((srcM i).view.read (Elt F) fs) Finset.univ
      isplitr
      · ipureintro; intro x _
        rw [View.read_write_univ, hread]
      · iexact H)) $$ [HO Hd Ht1 Ht2 Hs]
  · isplitr
    · iapply (recs_inv X K (c, some (false, i))) $$ HR
    isplitr
    · iapply (recs_inv X K (tgt c i, some (true, i))) $$ HR
    isplitl [Hs]
    · iexact Hs
    isplitl [Hd]
    · iexact Hd
    isplitl [HO]
    · iexact HO
    isplitl [Ht1]
    · iexact Ht1
    isplitr
    · iapply (recs_reached X K (c, some (false, i))) $$ HR
    isplitl [Ht2]
    · iexact Ht2
    · iapply (recs_reached X K (tgt c i, some (true, i))) $$ HR
  iintro ⟨Hc, HO⟩
  iapply Hk
  isplitl [HO]
  · iexists W; iexact HO
  isplitl [Hc]
  · iexact Hc
  · iexact Hat

theorem step_wait (i : Ix) (l : List Ix) (hl : ∀ j ∈ l, lvl i < lvl j) (P : TProg F) (Q : PUnit → sProp 𝕄) :
    iprop(recs X K ∗ owing c l ∗ den X c (.await i))
      ⊢ iprop((owing c l ∗ den X c (.got i) ∗ den X c (.land i) -∗ WP c P Q) -∗ WP c (runU c (.wait i) P) Q) := by
  rw [den_await, den_got, den_fill]
  iintro ⟨#HR, ⟨%W, HO⟩, Hc, Hat⟩ Hk
  iapply (Rounds.wp_wait_rest_token 𝒱₀ ER (Rd X) (c : Thread nD τ) none (κ := K (c, some (true, i)))
      (wpE_waitDma2_eq 𝒱₀ (c : Thread nD τ) none Set.univ) (Set.mem_univ _) () (O := Osum c l) (W := W) (R := 0) (m := 0) (T := ∅)
      (by rw [Nat.zero_add, show (((c : Thread nD τ), SemLoc.dma (rS i)) : GSem nD τ sig) = cell c (some (true, i)) from rfl, expect_dma]; exact Eq.refl (N i))) $$ [Hc HO Hat]
  · isplitr
    · iapply (recs_inv X K (c, some (true, i))) $$ HR
    isplitl [Hc]
    · iexact Hc
    isplitl [HO]
    · iexact HO
    isplitr
    · iapply (recs_may X K c i l hl) $$ HR
    · iexact Hat
  iintro ⟨HO, Hat, -, Hpay⟩
  ihave Hp := (Entails.of_eq (show bigSep ((Rd X).duties ((c : Thread nD τ), SemLoc.dma (rS i)) 0 \ ∅) (fun d => (Rd X).payload ((c : Thread nD τ), SemLoc.dma (rS i)) 0 d) = _ from rest_dma X c true i)) $$ Hpay
  imod (Rounds.cell_close ER (Rd X) (Set.mem_univ (K (c, some (true, i)))) (fun h => h) (R := 0 + 1) (duties_later X (cell c (some (true, i))))) $$ [Hat] with Hz
  · isplitr
    · iapply (recs_inv X K (c, some (true, i))) $$ HR
    · iexact Hat
  iapply Hk
  isplitl [HO]
  · iexists _; iexact HO
  isplitl [Hz]
  · iexact Hz
  · iapply (Entails.of_eq (show payOf X c (some (true, i)) 0 = recvPay X c i from rfl)) $$ Hp

theorem step_waitS (i : Ix) (P : TProg F) (Q : PUnit → sProp 𝕄) :
    iprop(recs X K ∗ owing c [] ∗ den X c (.fly i))
      ⊢ iprop((owing c [] ∗ den X c (.sdone i) ∗ sendPay X c i -∗ WP c P Q) -∗ WP c (runU c (.waitS i) P) Q) := by
  rw [den_fly, den_sdone]
  iintro ⟨#HR, ⟨%W, HO⟩, Hc, Hat⟩ Hk
  iapply (Rounds.wp_wait_rest_token 𝒱₀ ER (Rd X) (c : Thread nD τ) none (κ := K (c, some (false, i)))
      (wpE_waitDma2_eq 𝒱₀ (c : Thread nD τ) none Set.univ) (Set.mem_univ _) () (O := Osum c []) (W := W) (R := 0) (m := 0) (T := ∅)
      (by rw [Nat.zero_add, show (((c : Thread nD τ), SemLoc.dma (sS i)) : GSem nD τ sig) = cell c (some (false, i)) from rfl, expect_dma]; exact credit_src i)) $$ [Hc HO Hat]
  · isplitr
    · iapply (recs_inv X K (c, some (false, i))) $$ HR
    isplitl [Hc]
    · rw [credit_src i]; iexact Hc
    isplitl [HO]
    · iexact HO
    isplitr
    · rw [show Osum c [] = 0 from rfl, MayWait_zero]; iempintro
    · iexact Hat
  iintro ⟨HO, Hat, -, Hpay⟩
  ihave Hp := (Entails.of_eq (show bigSep ((Rd X).duties ((c : Thread nD τ), SemLoc.dma (sS i)) 0 \ ∅) (fun d => (Rd X).payload ((c : Thread nD τ), SemLoc.dma (sS i)) 0 d) = _ from rest_dma X c false i)) $$ Hpay
  imod (Rounds.cell_close ER (Rd X) (Set.mem_univ (K (c, some (false, i)))) (fun h => h) (R := 0 + 1) (duties_later X (cell c (some (false, i))))) $$ [Hat] with Hz
  · isplitr
    · iapply (recs_inv X K (c, some (false, i))) $$ HR
    · iexact Hat
  iapply Hk
  isplitl [HO]
  · iexists _; iexact HO
  isplitl [Hz]
  · iexact Hz
  · iapply (Entails.of_eq (show payOf X c (some (false, i)) 0 = sendPay X c i from rfl)) $$ Hp

/-! ## What a copy reads, and what stays readable meanwhile -/

/-- The hop before, of a forwarded slot. -/
abbrev before (ph : Ph) (d : Bool) (sl : Fin 2) (n : ℕ) (hn : n + 1 < 3) (s : Fin 2) : Ix := ⟨ph, d, sl, ⟨n, by omega⟩, s⟩

def srcs : Ix → List Atom
  | ⟨.p3, d, sl, ⟨n + 1, hn⟩, s⟩ => [.land (before .p3 d sl n hn s)]
  | ⟨.p4, d, sl, ⟨n + 1, hn⟩, s⟩ => [.land (before .p4 d sl n hn s)]
  | i => [.stg i true]
def rests : Ix → List Atom
  | ⟨.p3, d, sl, ⟨0, h0⟩, s⟩ => [.stgR ⟨.p3, d, sl, ⟨0, h0⟩, s⟩]
  | ⟨.p3, d, sl, ⟨n + 1, hn⟩, s⟩ => [.landR (before .p3 d sl n hn s)]
  | ⟨.p4, d, sl, ⟨n + 1, hn⟩, s⟩ => [.landR (before .p4 d sl n hn s)]
  | _ => []

/-- A copy that takes its source along. -/
theorem whole_split (i : Ix) {A : Atom} (hs : srcs i = [A]) (hr : rests i = []) (hq : qS i = fullShare)
    (hA : den X c A = held (srcM i) c Finset.univ Finset.univ fullShare (tv X c i)) :
    sepL (den X c) (srcs i) ⊢ iprop(sendPay X c i ∗ sepL (den X c) (rests i)) := by
  rw [hs, hr]; unfold sendPay; rw [hq]; dsimp only [sepL]; rw [hA]
theorem whole_join (i : Ix) {A : Atom} (hs : srcs i = [A]) (hr : rests i = []) (hq : qS i = fullShare)
    (hA : den X c A = held (srcM i) c Finset.univ Finset.univ fullShare (tv X c i)) :
    iprop(sendPay X c i ∗ sepL (den X c) (rests i)) ⊢ sepL (den X c) (srcs i) := by
  rw [hs, hr]; unfold sendPay; rw [hq]; dsimp only [sepL]; rw [hA]

/-- A copy that shares its source with the device. -/
theorem half_split (i : Ix) {A B : Atom} (hs : srcs i = [A]) (hr : rests i = [B]) (hq : qS i = fullShare.left)
    (hA : den X c A = held (srcM i) c Finset.univ Finset.univ fullShare (tv X c i)) (hB : den X c B = held (srcM i) c Finset.univ Finset.univ fullShare.right (tv X c i)) :
    sepL (den X c) (srcs i) ⊢ iprop(sendPay X c i ∗ sepL (den X c) (rests i)) := by
  rw [hs, hr]; unfold sendPay; rw [hq]; dsimp only [sepL]; rw [hA, hB]
  iintro ⟨H, He⟩
  ihave H := held_halve $$ H
  icases H with ⟨H, H'⟩
  isplitl [H]
  · iexact H
  isplitl [H']
  · iexact H'
  · iexact He
theorem half_join (i : Ix) {A B : Atom} (hs : srcs i = [A]) (hr : rests i = [B]) (hq : qS i = fullShare.left)
    (hA : den X c A = held (srcM i) c Finset.univ Finset.univ fullShare (tv X c i)) (hB : den X c B = held (srcM i) c Finset.univ Finset.univ fullShare.right (tv X c i)) :
    iprop(sendPay X c i ∗ sepL (den X c) (rests i)) ⊢ sepL (den X c) (srcs i) := by
  rw [hs, hr]; unfold sendPay; rw [hq]; dsimp only [sepL]; rw [hA, hB]
  iintro ⟨H, H', He⟩
  isplitl [H H']
  · iapply held_rejoin
    isplitl [H]
    · iexact H
    · iexact H'
  · iexact He

theorem tv_next3 (d : Bool) (sl n s : ℕ) : tvOf X (srcC d c) .p3 d sl n s = tvOf X c .p3 d sl (n + 1) s := by
  dsimp only [tvOf]; rw [Function.iterate_succ_apply]
theorem tv_next4 (d : Bool) (sl n s : ℕ) : tvOf X (srcP d c) .p4 d sl n s = tvOf X c .p4 d sl (n + 1) s := by
  dsimp only [tvOf]; rw [Function.iterate_succ_apply]

section
variable (d : Bool) (sl : Fin 2) (n : ℕ) (hn : n + 1 < 3) (s : Fin 2) (q : PosShare TreeShare)

theorem from3 : sdev c (before .p3 d sl n hn s) = srcC d c := by cases d <;> rfl
theorem next3 : held (dstM (before .p3 d sl n hn s)) c Finset.univ Finset.univ q (tv X (sdev c (before .p3 d sl n hn s)) (before .p3 d sl n hn s))
    = held (srcM ⟨.p3, d, sl, ⟨n + 1, hn⟩, s⟩) c Finset.univ Finset.univ q (tv X c ⟨.p3, d, sl, ⟨n + 1, hn⟩, s⟩) := by
  rw [from3]
  show held (p2slot (p3b d) sl ⟨n, by omega⟩ s) c Finset.univ Finset.univ q (tvOf X (srcC d c) .p3 d sl.val n s.val)
    = held (p2slot (p3b d) sl ⟨n, by omega⟩ s) c Finset.univ Finset.univ q (tvOf X c .p3 d sl.val (n + 1) s.val)
  rw [tv_next3]
theorem from4 : sdev c (before .p4 d sl n hn s) = srcP d c := by cases d <;> rfl
theorem next4 : held (dstM (before .p4 d sl n hn s)) c Finset.univ Finset.univ q (tv X (sdev c (before .p4 d sl n hn s)) (before .p4 d sl n hn s))
    = held (srcM ⟨.p4, d, sl, ⟨n + 1, hn⟩, s⟩) c Finset.univ Finset.univ q (tv X c ⟨.p4, d, sl, ⟨n + 1, hn⟩, s⟩) := by
  rw [from4]
  show held (p4slot (p4b d) sl ⟨n, by omega⟩ s) c Finset.univ Finset.univ q (tvOf X (srcP d c) .p4 d sl.val n s.val)
    = held (p4slot (p4b d) sl ⟨n, by omega⟩ s) c Finset.univ Finset.univ q (tvOf X c .p4 d sl.val (n + 1) s.val)
  rw [tv_next4]

end

theorem srcs_split : ∀ i, sepL (den X c) (srcs i) ⊢ iprop(sendPay X c i ∗ sepL (den X c) (rests i))
  | ⟨.p1, _, _, _, _⟩ => whole_split X c _ rfl rfl rfl rfl
  | ⟨.p2, _, _, _, _⟩ => whole_split X c _ rfl rfl rfl rfl
  | ⟨.p3, _, _, ⟨0, _⟩, _⟩ => half_split X c _ rfl rfl rfl rfl rfl
  | ⟨.p3, d, sl, ⟨n + 1, hn⟩, s⟩ => half_split X c _ rfl rfl rfl (next3 X c d sl n hn s fullShare) (next3 X c d sl n hn s fullShare.right)
  | ⟨.p4, _, _, ⟨0, _⟩, _⟩ => whole_split X c _ rfl rfl rfl rfl
  | ⟨.p4, d, sl, ⟨n + 1, hn⟩, s⟩ => half_split X c _ rfl rfl rfl (next4 X c d sl n hn s fullShare) (next4 X c d sl n hn s fullShare.right)
theorem srcs_join : ∀ i, iprop(sendPay X c i ∗ sepL (den X c) (rests i)) ⊢ sepL (den X c) (srcs i)
  | ⟨.p1, _, _, _, _⟩ => whole_join X c _ rfl rfl rfl rfl
  | ⟨.p2, _, _, _, _⟩ => whole_join X c _ rfl rfl rfl rfl
  | ⟨.p3, _, _, ⟨0, _⟩, _⟩ => half_join X c _ rfl rfl rfl rfl rfl
  | ⟨.p3, d, sl, ⟨n + 1, hn⟩, s⟩ => half_join X c _ rfl rfl rfl (next3 X c d sl n hn s fullShare) (next3 X c d sl n hn s fullShare.right)
  | ⟨.p4, _, _, ⟨0, _⟩, _⟩ => whole_join X c _ rfl rfl rfl rfl
  | ⟨.p4, d, sl, ⟨n + 1, hn⟩, s⟩ => half_join X c _ rfl rfl rfl (next4 X c d sl n hn s fullShare) (next4 X c d sl n hn s fullShare.right)

end

/-! ## Lists of pieces -/

section
variable {α : Type} {Φ : α → sProp (MT nD τ sig Unit (Elt F) ℕ UU ℕ)}

theorem sepL_append : ∀ l l' : List α, iprop(sepL Φ l ∗ sepL Φ l') ⊢ sepL Φ (l ++ l')
  | [], l' => by
    dsimp only [sepL, List.nil_append]
    iintro ⟨-, H⟩
    iexact H
  | a :: l, l' => by
    dsimp only [sepL, List.cons_append]
    iintro ⟨⟨Ha, H⟩, H'⟩
    isplitl [Ha]
    · iexact Ha
    · iapply (sepL_append l l')
      isplitl [H] <;> iassumption
theorem sepL_cons (a : α) (l : List α) : iprop(Φ a ∗ sepL Φ l) ⊢ sepL Φ (a :: l) := Entails.refl _
theorem sepL_unappend : ∀ l l' : List α, sepL Φ (l ++ l') ⊢ iprop(sepL Φ l ∗ sepL Φ l')
  | [], l' => by
    dsimp only [sepL, List.nil_append]
    iintro H
    isplitr
    · iempintro
    · iexact H
  | a :: l, l' => by
    dsimp only [sepL, List.cons_append]
    iintro ⟨Ha, H⟩
    ihave H := (sepL_unappend l l') $$ H
    icases H with ⟨H, H'⟩
    isplitl [Ha H]
    · isplitl [Ha] <;> iassumption
    · iexact H'
end

/-- One occurrence of a piece taken out of a list. -/
def pull (a : Atom) : List Atom → Option (List Atom)
  | [] => none
  | b :: l => if a = b then some l else (pull a l).map (b :: ·)
def pulls : List Atom → List Atom → Option (List Atom)
  | [], l => some l
  | a :: qs, l => (pull a l).bind (pulls qs)

theorem pull_sound {Φ : Atom → sProp 𝕄} {a : Atom} : ∀ {l l' : List Atom}, pull a l = some l' → (sepL Φ l ⊢ iprop(Φ a ∗ sepL Φ l'))
  | [], l', h => by cases h
  | b :: l, l', h => by
    unfold pull at h
    by_cases e : a = b
    · rw [if_pos e] at h; cases h; subst e; exact Entails.refl _
    · rw [if_neg e] at h
      obtain ⟨l₁, h₁, rfl⟩ := Option.map_eq_some_iff.mp h
      dsimp only [sepL]
      iintro ⟨Hb, H⟩
      ihave H := (pull_sound h₁) $$ H
      icases H with ⟨Ha, H⟩
      isplitl [Ha]
      · iexact Ha
      isplitl [Hb] <;> iassumption
theorem pulls_sound {Φ : Atom → sProp 𝕄} : ∀ {qs l l' : List Atom}, pulls qs l = some l' → (sepL Φ l ⊢ iprop(sepL Φ qs ∗ sepL Φ l'))
  | [], l, l', h => by
    cases h
    dsimp only [sepL]
    iintro H
    isplitr
    · iempintro
    · iexact H
  | a :: qs, l, l', h => by
    obtain ⟨l₁, h₁, h₂⟩ := Option.bind_eq_some_iff.mp h
    dsimp only [sepL]
    iintro H
    ihave H := (pull_sound h₁) $$ H
    icases H with ⟨Ha, H⟩
    ihave H := (pulls_sound h₂) $$ H
    icases H with ⟨Has, H⟩
    isplitl [Ha Has]
    · isplitl [Ha] <;> iassumption
    · iexact H

theorem pulls_cons {Φ : Atom → sProp 𝕄} {a : Atom} {qs l l' : List Atom} (h : pulls (a :: qs) l = some l') :
    sepL Φ l ⊢ iprop((Φ a ∗ sepL Φ qs) ∗ sepL Φ l') := pulls_sound h

/-! ## The bookkeeping -/

/-- The copies still to be started, and the pieces held. -/
abbrev Bk : Type := List Ix × List Atom

/-- One unit's bookkeeping, where it can run. -/
def step : Un → Bk → Option Bk
  | .send i, (l, L) => match l with
    | [] => none
    | j :: l => if j = i then (pulls (.unsent i :: srcs i) L).map fun L' => (l, .fly i :: (rests i ++ L')) else none
  | .wait i, (l, L) => if l.all (fun j => decide (lvl i < lvl j)) then (pulls [.await i] L).map fun L' => (l, .got i :: .land i :: L') else none
  | .waitS i, (l, L) => if l.isEmpty then (pulls (.fly i :: rests i) L).map fun L' => ([], .sdone i :: (srcs i ++ L')) else none
  | u, (l, L) => (pulls (takes u) L).map fun L' => (l, leaves u ++ L')
def steps : List Un → Bk → Option Bk
  | [], σ => some σ
  | u :: us, σ => (step u σ).bind (steps us)

section
variable (X : Dev nD → S4096x1024.Idx → Elt F .bf16) (K : Dev nD × CK → ℕ) (c : Dev nD)

/-- What the device holds at a state of the bookkeeping. -/
abbrev St (σ : Bk) : sProp 𝕄 := iprop(owing c σ.1 ∗ xHeld X c ∗ sepL (den X c) σ.2)

theorem step_own (u : Un) (ht : Trip c iprop(xHeld X c ∗ sepL (den X c) (takes u)) u iprop(xHeld X c ∗ sepL (den X c) (leaves u)))
    {l : List Ix} {L : List Atom} {σ' : Bk} (h : ((pulls (takes u) L).map fun L' => (l, leaves u ++ L')) = some σ') (P : TProg F) (Q : PUnit → sProp 𝕄) :
    iprop(recs X K ∗ St X c (l, L)) ⊢ iprop((St X c σ' -∗ WP c P Q) -∗ WP c (runU c u P) Q) := by
  obtain ⟨L', hp, rfl⟩ := Option.map_eq_some_iff.mp h
  iintro ⟨-, HO, Hx, HL⟩ Hk
  ihave HL := (pulls_sound hp) $$ HL
  icases HL with ⟨Ht, HL⟩
  iapply (ht P Q) $$ [Hx Ht]
  · isplitl [Hx] <;> iassumption
  iintro ⟨Hx, Ht⟩
  iapply Hk
  isplitl [HO]
  · iexact HO
  isplitl [Hx]
  · iexact Hx
  · iapply (sepL_append (Φ := den X c))
    isplitl [Ht] <;> iassumption

theorem step_sound : ∀ (u : Un) (σ σ' : Bk), step u σ = some σ' → ∀ (P : TProg F) (Q : PUnit → sProp 𝕄),
    iprop(recs X K ∗ St X c σ) ⊢ iprop((St X c σ' -∗ WP c P Q) -∗ WP c (runU c u P) Q)
  | .send i, (l, L), σ', h, P, Q => by
    match l, h with
    | j :: l, h =>
      have h : (if j = i then (pulls (.unsent i :: srcs i) L).map fun L' => (l, Atom.fly i :: (rests i ++ L')) else none) = some σ' := h
      split at h
      · rename_i e; subst e
        obtain ⟨L', hp, rfl⟩ := Option.map_eq_some_iff.mp h
        iintro ⟨#HR, HO, Hx, HL⟩ Hk
        ihave HL := (pulls_cons (Φ := den X c) hp) $$ HL
        icases HL with ⟨⟨Hu, Hs⟩, HL⟩
        ihave Hs := (srcs_split X c j) $$ Hs
        icases Hs with ⟨Hs, Hr⟩
        iapply (step_send X K c j l P Q) $$ [HO Hu Hs]
        · isplitr
          · iexact HR
          isplitl [HO]
          · iexact HO
          isplitl [Hu] <;> iassumption
        iintro ⟨HO, Hf⟩
        iapply Hk
        isplitl [HO]
        · iexact HO
        isplitl [Hx]
        · iexact Hx
        iapply (sepL_cons (Φ := den X c) (.fly j) (rests j ++ L'))
        isplitl [Hf]
        · iexact Hf
        · iapply (sepL_append (Φ := den X c))
          isplitl [Hr] <;> iassumption
      · cases h
  | .wait i, (l, L), σ', h, P, Q => by
    have h : (if l.all (fun j => decide (lvl i < lvl j)) then (pulls [.await i] L).map fun L' => (l, Atom.got i :: Atom.land i :: L') else none) = some σ' := h
    split at h
    · rename_i e
      have hl : ∀ j ∈ l, lvl i < lvl j := fun j hj => of_decide_eq_true (List.all_eq_true.mp e j hj)
      obtain ⟨L', hp, rfl⟩ := Option.map_eq_some_iff.mp h
      iintro ⟨#HR, HO, Hx, HL⟩ Hk
      ihave HL := (pulls_cons (Φ := den X c) hp) $$ HL
      icases HL with ⟨⟨Hu, -⟩, HL⟩
      iapply (step_wait X K c i l hl P Q) $$ [HO Hu]
      · isplitr
        · iexact HR
        isplitl [HO] <;> iassumption
      iintro ⟨HO, Hg, Hl⟩
      iapply Hk
      isplitl [HO]
      · iexact HO
      isplitl [Hx]
      · iexact Hx
      iapply (sepL_cons (Φ := den X c) (.got i) (.land i :: L'))
      isplitl [Hg]
      · iexact Hg
      iapply (sepL_cons (Φ := den X c) (.land i) L')
      isplitl [Hl] <;> iassumption
    · cases h
  | .waitS i, (l, L), σ', h, P, Q => by
    have h : (if l.isEmpty then (pulls (.fly i :: rests i) L).map fun L' => (([] : List Ix), Atom.sdone i :: (srcs i ++ L')) else none) = some σ' := h
    split at h
    · rename_i e
      obtain rfl := List.isEmpty_iff.mp e
      obtain ⟨L', hp, rfl⟩ := Option.map_eq_some_iff.mp h
      iintro ⟨#HR, HO, Hx, HL⟩ Hk
      ihave HL := (pulls_cons (Φ := den X c) hp) $$ HL
      icases HL with ⟨⟨Hf, Hr⟩, HL⟩
      iapply (step_waitS X K c i P Q) $$ [HO Hf]
      · isplitr
        · iexact HR
        isplitl [HO] <;> iassumption
      iintro ⟨HO, Hg, Hp⟩
      iapply Hk
      isplitl [HO]
      · iexact HO
      isplitl [Hx]
      · iexact Hx
      iapply (sepL_cons (Φ := den X c) (.sdone i) (srcs i ++ L'))
      isplitl [Hg]
      · iexact Hg
      · iapply (sepL_append (Φ := den X c))
        isplitl [Hp Hr]
        · iapply (srcs_join X c i)
          isplitl [Hp] <;> iassumption
        · iexact HL
    · cases h
  | .seed1 d sl s, (_, _), _, h, P, Q => step_own X K c _ (trip_seed1 X c d sl s) h P Q
  | .hop1 d sl h s, (_, _), _, e, P, Q => step_own X K c _ (trip_hop1 X c d sl s h) e P Q
  | .fin1 d sl s, (_, _), _, h, P, Q => step_own X K c _ (trip_fin1 X c d sl s) h P Q
  | .seed2 d sl s, (_, _), _, h, P, Q => step_own X K c _ (trip_seed2 X c d sl s) h P Q
  | .hop2 d sl h s, (_, _), _, e, P, Q => step_own X K c _ (trip_hop2 X c d sl s h) e P Q
  | .fin2 d sl s, (_, _), _, h, P, Q => step_own X K c _ (trip_fin2 X c d sl s) h P Q
  | .own3 d sl, (_, _), _, h, P, Q => step_own X K c _ (trip_own3 X c d sl) h P Q
  | .fin3 d sl h, (_, _), _, e, P, Q => step_own X K c _ (trip_fin3 X c d sl h) e P Q
  | .split d sl, (_, _), _, h, P, Q => step_own X K c _ (trip_split X c d sl) h P Q
  | .fin4 d sl h, (_, _), _, e, P, Q => step_own X K c _ (trip_fin4 X c d sl h) e P Q

theorem steps_sound : ∀ (us : List Un) (σ σ' : Bk), steps us σ = some σ' → ∀ (P : TProg F) (Q : PUnit → sProp 𝕄),
    iprop(recs X K ∗ St X c σ) ⊢ iprop((St X c σ' -∗ WP c P Q) -∗ WP c (runL c us P) Q)
  | [], σ, σ', h, P, Q => by
    cases h
    iintro ⟨-, H⟩ Hk
    iapply Hk
    iexact H
  | u :: us, σ, σ', h, P, Q => by
    obtain ⟨σ₁, h₁, h₂⟩ := Option.bind_eq_some_iff.mp h
    iintro ⟨#HR, H⟩ Hk
    iapply (step_sound X K c u σ σ₁ h₁ (runL c us P) Q) $$ [H]
    · isplitr
      · iexact HR
      · iexact H
    iintro H
    iapply (steps_sound us σ₁ σ' h₂ P Q) $$ [H]
    · isplitr
      · iexact HR
      · iexact H
    · iexact Hk

end

/-! ## The body's bookkeeping comes out -/

/-- The slab, hop and half of a copy. -/
abbrev T : Type := Fin 2 × Fin 3 × Fin 2
abbrev ixOf (ph : Ph) (d : Bool) (t : T) : Ix := ⟨ph, d, t.1, t.2.1, t.2.2⟩
def ts : List T := [(0, 0, 0), (0, 0, 1), (0, 1, 0), (0, 1, 1), (0, 2, 0), (0, 2, 1), (1, 0, 0), (1, 0, 1), (1, 1, 0), (1, 1, 1), (1, 2, 0), (1, 2, 1)]
/-- The slab and half of a first hop. -/
abbrev T0 : Type := Fin 2 × Fin 2
abbrev ixOf0 (ph : Ph) (d : Bool) (t : T0) : Ix := ⟨ph, d, t.1, 0, t.2⟩
def ts0 : List T0 := [(0, 0), (0, 1), (1, 0), (1, 1)]
def pds : List (Ph × Bool) := [(.p1, true), (.p1, false), (.p2, true), (.p2, false), (.p3, true), (.p3, false), (.p4, true), (.p4, false)]
def allIx : List Ix := pds.flatMap fun p => ts.map (ixOf p.1 p.2)

/-- The copies in the order they are started. -/
def sendOrder : List Ix := prog.filterMap fun | .send i => some i | _ => none

/-- The pieces of one direction's scratch buffers and output slabs before the body. -/
def L₀d (d : Bool) : List Atom :=
  ts.map (fun t => .stg (ixOf .p1 d t) false) ++ (ts.map (fun t => .stg (ixOf .p2 d t) false) ++ (ts0.map (fun t => .stg (ixOf0 .p3 d t) false)
    ++ [.res d 0 0, .res d 1 0, .resp d 0 0, .resp d 1 0, .out d 0 0, .out d 1 0]))
/-- And after it. -/
def L₁d (d : Bool) : List Atom :=
  ts.map (fun t => .stg (ixOf .p1 d t) true) ++ (ts.map (fun t => .stg (ixOf .p2 d t) true) ++ (ts0.map (fun t => .stg (ixOf0 .p3 d t) true)
    ++ (ts0.map (fun t => .stg (ixOf0 .p4 d t) true) ++ [.res d 0 2, .res d 1 2, .out d 0 7, .out d 1 7])))
def L₀ : List Atom := allIx.map .unsent ++ (allIx.map .await ++ (L₀d true ++ L₀d false))
def L₁ : List Atom := allIx.map .sdone ++ (allIx.map .got ++ (allIx.map .land ++ (L₁d true ++ L₁d false)))

def isDone : Option Bk → Bool
  | some (l, L) => l.isEmpty && (match pulls L₁ L with | some [] => true | _ => false)
  | none => false

theorem prog_runs : isDone (steps prog (sendOrder, L₀)) = true := by decide +kernel

theorem prog_steps : ∃ L, steps prog (sendOrder, L₀) = some ([], L) ∧ pulls L₁ L = some [] := by
  have h := prog_runs
  generalize steps prog (sendOrder, L₀) = o at h
  match o, h with
  | some (l, L), h =>
    have h : (l.isEmpty && (match pulls L₁ L with | some [] => true | _ => false)) = true := h
    rw [Bool.and_eq_true] at h
    obtain ⟨h1, h2⟩ := h
    obtain rfl := List.isEmpty_iff.mp h1
    refine ⟨L, rfl, ?_⟩
    generalize pulls L₁ L = p at h2
    match p, h2 with
    | some [], _ => rfl

end Cert.KernelIdealProof
end
-- ==== Proof.KernelIdeal.Whole.lean ====
/-
# The buffers and their pieces

A whole scratch buffer is its slots, and back; the four column slabs are the result.
-/
module

public import proofs.«01_k».proof.Proof.KernelIdeal.Steps

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Lists and finite families -/

theorem sepL_bigSep {α : Type} [DecidableEq α] {Φ : α → sProp 𝕄} : ∀ {l : List α}, l.Nodup → sepL Φ l = bigSep l.toFinset Φ
  | [], _ => by rw [List.toFinset_nil, bigSep_empty]; rfl
  | a :: l, h => by
    rw [List.toFinset_cons, bigSep_insert (by rw [List.mem_toFinset]; exact (List.nodup_cons.mp h).1), ← sepL_bigSep (List.nodup_cons.mp h).2]
    rfl
theorem sepL_map {α β : Type} {Φ : β → sProp 𝕄} (f : α → β) : ∀ l : List α, sepL Φ (l.map f) = sepL (fun a => Φ (f a)) l
  | [] => rfl
  | a :: l => by rw [List.map_cons]; dsimp only [sepL]; rw [sepL_map f l]
theorem sepL_mono {α : Type} {Φ Ψ : α → sProp 𝕄} (h : ∀ a, Φ a ⊢ Ψ a) : ∀ l : List α, sepL Φ l ⊢ sepL Ψ l
  | [] => Entails.refl _
  | a :: l => by dsimp only [sepL]; exact BIClass.sep_mono (h a) (sepL_mono h l)

section Family
variable {sp : Space} {s : Shape} {e : EltTy} {M : Memref sig .tc sp s e} {c : Dev nD} {f : s.Idx → Elt F e}
variable {α : Type} [DecidableEq α] {l : List α} {R : α → Finset s.Idx} {A : α → sProp (MT nD τ sig Unit (Elt F) ℕ UU ℕ)}

theorem cover (hc : ∀ y, ∃ t ∈ l, y ∈ R t) : l.toFinset.biUnion R = Finset.univ :=
  Finset.eq_univ_iff_forall.mpr fun y => by obtain ⟨t, ht, hy⟩ := hc y; exact Finset.mem_biUnion.mpr ⟨t, List.mem_toFinset.mpr ht, hy⟩

theorem fam_open (hl : l.Nodup) (hn : l ≠ []) (hc : ∀ y, ∃ t ∈ l, y ∈ R t) (hd : ∀ t t', t ≠ t' → Disjoint (R t) (R t'))
    (h : ∀ t, held M c (R t) ∅ fullShare f ⊢ A t) : held M c Finset.univ ∅ fullShare f ⊢ sepL A l := by
  rw [sepL_bigSep (Φ := A) hl, ← cover hc]
  exact (held_splits _ R (fun t _ t' _ => hd t t') (List.toFinset_nonempty_iff _ |>.mpr hn)).trans (bigSep_mono fun t _ => h t)

theorem fam_close (hl : l.Nodup) (hn : l ≠ []) (hc : ∀ y, ∃ t ∈ l, y ∈ R t) (hd : ∀ t t', t ≠ t' → Disjoint (R t) (R t'))
    (V : α → Finset s.Idx) (hV : ∀ t, V t ⊆ R t)
    (h : ∀ t, A t ⊢ held M c (R t) (V t) fullShare f) : sepL A l ⊢ held M c Finset.univ (l.toFinset.biUnion V) fullShare f := by
  rw [sepL_bigSep (Φ := A) hl, ← cover hc]
  exact (bigSep_mono fun t _ => h t).trans (held_joins _ R V (fun t _ => hV t) (fun t _ t' _ => hd t t') (List.toFinset_nonempty_iff _ |>.mpr hn))

theorem fam_close0 (hl : l.Nodup) (hn : l ≠ []) (hc : ∀ y, ∃ t ∈ l, y ∈ R t) (hd : ∀ t t', t ≠ t' → Disjoint (R t) (R t'))
    (h : ∀ t, A t ⊢ held M c (R t) ∅ fullShare f) : sepL A l ⊢ held M c Finset.univ ∅ fullShare f :=
  (fam_close hl hn hc hd (fun _ => ∅) (fun _ => Finset.empty_subset _) h).trans (held_mono (Finset.empty_subset _) fun _ _ => rfl)

end Family

/-! ## The slots of a buffer -/

theorem ts_nodup : ts.Nodup := by decide
theorem ts_all : ∀ t : T, t ∈ ts := by decide
theorem ts0_nodup : ts0.Nodup := by decide
theorem ts0_all : ∀ t : T0, t ∈ ts0 := by decide

theorem slots_apart {s : Shape} {R : T → Finset s.Idx} {a b d : Fin s.rank} (h : ∀ t y, y ∈ R t ↔ (y a).val = t.1.val ∧ (y b).val = t.2.1.val ∧ (y d).val = t.2.2.val)
    (t t' : T) (hne : t ≠ t') : Disjoint (R t) (R t') := Finset.disjoint_left.mpr fun y h1 h2 => hne (by
  have e := (h t y).mp h1; have e' := (h t' y).mp h2
  exact Prod.ext (Fin.ext (e.1.symm.trans e'.1)) (Prod.ext (Fin.ext (e.2.1.symm.trans e'.2.1)) (Fin.ext (e.2.2.symm.trans e'.2.2))))

section
variable (X : Dev nD → S4096x1024.Idx → Elt F .bf16) (c : Dev nD) (d : Bool)

theorem p1s_put (sl : Fin 2) (h : Fin 3) (s : Fin 2) : held (p1s d) c (slot1 sl h s).set ∅ fullShare (p1sF X c d) ⊢ den X c (.stg ⟨.p1, d, sl, h, s⟩ false) :=
  slot_in_none (M := p1s d) (r := slot1 sl h s) (hu := fun _ => rfl) (hq := squeezes_S1x1x1x512x256_S512x256)
theorem p1s_get (sl : Fin 2) (h : Fin 3) (s : Fin 2) : den X c (.stg ⟨.p1, d, sl, h, s⟩ false) ⊢ held (p1s d) c (slot1 sl h s).set ∅ fullShare (p1sF X c d) :=
  slot_out_none (M := p1s d) (r := slot1 sl h s) (hu := fun _ => rfl) (hq := squeezes_S1x1x1x512x256_S512x256)
theorem p1s_cover (y) : ∃ t ∈ ts, y ∈ (slot1 t.1 t.2.1 t.2.2).set :=
  ⟨(⟨(y 0).val, (y 0).isLt⟩, ⟨(y 1).val, (y 1).isLt⟩, ⟨(y 2).val, (y 2).isLt⟩), ts_all _, (mem_slot1 ..).mpr ⟨rfl, rfl, rfl⟩⟩
theorem p1s_apart (t t' : T) (hne : t ≠ t') : Disjoint (slot1 t.1 t.2.1 t.2.2).set (slot1 t'.1 t'.2.1 t'.2.2).set :=
  slots_apart (R := fun t : T => (slot1 t.1 t.2.1 t.2.2).set) (a := 0) (b := 1) (d := 2) (fun t y => mem_slot1 t.1 t.2.1 t.2.2 y) t t' hne
theorem p1s_open : held (p1s d) c Finset.univ ∅ fullShare (p1sF X c d) ⊢ sepL (fun t => den X c (.stg (ixOf .p1 d t) false)) ts :=
  fam_open (M := p1s d) (c := c) (f := p1sF X c d) (l := ts) (α := T) (R := fun t : T => (slot1 t.1 t.2.1 t.2.2).set) (A := fun t : T => den X c (.stg (ixOf .p1 d t) false)) ts_nodup (List.cons_ne_nil _ _) (p1s_cover) (p1s_apart)
    fun t => p1s_put X c d t.1 t.2.1 t.2.2
theorem p1s_close : sepL (fun t => den X c (.stg (ixOf .p1 d t) false)) ts ⊢ held (p1s d) c Finset.univ ∅ fullShare (p1sF X c d) :=
  fam_close0 (M := p1s d) (c := c) (f := p1sF X c d) (l := ts) (α := T) (R := fun t : T => (slot1 t.1 t.2.1 t.2.2).set) (A := fun t : T => den X c (.stg (ixOf .p1 d t) false)) ts_nodup (List.cons_ne_nil _ _) (p1s_cover) (p1s_apart)
    fun t => p1s_get X c d t.1 t.2.1 t.2.2
theorem p1r_put (sl : Fin 2) (h : Fin 3) (s : Fin 2) : held (p1r d) c (slot1 sl h s).set ∅ fullShare (p1rF X c d) ⊢ room X c ⟨.p1, d, sl, h, s⟩ :=
  slot_in_none (M := p1r d) (r := slot1 sl h s) (hu := fun _ => rfl) (hq := squeezes_S1x1x1x512x256_S512x256)
theorem p1r_get (sl : Fin 2) (h : Fin 3) (s : Fin 2) : room X c ⟨.p1, d, sl, h, s⟩ ⊢ held (p1r d) c (slot1 sl h s).set ∅ fullShare (p1rF X c d) :=
  slot_out_none (M := p1r d) (r := slot1 sl h s) (hu := fun _ => rfl) (hq := squeezes_S1x1x1x512x256_S512x256)
theorem p1r_cover (y) : ∃ t ∈ ts, y ∈ (slot1 t.1 t.2.1 t.2.2).set :=
  ⟨(⟨(y 0).val, (y 0).isLt⟩, ⟨(y 1).val, (y 1).isLt⟩, ⟨(y 2).val, (y 2).isLt⟩), ts_all _, (mem_slot1 ..).mpr ⟨rfl, rfl, rfl⟩⟩
theorem p1r_apart (t t' : T) (hne : t ≠ t') : Disjoint (slot1 t.1 t.2.1 t.2.2).set (slot1 t'.1 t'.2.1 t'.2.2).set :=
  slots_apart (R := fun t : T => (slot1 t.1 t.2.1 t.2.2).set) (a := 0) (b := 1) (d := 2) (fun t y => mem_slot1 t.1 t.2.1 t.2.2 y) t t' hne
theorem p1r_open : held (p1r d) c Finset.univ ∅ fullShare (p1rF X c d) ⊢ sepL (fun t => room X c (ixOf .p1 d t)) ts :=
  fam_open (M := p1r d) (c := c) (f := p1rF X c d) (l := ts) (α := T) (R := fun t : T => (slot1 t.1 t.2.1 t.2.2).set) (A := fun t : T => room X c (ixOf .p1 d t)) ts_nodup (List.cons_ne_nil _ _) (p1r_cover) (p1r_apart)
    fun t => p1r_put X c d t.1 t.2.1 t.2.2
theorem p1r_close : sepL (fun t => room X c (ixOf .p1 d t)) ts ⊢ held (p1r d) c Finset.univ ∅ fullShare (p1rF X c d) :=
  fam_close0 (M := p1r d) (c := c) (f := p1rF X c d) (l := ts) (α := T) (R := fun t : T => (slot1 t.1 t.2.1 t.2.2).set) (A := fun t : T => room X c (ixOf .p1 d t)) ts_nodup (List.cons_ne_nil _ _) (p1r_cover) (p1r_apart)
    fun t => p1r_get X c d t.1 t.2.1 t.2.2
theorem p2s_put (sl : Fin 2) (h : Fin 3) (s : Fin 2) : held (p2s d) c (slot2 sl h s).set ∅ fullShare (p2sF X c d) ⊢ den X c (.stg ⟨.p2, d, sl, h, s⟩ false) :=
  slot_in_none (M := p2s d) (r := slot2 sl h s) (hu := fun _ => rfl) (hq := squeezes_S1x1x1x128x256_S128x256)
theorem p2s_get (sl : Fin 2) (h : Fin 3) (s : Fin 2) : den X c (.stg ⟨.p2, d, sl, h, s⟩ false) ⊢ held (p2s d) c (slot2 sl h s).set ∅ fullShare (p2sF X c d) :=
  slot_out_none (M := p2s d) (r := slot2 sl h s) (hu := fun _ => rfl) (hq := squeezes_S1x1x1x128x256_S128x256)
theorem p2s_cover (y) : ∃ t ∈ ts, y ∈ (slot2 t.1 t.2.1 t.2.2).set :=
  ⟨(⟨(y 0).val, (y 0).isLt⟩, ⟨(y 1).val, (y 1).isLt⟩, ⟨(y 2).val, (y 2).isLt⟩), ts_all _, (mem_slot2 ..).mpr ⟨rfl, rfl, rfl⟩⟩
theorem p2s_apart (t t' : T) (hne : t ≠ t') : Disjoint (slot2 t.1 t.2.1 t.2.2).set (slot2 t'.1 t'.2.1 t'.2.2).set :=
  slots_apart (R := fun t : T => (slot2 t.1 t.2.1 t.2.2).set) (a := 0) (b := 1) (d := 2) (fun t y => mem_slot2 t.1 t.2.1 t.2.2 y) t t' hne
theorem p2s_open : held (p2s d) c Finset.univ ∅ fullShare (p2sF X c d) ⊢ sepL (fun t => den X c (.stg (ixOf .p2 d t) false)) ts :=
  fam_open (M := p2s d) (c := c) (f := p2sF X c d) (l := ts) (α := T) (R := fun t : T => (slot2 t.1 t.2.1 t.2.2).set) (A := fun t : T => den X c (.stg (ixOf .p2 d t) false)) ts_nodup (List.cons_ne_nil _ _) (p2s_cover) (p2s_apart)
    fun t => p2s_put X c d t.1 t.2.1 t.2.2
theorem p2s_close : sepL (fun t => den X c (.stg (ixOf .p2 d t) false)) ts ⊢ held (p2s d) c Finset.univ ∅ fullShare (p2sF X c d) :=
  fam_close0 (M := p2s d) (c := c) (f := p2sF X c d) (l := ts) (α := T) (R := fun t : T => (slot2 t.1 t.2.1 t.2.2).set) (A := fun t : T => den X c (.stg (ixOf .p2 d t) false)) ts_nodup (List.cons_ne_nil _ _) (p2s_cover) (p2s_apart)
    fun t => p2s_get X c d t.1 t.2.1 t.2.2
theorem p2r_put (sl : Fin 2) (h : Fin 3) (s : Fin 2) : held (p2r d) c (slot2 sl h s).set ∅ fullShare (p2rF X c d) ⊢ room X c ⟨.p2, d, sl, h, s⟩ :=
  slot_in_none (M := p2r d) (r := slot2 sl h s) (hu := fun _ => rfl) (hq := squeezes_S1x1x1x128x256_S128x256)
theorem p2r_get (sl : Fin 2) (h : Fin 3) (s : Fin 2) : room X c ⟨.p2, d, sl, h, s⟩ ⊢ held (p2r d) c (slot2 sl h s).set ∅ fullShare (p2rF X c d) :=
  slot_out_none (M := p2r d) (r := slot2 sl h s) (hu := fun _ => rfl) (hq := squeezes_S1x1x1x128x256_S128x256)
theorem p2r_cover (y) : ∃ t ∈ ts, y ∈ (slot2 t.1 t.2.1 t.2.2).set :=
  ⟨(⟨(y 0).val, (y 0).isLt⟩, ⟨(y 1).val, (y 1).isLt⟩, ⟨(y 2).val, (y 2).isLt⟩), ts_all _, (mem_slot2 ..).mpr ⟨rfl, rfl, rfl⟩⟩
theorem p2r_apart (t t' : T) (hne : t ≠ t') : Disjoint (slot2 t.1 t.2.1 t.2.2).set (slot2 t'.1 t'.2.1 t'.2.2).set :=
  slots_apart (R := fun t : T => (slot2 t.1 t.2.1 t.2.2).set) (a := 0) (b := 1) (d := 2) (fun t y => mem_slot2 t.1 t.2.1 t.2.2 y) t t' hne
theorem p2r_open : held (p2r d) c Finset.univ ∅ fullShare (p2rF X c d) ⊢ sepL (fun t => room X c (ixOf .p2 d t)) ts :=
  fam_open (M := p2r d) (c := c) (f := p2rF X c d) (l := ts) (α := T) (R := fun t : T => (slot2 t.1 t.2.1 t.2.2).set) (A := fun t : T => room X c (ixOf .p2 d t)) ts_nodup (List.cons_ne_nil _ _) (p2r_cover) (p2r_apart)
    fun t => p2r_put X c d t.1 t.2.1 t.2.2
theorem p2r_close : sepL (fun t => room X c (ixOf .p2 d t)) ts ⊢ held (p2r d) c Finset.univ ∅ fullShare (p2rF X c d) :=
  fam_close0 (M := p2r d) (c := c) (f := p2rF X c d) (l := ts) (α := T) (R := fun t : T => (slot2 t.1 t.2.1 t.2.2).set) (A := fun t : T => room X c (ixOf .p2 d t)) ts_nodup (List.cons_ne_nil _ _) (p2r_cover) (p2r_apart)
    fun t => p2r_get X c d t.1 t.2.1 t.2.2
theorem p3b_put (sl : Fin 2) (h : Fin 3) (s : Fin 2) : held (p3b d) c (slot2 sl h s).set ∅ fullShare (p3F X c d) ⊢ room X c ⟨.p3, d, sl, h, s⟩ :=
  slot_in_none (M := p3b d) (r := slot2 sl h s) (hu := fun _ => rfl) (hq := squeezes_S1x1x1x128x256_S128x256)
theorem p3b_get (sl : Fin 2) (h : Fin 3) (s : Fin 2) : room X c ⟨.p3, d, sl, h, s⟩ ⊢ held (p3b d) c (slot2 sl h s).set ∅ fullShare (p3F X c d) :=
  slot_out_none (M := p3b d) (r := slot2 sl h s) (hu := fun _ => rfl) (hq := squeezes_S1x1x1x128x256_S128x256)
theorem p3b_cover (y) : ∃ t ∈ ts, y ∈ (slot2 t.1 t.2.1 t.2.2).set :=
  ⟨(⟨(y 0).val, (y 0).isLt⟩, ⟨(y 1).val, (y 1).isLt⟩, ⟨(y 2).val, (y 2).isLt⟩), ts_all _, (mem_slot2 ..).mpr ⟨rfl, rfl, rfl⟩⟩
theorem p3b_apart (t t' : T) (hne : t ≠ t') : Disjoint (slot2 t.1 t.2.1 t.2.2).set (slot2 t'.1 t'.2.1 t'.2.2).set :=
  slots_apart (R := fun t : T => (slot2 t.1 t.2.1 t.2.2).set) (a := 0) (b := 1) (d := 2) (fun t y => mem_slot2 t.1 t.2.1 t.2.2 y) t t' hne
theorem p3b_open : held (p3b d) c Finset.univ ∅ fullShare (p3F X c d) ⊢ sepL (fun t => room X c (ixOf .p3 d t)) ts :=
  fam_open (M := p3b d) (c := c) (f := p3F X c d) (l := ts) (α := T) (R := fun t : T => (slot2 t.1 t.2.1 t.2.2).set) (A := fun t : T => room X c (ixOf .p3 d t)) ts_nodup (List.cons_ne_nil _ _) (p3b_cover) (p3b_apart)
    fun t => p3b_put X c d t.1 t.2.1 t.2.2
theorem p3b_close : sepL (fun t => room X c (ixOf .p3 d t)) ts ⊢ held (p3b d) c Finset.univ ∅ fullShare (p3F X c d) :=
  fam_close0 (M := p3b d) (c := c) (f := p3F X c d) (l := ts) (α := T) (R := fun t : T => (slot2 t.1 t.2.1 t.2.2).set) (A := fun t : T => room X c (ixOf .p3 d t)) ts_nodup (List.cons_ne_nil _ _) (p3b_cover) (p3b_apart)
    fun t => p3b_get X c d t.1 t.2.1 t.2.2
theorem p4b_put (sl : Fin 2) (h : Fin 3) (s : Fin 2) : held (p4b d) c (slot4 sl h s).set ∅ fullShare (p4F X c d) ⊢ room X c ⟨.p4, d, sl, h, s⟩ :=
  slot_in_none (M := p4b d) (r := slot4 sl h s) (hu := fun _ => rfl) (hq := squeezes_S1x1x1x2x256x256_S2x256x256)
theorem p4b_get (sl : Fin 2) (h : Fin 3) (s : Fin 2) : room X c ⟨.p4, d, sl, h, s⟩ ⊢ held (p4b d) c (slot4 sl h s).set ∅ fullShare (p4F X c d) :=
  slot_out_none (M := p4b d) (r := slot4 sl h s) (hu := fun _ => rfl) (hq := squeezes_S1x1x1x2x256x256_S2x256x256)
theorem p4b_cover (y) : ∃ t ∈ ts, y ∈ (slot4 t.1 t.2.1 t.2.2).set :=
  ⟨(⟨(y 0).val, (y 0).isLt⟩, ⟨(y 1).val, (y 1).isLt⟩, ⟨(y 2).val, (y 2).isLt⟩), ts_all _, (mem_slot4 ..).mpr ⟨rfl, rfl, rfl⟩⟩
theorem p4b_apart (t t' : T) (hne : t ≠ t') : Disjoint (slot4 t.1 t.2.1 t.2.2).set (slot4 t'.1 t'.2.1 t'.2.2).set :=
  slots_apart (R := fun t : T => (slot4 t.1 t.2.1 t.2.2).set) (a := 0) (b := 1) (d := 2) (fun t y => mem_slot4 t.1 t.2.1 t.2.2 y) t t' hne
theorem p4b_open : held (p4b d) c Finset.univ ∅ fullShare (p4F X c d) ⊢ sepL (fun t => room X c (ixOf .p4 d t)) ts :=
  fam_open (M := p4b d) (c := c) (f := p4F X c d) (l := ts) (α := T) (R := fun t : T => (slot4 t.1 t.2.1 t.2.2).set) (A := fun t : T => room X c (ixOf .p4 d t)) ts_nodup (List.cons_ne_nil _ _) (p4b_cover) (p4b_apart)
    fun t => p4b_put X c d t.1 t.2.1 t.2.2
theorem p4b_close : sepL (fun t => room X c (ixOf .p4 d t)) ts ⊢ held (p4b d) c Finset.univ ∅ fullShare (p4F X c d) :=
  fam_close0 (M := p4b d) (c := c) (f := p4F X c d) (l := ts) (α := T) (R := fun t : T => (slot4 t.1 t.2.1 t.2.2).set) (A := fun t : T => room X c (ixOf .p4 d t)) ts_nodup (List.cons_ne_nil _ _) (p4b_cover) (p4b_apart)
    fun t => p4b_get X c d t.1 t.2.1 t.2.2

theorem halves_apart {s : Shape} {R : T0 → Finset s.Idx} {a b : Fin s.rank} {n : ℕ} (h : ∀ t y, y ∈ R t ↔ (y a).val = t.1.val ∧ (y b).val / n = t.2.val)
    (t t' : T0) (hne : t ≠ t') : Disjoint (R t) (R t') := Finset.disjoint_left.mpr fun y h1 h2 => hne (by
  have e := (h t y).mp h1; have e' := (h t' y).mp h2
  exact Prod.ext (Fin.ext (e.1.symm.trans e'.1)) (Fin.ext (e.2.symm.trans e'.2)))

theorem redH_cover (y : S2x256x256.Idx) : ∃ t ∈ ts0, y ∈ (redH t.1 t.2).set :=
  ⟨(⟨(y 0).val, (y 0).isLt⟩, ⟨(y 1).val / 128, Nat.div_lt_of_lt_mul (y 1).isLt⟩), ts0_all _, (mem_redH ..).mpr ⟨rfl, rfl⟩⟩
theorem half_cover (y : S2x4x256x256.Idx) : ∃ t ∈ ts0, y ∈ (half t.1 t.2).set :=
  ⟨(⟨(y 0).val, (y 0).isLt⟩, ⟨(y 1).val / 2, Nat.div_lt_of_lt_mul (y 1).isLt⟩), ts0_all _, (mem_half ..).mpr ⟨rfl, rfl⟩⟩

theorem redH_apart (t t' : T0) (hne : t ≠ t') : Disjoint (redH t.1 t.2).set (redH t'.1 t'.2).set :=
  halves_apart (R := fun t : T0 => (redH t.1 t.2).set) (a := 0) (b := 1) (n := 128) (fun t y => mem_redH t.1 t.2 y) t t' hne
theorem halfs_apart (t t' : T0) (hne : t ≠ t') : Disjoint (half t.1 t.2).set (half t'.1 t'.2).set :=
  halves_apart (R := fun t : T0 => (half t.1 t.2).set) (a := 0) (b := 1) (n := 2) (fun t y => mem_half t.1 t.2 y) t t' hne
theorem red_put (sl s : Fin 2) : held (redM d) c (redH sl s).set ∅ fullShare (redF X c d) ⊢ den X c (.stg ⟨.p3, d, sl, 0, s⟩ false) :=
  slot_in_none (M := redM d) (r := redH sl s) (hu := fun _ => rfl) (hq := squeezes_S1x128x256_S128x256)
theorem red_open : held (redM d) c Finset.univ ∅ fullShare (redF X c d) ⊢ sepL (fun t => den X c (.stg (ixOf0 .p3 d t) false)) ts0 :=
  fam_open (M := redM d) (c := c) (f := redF X c d) (l := ts0) (α := T0) (R := fun t : T0 => (redH t.1 t.2).set) (A := fun t : T0 => den X c (.stg (ixOf0 .p3 d t) false)) ts0_nodup (List.cons_ne_nil _ _) redH_cover redH_apart
    fun t => red_put X c d t.1 t.2
theorem red_get (sl s : Fin 2) : den X c (.stg ⟨.p3, d, sl, 0, s⟩ false) ⊢ held (redM d) c (redH sl s).set ∅ fullShare (redF X c d) :=
  slot_out_none (M := redM d) (r := redH sl s) (hu := fun _ => rfl) (hq := squeezes_S1x128x256_S128x256)
theorem red_close : sepL (fun t => den X c (.stg (ixOf0 .p3 d t) false)) ts0 ⊢ held (redM d) c Finset.univ ∅ fullShare (redF X c d) :=
  fam_close0 (M := redM d) (c := c) (f := redF X c d) (l := ts0) (α := T0) (R := fun t : T0 => (redH t.1 t.2).set) (A := fun t : T0 => den X c (.stg (ixOf0 .p3 d t) false)) ts0_nodup (List.cons_ne_nil _ _) redH_cover redH_apart
    fun t => red_get X c d t.1 t.2
theorem resp_get (sl s : Fin 2) : den X c (.stg ⟨.p4, d, sl, 0, s⟩ false) ⊢ held (respM d) c (half sl s).set ∅ fullShare (respF X c d) :=
  slot_out_none (M := respM d) (r := half sl s) (hu := fun _ => rfl) (hq := squeezes_S1x2x256x256_S2x256x256)
theorem resp_close : sepL (fun t => den X c (.stg (ixOf0 .p4 d t) false)) ts0 ⊢ held (respM d) c Finset.univ ∅ fullShare (respF X c d) :=
  fam_close0 (M := respM d) (c := c) (f := respF X c d) (l := ts0) (α := T0) (R := fun t : T0 => (half t.1 t.2).set) (A := fun t : T0 => den X c (.stg (ixOf0 .p4 d t) false)) ts0_nodup (List.cons_ne_nil _ _) half_cover halfs_apart
    fun t => resp_get X c d t.1 t.2

/-! ## The slabs -/

def sls : List (Fin 2) := [0, 1]
theorem slab4_cover (y : S2x4x256x256.Idx) : ∃ t ∈ sls, y ∈ (slab4 t).set :=
  ⟨⟨(y 0).val, (y 0).isLt⟩, (show ∀ t : Fin 2, t ∈ sls by decide) _, (mem_slab4 ..).mpr rfl⟩
theorem slab4_apart (t t' : Fin 2) (hne : t ≠ t') : Disjoint (slab4 t).set (slab4 t').set := Finset.disjoint_left.mpr fun y h1 h2 => hne
  (Fin.ext (((mem_slab4 ..).mp h1).symm.trans ((mem_slab4 ..).mp h2)))

theorem res_open : held (resM d) c Finset.univ ∅ fullShare (resF X c d) ⊢ sepL (fun t => den X c (.res d t 0)) sls :=
  fam_open (M := resM d) (c := c) (f := resF X c d) (l := sls) (α := Fin 2) (R := fun t : Fin 2 => (slab4 t).set) (A := fun t => den X c (.res d t 0)) (by decide) (List.cons_ne_nil _ _) slab4_cover slab4_apart fun t => by
    rw [den_res]; exact Entails.refl _
theorem res_close : sepL (fun t => den X c (.res d t 2)) sls ⊢ held (resM d) c Finset.univ ∅ fullShare (resF X c d) :=
  fam_close0 (M := resM d) (c := c) (f := resF X c d) (l := sls) (α := Fin 2) (R := fun t : Fin 2 => (slab4 t).set) (A := fun t => den X c (.res d t 2)) (by decide) (List.cons_ne_nil _ _) slab4_cover slab4_apart fun t => by
    rw [den_res]; exact held_mono (Finset.empty_subset _) fun _ _ => rfl
theorem resp_open : held (respM d) c Finset.univ ∅ fullShare (respF X c d) ⊢ sepL (fun t => den X c (.resp d t 0)) sls :=
  fam_open (M := respM d) (c := c) (f := respF X c d) (l := sls) (α := Fin 2) (R := fun t : Fin 2 => (slab4 t).set) (A := fun t => den X c (.resp d t 0)) (by decide) (List.cons_ne_nil _ _) slab4_cover slab4_apart fun t => by
    rw [den_resp]; exact Entails.refl _

def outs : List (Bool × Fin 2) := [(true, 0), (true, 1), (false, 0), (false, 1)]
theorem slabO_iff (t : Bool × Fin 2) (y : S4096x1024.Idx) : y ∈ (slabO t.1 t.2).set ↔ (y 1).val / 256 = col t.1 t.2.val / 256 := by
  have h0 : (y 0).val < 4096 := (y 0).isLt
  have hk : 256 * (col t.1 t.2.val / 256) = col t.1 t.2.val := by revert t; decide
  rw [Rect.mem_set_unit]
  constructor
  · intro h
    have h1 : col t.1 t.2.val ≤ (y 1).val ∧ (y 1).val < col t.1 t.2.val + 256 := h 1
    omega
  · intro h a
    match a with
    | ⟨0, _⟩ => exact ⟨Nat.zero_le _, by show (y 0).val < 0 + 4096; omega⟩
    | ⟨1, _⟩ => exact ⟨by show col t.1 t.2.val ≤ (y 1).val; omega, by show (y 1).val < col t.1 t.2.val + 256; omega⟩
theorem slabO_cover (y : S4096x1024.Idx) : ∃ t ∈ outs, y ∈ (slabO t.1 t.2).set := by
  have h1 : (y 1).val < 1024 := (y 1).isLt
  obtain ⟨t, ht, e⟩ := (show ∀ q : Fin 4, ∃ t ∈ outs, q.val = col t.1 t.2.val / 256 by decide) ⟨(y 1).val / 256, by omega⟩
  exact ⟨t, ht, (slabO_iff t y).mpr e⟩
theorem slabO_apart (t t' : Bool × Fin 2) (hne : t ≠ t') : Disjoint (slabO t.1 t.2).set (slabO t'.1 t'.2).set := Finset.disjoint_left.mpr fun y h1 h2 =>
  (show ∀ t t' : Bool × Fin 2, t ≠ t' → col t.1 t.2.val / 256 ≠ col t'.1 t'.2.val / 256 by decide) t t' hne (((slabO_iff t y).mp h1).symm.trans ((slabO_iff t' y).mp h2))

theorem out_open : held outM c Finset.univ ∅ fullShare (outF X) ⊢ sepL (fun t => den X c (.out t.1 t.2 0)) outs :=
  fam_open (M := outM) (c := c) (f := outF X) (l := outs) (α := Bool × Fin 2) (R := fun t : Bool × Fin 2 => (slabO t.1 t.2).set) (A := fun t => den X c (.out t.1 t.2 0))
    (by decide) (List.cons_ne_nil _ _) slabO_cover slabO_apart fun t => by
    rw [den_out]; exact Entails.refl _
theorem out_close : sepL (fun t => den X c (.out t.1 t.2 7)) outs ⊢ held outM c Finset.univ Finset.univ fullShare (outF X) :=
  (fam_close (M := outM) (c := c) (f := outF X) (l := outs) (α := Bool × Fin 2) (R := fun t : Bool × Fin 2 => (slabO t.1 t.2).set) (A := fun t => den X c (.out t.1 t.2 7))
    (by decide) (List.cons_ne_nil _ _) slabO_cover slabO_apart (fun t => (slabO t.1 t.2).set) (fun _ => Finset.Subset.refl _)
    fun t => by rw [den_out, outW_full]).trans (held_mono (by rw [cover slabO_cover]) fun _ _ => rfl)

/-! ## A direction's buffers -/

/-- The nine scratch buffers of a direction, contents unknown. -/
def bufs : sProp 𝕄 :=
  iprop(held (p1s d) c Finset.univ ∅ fullShare (p1sF X c d) ∗ held (p1r d) c Finset.univ ∅ fullShare (p1rF X c d)
    ∗ held (resM d) c Finset.univ ∅ fullShare (resF X c d) ∗ held (p2s d) c Finset.univ ∅ fullShare (p2sF X c d)
    ∗ held (p2r d) c Finset.univ ∅ fullShare (p2rF X c d) ∗ held (redM d) c Finset.univ ∅ fullShare (redF X c d)
    ∗ held (respM d) c Finset.univ ∅ fullShare (respF X c d) ∗ held (p3b d) c Finset.univ ∅ fullShare (p3F X c d)
    ∗ held (p4b d) c Finset.univ ∅ fullShare (p4F X c d))

/-- A direction's landing slots. -/
def rooms : sProp 𝕄 :=
  iprop(sepL (fun t => room X c (ixOf .p1 d t)) ts ∗ sepL (fun t => room X c (ixOf .p2 d t)) ts
    ∗ sepL (fun t => room X c (ixOf .p3 d t)) ts ∗ sepL (fun t => room X c (ixOf .p4 d t)) ts)

theorem bufs_open : iprop(bufs X c d ∗ den X c (.out d 0 0) ∗ den X c (.out d 1 0)) ⊢ iprop(rooms X c d ∗ sepL (den X c) (L₀d d)) := by
  unfold bufs rooms L₀d
  iintro ⟨⟨H0, H1, H2, H3, H4, H5, H6, H7, H8⟩, O0, O1⟩
  ihave H0 := (p1s_open X c d) $$ H0
  ihave H1 := (p1r_open X c d) $$ H1
  ihave H2 := (res_open X c d) $$ H2
  ihave H3 := (p2s_open X c d) $$ H3
  ihave H4 := (p2r_open X c d) $$ H4
  ihave H5 := (red_open X c d) $$ H5
  ihave H6 := (resp_open X c d) $$ H6
  ihave H7 := (p3b_open X c d) $$ H7
  ihave H8 := (p4b_open X c d) $$ H8
  isplitl [H1 H4 H7 H8]
  · isplitl [H1]
    · iexact H1
    isplitl [H4]
    · iexact H4
    isplitl [H7] <;> iassumption
  iapply (sepL_append (Φ := den X c))
  isplitl [H0]
  · rw [sepL_map]; iexact H0
  iapply (sepL_append (Φ := den X c))
  isplitl [H3]
  · rw [sepL_map]; iexact H3
  iapply (sepL_append (Φ := den X c))
  isplitl [H5]
  · rw [sepL_map]; iexact H5
  unfold sls; dsimp only [sepL]
  icases H2 with ⟨H2, H2', -⟩
  icases H6 with ⟨H6, H6', -⟩
  isplitl [H2]
  · iexact H2
  isplitl [H2']
  · iexact H2'
  isplitl [H6]
  · iexact H6
  isplitl [H6']
  · iexact H6'
  isplitl [O0]
  · iexact O0
  isplitl [O1]
  · iexact O1
  · iempintro

/-- A slot known is a slot. -/
theorem stg_forget (i : Ix) : den X c (.stg i true) ⊢ den X c (.stg i false) := held_mono (Finset.empty_subset _) fun _ _ => rfl
theorem land_forget (i : Ix) : den X c (.land i) ⊢ room X c i := held_mono (Finset.empty_subset _) fun _ _ => rfl

theorem bufs_close : iprop(rooms X c d ∗ sepL (den X c) (L₁d d)) ⊢ iprop(bufs X c d ∗ den X c (.out d 0 7) ∗ den X c (.out d 1 7)) := by
  unfold bufs rooms L₁d
  iintro ⟨⟨H1, H4, H7, H8⟩, H⟩
  ihave H := (sepL_unappend (Φ := den X c) _ _) $$ H
  icases H with ⟨H0, H⟩
  ihave H := (sepL_unappend (Φ := den X c) _ _) $$ H
  icases H with ⟨H3, H⟩
  ihave H := (sepL_unappend (Φ := den X c) _ _) $$ H
  icases H with ⟨H5, H⟩
  ihave H := (sepL_unappend (Φ := den X c) _ _) $$ H
  icases H with ⟨H6, H⟩
  ihave H0 := ((Entails.of_eq (sepL_map ..)).trans (sepL_mono (fun t => stg_forget X c (ixOf .p1 d t)) ts)) $$ H0
  ihave H3 := ((Entails.of_eq (sepL_map ..)).trans (sepL_mono (fun t => stg_forget X c (ixOf .p2 d t)) ts)) $$ H3
  ihave H5 := ((Entails.of_eq (sepL_map ..)).trans (sepL_mono (fun t => stg_forget X c (ixOf0 .p3 d t)) ts0)) $$ H5
  ihave H6 := ((Entails.of_eq (sepL_map ..)).trans (sepL_mono (fun t => stg_forget X c (ixOf0 .p4 d t)) ts0)) $$ H6
  dsimp only [sepL]
  icases H with ⟨H2, H2', O0, O1, -⟩
  isplitl [H0 H1 H2 H2' H3 H4 H5 H6 H7 H8]
  · isplitl [H0]
    · iapply (p1s_close X c d) $$ H0
    isplitl [H1]
    · iapply (p1r_close X c d) $$ H1
    isplitl [H2 H2']
    · iapply (res_close X c d); unfold sls; dsimp only [sepL]
      isplitl [H2]
      · iexact H2
      isplitl [H2']
      · iexact H2'
      · iempintro
    isplitl [H3]
    · iapply (p2s_close X c d) $$ H3
    isplitl [H4]
    · iapply (p2r_close X c d) $$ H4
    isplitl [H5]
    · iapply (red_close X c d) $$ H5
    isplitl [H6]
    · iapply (resp_close X c d) $$ H6
    isplitl [H7]
    · iapply (p3b_close X c d) $$ H7
    · iapply (p4b_close X c d) $$ H8
  isplitl [O0] <;> iassumption

end

end Cert.KernelIdealProof
end
-- ==== Proof.KernelIdeal.Start.lean ====
/-
# The body

From what a device starts with, the handshake and the units run, and leave every cell closed and the result.
-/
module

public import proofs.«01_k».proof.Proof.KernelIdeal.Whole

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem allIx_nodup : allIx.Nodup := by decide +kernel
theorem allIx_all : allIx.toFinset = Finset.univ := by decide +kernel
theorem all_list (Φ : Ix → sProp (MT nD τ sig Unit (Elt F) ℕ UU ℕ)) : bigSep Finset.univ Φ = sepL Φ allIx := by
  rw [sepL_bigSep allIx_nodup, allIx_all]
theorem all_lends (Φ : Ix → sProp (MT nD τ sig Unit (Elt F) ℕ UU ℕ)) : bigSep Finset.univ Φ = bigSep Finset.univ fun k => bigSep (lends k) Φ := by
  rw [bigSep_fiberwise Finset.univ (fun i : Ix => duty i.ph i.d) Φ, show (Finset.univ.image fun i : Ix => duty i.ph i.d) = Finset.univ by decide +kernel]
  rfl
theorem four (Φ : Fin 4 → sProp (MT nD τ sig Unit (Elt F) ℕ UU ℕ)) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl

/-- The neighbour a device's signal `k` goes to. -/
def nbr (c : Dev nD) : Fin 4 → Dev nD | 0 => succP c | 1 => predP c | 2 => succC c | 3 => predC c
theorem nbr_duty (c : Dev nD) (ph : Ph) (d : Bool) : nbr c (duty ph d) = tgtOf c ph (!d) := by cases ph <;> cases d <;> rfl
theorem nbr_tgt (c : Dev nD) (k : Fin 4) (i : Ix) (h : i ∈ lends k) : tgt (nbr c k) i = c := by
  have h : duty i.ph i.d = k := (Finset.mem_filter.mp h).2
  rw [← h, nbr_duty]; exact tgtOf_back c i.ph i.d

section
variable (X : Dev nD → S4096x1024.Idx → Elt F .bf16) (K : Dev nD × CK → ℕ) (c : Dev nD)

/-- The duty tokens a device pays with. -/
def toks : sProp 𝕄 :=
  iprop((bigSep Finset.univ fun k => dutyTok ER (cell (nbr c k) none) 0 k) ∗ (bigSep Finset.univ fun i => dutyTok ER (cell c (some (false, i))) 0 0)
    ∗ bigSep Finset.univ fun i => dutyTok ER (cell (tgt c i) (some (true, i))) 0 0)
/-- A device's places at its own cells. -/
def ats : sProp 𝕄 :=
  iprop(atPos ER (cell c none) 0 ∅ 0 ∗ (bigSep Finset.univ fun i => atPos ER (cell c (some (false, i))) 0 ∅ 0)
    ∗ bigSep Finset.univ fun i => atPos ER (cell c (some (true, i))) 0 ∅ 0)
/-- The credit a device waits with. -/
def creds : sProp 𝕄 :=
  iprop(cred (tallyAt (cell c none) () 4) ∗ bigSep Finset.univ fun i => cred (tallyAt (cell c (some (true, i))) () (N i)))
/-- A device's cells, closed. -/
def zeros : sProp 𝕄 :=
  iprop(semVal (cell c none) 0 ∗ (bigSep Finset.univ fun i => semVal (cell c (some (false, i))) 0) ∗ bigSep Finset.univ fun i => semVal (cell c (some (true, i))) 0)

/-! ## The handshake -/

theorem rooms_all : iprop(rooms X c true ∗ rooms X c false) ⊢ bigSep Finset.univ (room X c) := by
  rw [all_list]; unfold rooms allIx pds
  simp only [List.flatMap_cons, List.flatMap_nil, List.append_nil]
  iintro ⟨⟨H1, H2, H3, H4⟩, H1', H2', H3', H4'⟩
  iapply (sepL_append (Φ := room X c)); isplitl [H1]
  · rw [sepL_map]; iexact H1
  iapply (sepL_append (Φ := room X c)); isplitl [H1']
  · rw [sepL_map]; iexact H1'
  iapply (sepL_append (Φ := room X c)); isplitl [H2]
  · rw [sepL_map]; iexact H2
  iapply (sepL_append (Φ := room X c)); isplitl [H2']
  · rw [sepL_map]; iexact H2'
  iapply (sepL_append (Φ := room X c)); isplitl [H3]
  · rw [sepL_map]; iexact H3
  iapply (sepL_append (Φ := room X c)); isplitl [H3']
  · rw [sepL_map]; iexact H3'
  iapply (sepL_append (Φ := room X c)); isplitl [H4]
  · rw [sepL_map]; iexact H4
  · rw [sepL_map]; iexact H4'

theorem all_rooms : bigSep Finset.univ (room X c) ⊢ iprop(rooms X c true ∗ rooms X c false) := by
  rw [all_list]; unfold rooms allIx pds
  simp only [List.flatMap_cons, List.flatMap_nil, List.append_nil]
  iintro H
  ihave H := (sepL_unappend (Φ := room X c) _ _) $$ H
  icases H with ⟨H1, H⟩
  ihave H := (sepL_unappend (Φ := room X c) _ _) $$ H
  icases H with ⟨H1', H⟩
  ihave H := (sepL_unappend (Φ := room X c) _ _) $$ H
  icases H with ⟨H2, H⟩
  ihave H := (sepL_unappend (Φ := room X c) _ _) $$ H
  icases H with ⟨H2', H⟩
  ihave H := (sepL_unappend (Φ := room X c) _ _) $$ H
  icases H with ⟨H3, H⟩
  ihave H := (sepL_unappend (Φ := room X c) _ _) $$ H
  icases H with ⟨H3', H⟩
  ihave H := (sepL_unappend (Φ := room X c) _ _) $$ H
  icases H with ⟨H4, H4'⟩
  simp only [sepL_map]
  isplitl [H1 H2 H3 H4]
  · isplitl [H1]
    · iexact H1
    isplitl [H2]
    · iexact H2
    isplitl [H3]
    · iexact H3
    · iexact H4
  isplitl [H1']
  · iexact H1'
  isplitl [H2']
  · iexact H2'
  isplitl [H3']
  · iexact H3'
  · iexact H4'

theorem lend_pay (k : Fin 4) : bigSep (lends k) (room X c) ⊢ barPay X (nbr c k) k := by
  unfold barPay
  exact bigSep_mono fun i hi => by rw [nbr_tgt c k i hi]; exact Entails.refl _

/-- One signal of the handshake. -/
theorem signal_sound (k : Fin 4) (O' : CellTallies nD τ sig Unit) (W : Waits sig Unit) (P : TProg F) (Q : PUnit → sProp 𝕄) :
    iprop(recs X K ∗ owes (c : Thread nD τ) (O' + tallyAt (cell (nbr c k) none) () 1) W ∗ dutyTok ER (cell (nbr c k) none) 0 k ∗ bigSep (lends k) (room X c))
      ⊢ iprop((owes (c : Thread nD τ) O' W -∗ WP c P Q) -∗ WP c (Prog.op (.semSignal ((nbr c k : Dev nD) : Thread nD τ) barS 1) fun _ => P) Q) := by
  iintro ⟨#HR, HO, Ht, Hr⟩ Hk
  iapply (Rounds.wp_signal 𝒱₀ ER (Rd X) (c : Thread nD τ) none (dst := ((nbr c k : Dev nD) : Thread nD τ)) (κ := K (nbr c k, none))
      (d := k) (by rw [show ((((nbr c k : Dev nD) : Thread nD τ), SemLoc.reg barS) : GSem nD τ sig) = cell (nbr c k) none from rfl, duties_cell]; exact Finset.mem_univ _)
      ((amount_cell X (nbr c k) none k).trans (by decide)) () O' rfl) $$ [HO Ht Hr]
  · isplitr
    · iapply (recs_inv X K (nbr c k, none)) $$ HR
    isplitl [HO]
    · iexact HO
    isplitl [Ht]
    · iexact Ht
    isplitl [Hr]
    · rw [show ((((nbr c k : Dev nD) : Thread nD τ), SemLoc.reg barS) : GSem nD τ sig) = cell (nbr c k) none from rfl, payload_cell]
      iapply (show bigSep (lends k) (room X c) ⊢ payOf X (nbr c k) none k from lend_pay X c k) $$ Hr
    · iapply (recs_reached X K (nbr c k, none)) $$ HR
  iintro HO
  iapply Hk $$ HO

set_option maxRecDepth 8000 in
theorem recs_bar (l : List Ix) : recs (F := F) X K ⊢ MayWait (c : Thread nD τ) (.reg barS) () (Osum c l) :=
  (recs_lev X K).trans (mayWait_bar c l)

/-- The handshake's wait: the landing slots on the targets of the device's copies come with it. -/
theorem barrier_sound (l : List Ix) (W : Waits sig Unit) (P : TProg F) (Q : PUnit → sProp 𝕄) :
    iprop(recs X K ∗ owes (c : Thread nD τ) (Osum c l) W ∗ cred (tallyAt (cell c none) () 4) ∗ atPos ER (cell c none) 0 ∅ 0)
      ⊢ iprop((owing c l ∗ semVal (cell c none) 0 ∗ bigSep Finset.univ (fun i => room X (tgt c i) i) -∗ WP c P Q) -∗ WP c (Prog.op (.semWait barS 4) fun _ => P) Q) := by
  iintro ⟨#HR, HO, Hc, Hat⟩ Hk
  iapply (Rounds.wp_wait_rest_token 𝒱₀ ER (Rd X) (c : Thread nD τ) none (κ := K (c, none))
      (wpE_semWait_eq 𝒱₀ (c : Thread nD τ) none Set.univ) (Set.mem_univ _) () (O := Osum c l) (W := W) (R := 0) (m := 0) (T := ∅)
      (by rw [show (((c : Thread nD τ), SemLoc.reg barS) : GSem nD τ sig) = cell c none from rfl, expect_bar])) $$ [Hc HO Hat]
  · isplitr
    · iapply (recs_inv X K (c, none)) $$ HR
    isplitl [Hc]
    · iexact Hc
    isplitl [HO]
    · iexact HO
    isplitr
    · iapply (recs_bar X K c l) $$ HR
    · iexact Hat
  iintro ⟨HO, Hat, -, Hpay⟩
  ihave Hp := (Entails.of_eq (show bigSep ((Rd X).duties ((c : Thread nD τ), SemLoc.reg barS) 0 \ ∅) (fun d => (Rd X).payload ((c : Thread nD τ), SemLoc.reg barS) 0 d) = _ from rest_bar X c)) $$ Hpay
  imod (Rounds.cell_close ER (Rd X) (Set.mem_univ (K (c, none))) (fun h => h) (R := 0 + 1) (duties_later X (cell c none))) $$ [Hat] with Hz
  · isplitr
    · iapply (recs_inv X K (c, none)) $$ HR
    · iexact Hat
  iapply Hk
  isplitl [HO]
  · iexists _; iexact HO
  isplitl [Hz]
  · iexact Hz
  · iapply (Entails.of_eq (show bigSep Finset.univ (fun k => barPay X c k) = _ from (all_lends fun i => room X (tgt c i) i).symm)) $$ Hp

/-! ## The units -/

theorem unsent_all : iprop(bigSep Finset.univ (fun i => room X (tgt c i) i) ∗ (bigSep Finset.univ fun i => dutyTok ER (cell c (some (false, i))) 0 0)
      ∗ (bigSep Finset.univ fun i => dutyTok ER (cell (tgt c i) (some (true, i))) 0 0) ∗ (bigSep Finset.univ fun i => atPos ER (cell c (some (false, i))) 0 ∅ 0))
    ⊢ sepL (den X c) (allIx.map .unsent) := by
  rw [← bigSep_sep', ← bigSep_sep', ← bigSep_sep', sepL_map, all_list]
  exact Entails.refl _
theorem await_all : iprop((bigSep Finset.univ fun i => cred (tallyAt (cell c (some (true, i))) () (N i))) ∗ bigSep Finset.univ fun i => atPos ER (cell c (some (true, i))) 0 ∅ 0)
    ⊢ sepL (den X c) (allIx.map .await) := by
  rw [← bigSep_sep', sepL_map, all_list]
  exact Entails.refl _
theorem sdone_all : sepL (den X c) (allIx.map .sdone) ⊢ bigSep Finset.univ fun i => semVal (cell c (some (false, i))) 0 := by
  rw [sepL_map, all_list]; exact Entails.refl _
theorem got_all : sepL (den X c) (allIx.map .got) ⊢ bigSep Finset.univ fun i => semVal (cell c (some (true, i))) 0 := by
  rw [sepL_map, all_list]; exact Entails.refl _
theorem land_all : sepL (den X c) (allIx.map .land) ⊢ bigSep Finset.univ (room X c) := by
  rw [sepL_map, all_list]; exact sepL_mono (fun i => land_forget X c i) allIx

theorem four_outs (n : ℕ) : sepL (fun t : Bool × Fin 2 => den X c (.out t.1 t.2 n)) outs
    = iprop(den X c (.out true 0 n) ∗ den X c (.out true 1 n) ∗ den X c (.out false 0 n) ∗ den X c (.out false 1 n) ∗ emp) := rfl

theorem units_sound (Q : PUnit → sProp 𝕄) :
    iprop(recs X K ∗ owing c sendOrder ∗ xHeld X c ∗ sepL (den X c) (allIx.map .unsent) ∗ sepL (den X c) (allIx.map .await) ∗ sepL (den X c) (L₀d true) ∗ sepL (den X c) (L₀d false))
      ⊢ iprop((owing c [] ∗ xHeld X c ∗ sepL (den X c) (allIx.map .sdone) ∗ sepL (den X c) (allIx.map .got) ∗ sepL (den X c) (allIx.map .land)
          ∗ sepL (den X c) (L₁d true) ∗ sepL (den X c) (L₁d false) -∗ Q ⟨⟩) -∗ WP c (runL c prog (.ret ⟨⟩)) Q) := by
  obtain ⟨L, h1, h2⟩ := prog_steps
  iintro ⟨#HR, HO, Hx, Hu, Ha, Ht, Hf⟩ Hk
  iapply (steps_sound X K c prog _ _ h1 (.ret ⟨⟩) Q) $$ [HO Hx Hu Ha Ht Hf]
  · isplitr
    · iexact HR
    isplitl [HO]
    · iexact HO
    isplitl [Hx]
    · iexact Hx
    unfold L₀
    iapply (sepL_append (Φ := den X c)); isplitl [Hu]
    · iexact Hu
    iapply (sepL_append (Φ := den X c)); isplitl [Ha]
    · iexact Ha
    iapply (sepL_append (Φ := den X c)); isplitl [Ht] <;> iassumption
  iintro ⟨HO, Hx, HL⟩
  ihave HL := (pulls_sound (Φ := den X c) h2) $$ HL
  icases HL with ⟨HL, -⟩
  unfold L₁
  ihave HL := (sepL_unappend (Φ := den X c) _ _) $$ HL
  icases HL with ⟨Hu, HL⟩
  ihave HL := (sepL_unappend (Φ := den X c) _ _) $$ HL
  icases HL with ⟨Ha, HL⟩
  ihave HL := (sepL_unappend (Φ := den X c) _ _) $$ HL
  icases HL with ⟨Hl, HL⟩
  ihave HL := (sepL_unappend (Φ := den X c) _ _) $$ HL
  icases HL with ⟨Ht, Hf⟩
  unfold WP; rw [wp_ret]; imodintro
  iapply Hk
  isplitl [HO]
  · iexact HO
  isplitl [Hx]
  · iexact Hx
  isplitl [Hu]
  · iexact Hu
  isplitl [Ha]
  · iexact Ha
  isplitl [Hl]
  · iexact Hl
  isplitl [Ht] <;> iassumption

/-! ## The whole body -/

/-- What a device's body starts from, and what it leaves. -/
def before₀ : sProp 𝕄 :=
  iprop(ats c ∗ toks c ∗ creds c ∗ bufs X c true ∗ bufs X c false ∗ xHeld X c ∗ held outM c Finset.univ ∅ fullShare (outF X))
def after₀ : sProp 𝕄 :=
  iprop(owing c [] ∗ zeros c ∗ bufs X c true ∗ bufs X c false ∗ xHeld X c ∗ held outM c Finset.univ Finset.univ fullShare (outF X))

theorem open_all : iprop(bufs X c true ∗ bufs X c false ∗ held outM c Finset.univ ∅ fullShare (outF X))
    ⊢ iprop(bigSep Finset.univ (room X c) ∗ sepL (den X c) (L₀d true) ∗ sepL (den X c) (L₀d false)) := by
  iintro ⟨Bt, Bf, O⟩
  ihave O := ((out_open X c).trans (Entails.of_eq (four_outs X c 0))) $$ O
  icases O with ⟨O1, O2, O3, O4, -⟩
  ihave Bt := (bufs_open X c true) $$ [Bt O1 O2]
  · isplitl [Bt]
    · iexact Bt
    isplitl [O1] <;> iassumption
  ihave Bf := (bufs_open X c false) $$ [Bf O3 O4]
  · isplitl [Bf]
    · iexact Bf
    isplitl [O3] <;> iassumption
  icases Bt with ⟨Rt, Lt⟩
  icases Bf with ⟨Rf, Lf⟩
  isplitl [Rt Rf]
  · iapply (rooms_all X c)
    isplitl [Rt] <;> iassumption
  isplitl [Lt] <;> iassumption
theorem close_all : iprop(bigSep Finset.univ (room X c) ∗ sepL (den X c) (L₁d true) ∗ sepL (den X c) (L₁d false))
    ⊢ iprop(bufs X c true ∗ bufs X c false ∗ held outM c Finset.univ Finset.univ fullShare (outF X)) := by
  iintro ⟨R, Lt, Lf⟩
  ihave R := (all_rooms X c) $$ R
  icases R with ⟨Rt, Rf⟩
  ihave Bt := (bufs_close X c true) $$ [Rt Lt]
  · isplitl [Rt] <;> iassumption
  ihave Bf := (bufs_close X c false) $$ [Rf Lf]
  · isplitl [Rf] <;> iassumption
  icases Bt with ⟨Bt, O1, O2⟩
  icases Bf with ⟨Bf, O3, O4⟩
  isplitl [Bt]
  · iexact Bt
  isplitl [Bf]
  · iexact Bf
  iapply ((Entails.of_eq (four_outs X c 7).symm).trans (out_close X c))
  isplitl [O1]
  · iexact O1
  isplitl [O2]
  · iexact O2
  isplitl [O3]
  · iexact O3
  isplitl [O4]
  · iexact O4
  · iempintro

theorem body_sound (W : Waits sig Unit) (Q : PUnit → sProp 𝕄) :
    iprop(recs X K ∗ owes (c : Thread nD τ) (O₀ c sendOrder) W ∗ before₀ X c) ⊢ iprop((after₀ X c -∗ Q ⟨⟩) -∗ WP c (bodyOf (F := F)) Q) := by
  unfold bodyOf before₀ ats toks creds WP
  rw [wp_deviceId]
  iintro ⟨#HR, HO, ⟨Hat, HatS, HatR⟩, ⟨Ht, HtS, HtR⟩, ⟨Hc, HcR⟩, Bt, Bf, Hx, Hout⟩ Hk
  ihave H := (open_all X c) $$ [Bt Bf Hout]
  · isplitl [Bt]
    · iexact Bt
    isplitl [Bf] <;> iassumption
  icases H with ⟨Hr, Lt, Lf⟩
  ihave Hr := (Entails.of_eq ((all_lends (room X c)).trans (four _))) $$ Hr
  ihave Ht := (Entails.of_eq (four _)) $$ Ht
  icases Hr with ⟨R0, R1, R2, R3⟩
  icases Ht with ⟨T0, T1, T2, T3⟩
  iapply (signal_sound X K c 0 (O₁ c sendOrder) W _ Q) $$ [HO T0 R0]
  · isplitr
    · iexact HR
    isplitl [HO]
    · iexact HO
    isplitl [T0] <;> iassumption
  iintro HO
  iapply (signal_sound X K c 1 (O₂ c sendOrder) W _ Q) $$ [HO T1 R1]
  · isplitr
    · iexact HR
    isplitl [HO]
    · iexact HO
    isplitl [T1] <;> iassumption
  iintro HO
  iapply (signal_sound X K c 2 (O₃ c sendOrder) W _ Q) $$ [HO T2 R2]
  · isplitr
    · iexact HR
    isplitl [HO]
    · iexact HO
    isplitl [T2] <;> iassumption
  iintro HO
  iapply (signal_sound X K c 3 (Osum c sendOrder) W _ Q) $$ [HO T3 R3]
  · isplitr
    · iexact HR
    isplitl [HO]
    · iexact HO
    isplitl [T3] <;> iassumption
  iintro HO
  iapply (barrier_sound X K c sendOrder W _ Q) $$ [HO Hc Hat]
  · isplitr
    · iexact HR
    isplitl [HO]
    · iexact HO
    isplitl [Hc] <;> iassumption
  iintro ⟨HO, Hz, Hr⟩
  iapply (units_sound X K c Q) $$ [HO Hx Hr HtS HtR HatS HcR HatR Lt Lf]
  · isplitr
    · iexact HR
    isplitl [HO]
    · iexact HO
    isplitl [Hx]
    · iexact Hx
    isplitl [Hr HtS HtR HatS]
    · iapply (unsent_all X c)
      isplitl [Hr]
      · iexact Hr
      isplitl [HtS]
      · iexact HtS
      isplitl [HtR] <;> iassumption
    isplitl [HcR HatR]
    · iapply (await_all X c)
      isplitl [HcR] <;> iassumption
    isplitl [Lt] <;> iassumption
  iintro ⟨HO, Hx, Hs, Hg, Hl, Lt, Lf⟩
  ihave H := (close_all X c) $$ [Hl Lt Lf]
  · isplitl [Hl]
    · iapply (land_all X c) $$ Hl
    isplitl [Lt] <;> iassumption
  icases H with ⟨Bt, Bf, Hout⟩
  iapply Hk
  unfold after₀ zeros
  isplitl [HO]
  · iexact HO
  isplitl [Hz Hs Hg]
  · isplitl [Hz]
    · iexact Hz
    isplitl [Hs]
    · iapply (sdone_all X c) $$ Hs
    · iapply (got_all X c) $$ Hg
  isplitl [Bt]
  · iexact Bt
  isplitl [Bf]
  · iexact Bf
  isplitl [Hx] <;> iassumption

end

end Cert.KernelIdealProof
end
-- ==== Proof.KernelIdeal.Body.lean ====
/-
# The printed body is the list of units
-/
module

public import proofs.«01_k».proof.Proof.KernelIdeal.Tables

@[expose] public section

noncomputable section

namespace Cert.KernelIdealProof

open Cert.KernelIdeal Cert.KernelIdeal.Gen
open Idealize.ShloMosaic
open Idealize.ShloMosaic.TcCoe
open Idealize.SL Idealize.SL.Sem

variable {F : FTy → Type} [FloatOps F]

set_option maxRecDepth 65536 in
set_option maxHeartbeats 0 in
/-- The printed body at the kernel's buffers is the entry handshake followed by the units. -/
theorem body_eq :
    cc0_body_skel (F := F) xM (Memref.isWhole_whole _) outM (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _) (Memref.whole cc0_scratch9) (Memref.isWhole_whole _)
      (Memref.whole cc0_scratch10) (Memref.isWhole_whole _) (Memref.whole cc0_scratch11) (Memref.isWhole_whole _)
      (Memref.whole cc0_scratch12) (Memref.isWhole_whole _) (Memref.whole cc0_scratch13) (Memref.isWhole_whole _)
      (Memref.whole cc0_scratch14) (Memref.isWhole_whole _) (Memref.whole cc0_scratch15) (Memref.isWhole_whole _)
      (Memref.whole cc0_scratch16) (Memref.isWhole_whole _) (Memref.whole cc0_scratch17) (Memref.isWhole_whole _)
      cc0_scratch18 cc0_scratch19 cc0_scratch20 cc0_scratch21
    = bodyOf (F := F) := by
  rfl

end Cert.KernelIdealProof

end
-- ==== Proof.KernelIdeal.Data.lean ====
/-
# The run

The launch deals every device its cells, tokens and credit; the run ends with every counter at zero, the argument
unchanged and the result the two-level ring's sum.
-/
module

public import proofs.«01_k».proof.Proof.KernelIdeal.Start
public import proofs.«01_k».proof.Proof.KernelIdeal.Body

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state a run starts from. -/
abbrev s₀ : MemSt nD τ sig (Elt F) := ⟨m, fun _ => 0, ρ⟩

/-- The printed body, at the kernel's buffers. -/
theorem body_is :
    cc0_body (F := F) xM (Memref.isWhole_whole _) outM (Memref.isWhole_whole _)
      (Memref.whole cc0_scratch0) (Memref.isWhole_whole _)
      (Memref.whole cc0_scratch1) (Memref.isWhole_whole _)
      (Memref.whole cc0_scratch2) (Memref.isWhole_whole _)
      (Memref.whole cc0_scratch3) (Memref.isWhole_whole _)
      (Memref.whole cc0_scratch4) (Memref.isWhole_whole _)
      (Memref.whole cc0_scratch5) (Memref.isWhole_whole _)
      (Memref.whole cc0_scratch6) (Memref.isWhole_whole _)
      (Memref.whole cc0_scratch7) (Memref.isWhole_whole _)
      (Memref.whole cc0_scratch8) (Memref.isWhole_whole _)
      (Memref.whole cc0_scratch9) (Memref.isWhole_whole _)
      (Memref.whole cc0_scratch10) (Memref.isWhole_whole _)
      (Memref.whole cc0_scratch11) (Memref.isWhole_whole _)
      (Memref.whole cc0_scratch12) (Memref.isWhole_whole _)
      (Memref.whole cc0_scratch13) (Memref.isWhole_whole _)
      (Memref.whole cc0_scratch14) (Memref.isWhole_whole _)
      (Memref.whole cc0_scratch15) (Memref.isWhole_whole _)
      (Memref.whole cc0_scratch16) (Memref.isWhole_whole _)
      (Memref.whole cc0_scratch17) (Memref.isWhole_whole _)
      cc0_scratch18 cc0_scratch19 cc0_scratch20 cc0_scratch21
    = bodyOf (F := F) := by
  rw [cc0_body_eq_skeleton]; exact body_eq

/-! ## Contents -/

/-- What a device's argument holds. -/
def xstg (c : Dev nD) : S4096x1024.Idx → Elt F .bf16 :=
  (win0_0.blk (0 : Fin 1)).view.read (Elt F) ((s₀ m ρ).mem ((c : Thread nD τ).loc main_arg0))

section
variable (X : Dev nD → S4096x1024.Idx → Elt F .bf16)

theorem bufs_true (c : Dev nD) : bufs X c true = iprop(held (Memref.whole cc0_scratch0) c Finset.univ ∅ fullShare (p1sF X c true)
      ∗ held (Memref.whole cc0_scratch1) c Finset.univ ∅ fullShare (p1rF X c true)
      ∗ held (Memref.whole cc0_scratch4) c Finset.univ ∅ fullShare (resF X c true)
      ∗ held (Memref.whole cc0_scratch6) c Finset.univ ∅ fullShare (p2sF X c true)
      ∗ held (Memref.whole cc0_scratch7) c Finset.univ ∅ fullShare (p2rF X c true)
      ∗ held (Memref.whole cc0_scratch10) c Finset.univ ∅ fullShare (redF X c true)
      ∗ held (Memref.whole cc0_scratch12) c Finset.univ ∅ fullShare (respF X c true)
      ∗ held (Memref.whole cc0_scratch14) c Finset.univ ∅ fullShare (p3F X c true)
      ∗ held (Memref.whole cc0_scratch16) c Finset.univ ∅ fullShare (p4F X c true)) := rfl
theorem bufs_false (c : Dev nD) : bufs X c false = iprop(held (Memref.whole cc0_scratch2) c Finset.univ ∅ fullShare (p1sF X c false)
      ∗ held (Memref.whole cc0_scratch3) c Finset.univ ∅ fullShare (p1rF X c false)
      ∗ held (Memref.whole cc0_scratch5) c Finset.univ ∅ fullShare (resF X c false)
      ∗ held (Memref.whole cc0_scratch8) c Finset.univ ∅ fullShare (p2sF X c false)
      ∗ held (Memref.whole cc0_scratch9) c Finset.univ ∅ fullShare (p2rF X c false)
      ∗ held (Memref.whole cc0_scratch11) c Finset.univ ∅ fullShare (redF X c false)
      ∗ held (Memref.whole cc0_scratch13) c Finset.univ ∅ fullShare (respF X c false)
      ∗ held (Memref.whole cc0_scratch15) c Finset.univ ∅ fullShare (p3F X c false)
      ∗ held (Memref.whole cc0_scratch17) c Finset.univ ∅ fullShare (p4F X c false)) := rfl
theorem scratch_in (c : Dev nD) : (Pipeline.scopedRest cfg0.spec c : sProp 𝕄) ⊢ iprop(bufs X c true ∗ bufs X c false) := by
  rw [scopedRest0_eq, bufs_true, bufs_false]
  iintro ⟨H0, H1, H2, H3, H4, H5, H6, H7, H8, H9, H10, H11, H12, H13, H14, H15, H16, H17⟩
  isplitl [H0 H1 H4 H6 H7 H10 H12 H14 H16]
  · skip
    isplitl [H0]
    · iapply (held_of_whole (c := c) cc0_scratch0 (p1sF X c true)) $$ H0
    isplitl [H1]
    · iapply (held_of_whole (c := c) cc0_scratch1 (p1rF X c true)) $$ H1
    isplitl [H4]
    · iapply (held_of_whole (c := c) cc0_scratch4 (resF X c true)) $$ H4
    isplitl [H6]
    · iapply (held_of_whole (c := c) cc0_scratch6 (p2sF X c true)) $$ H6
    isplitl [H7]
    · iapply (held_of_whole (c := c) cc0_scratch7 (p2rF X c true)) $$ H7
    isplitl [H10]
    · iapply (held_of_whole (c := c) cc0_scratch10 (redF X c true)) $$ H10
    isplitl [H12]
    · iapply (held_of_whole (c := c) cc0_scratch12 (respF X c true)) $$ H12
    isplitl [H14]
    · iapply (held_of_whole (c := c) cc0_scratch14 (p3F X c true)) $$ H14
    · iapply (held_of_whole (c := c) cc0_scratch16 (p4F X c true)) $$ H16
  · skip
    isplitl [H2]
    · iapply (held_of_whole (c := c) cc0_scratch2 (p1sF X c false)) $$ H2
    isplitl [H3]
    · iapply (held_of_whole (c := c) cc0_scratch3 (p1rF X c false)) $$ H3
    isplitl [H5]
    · iapply (held_of_whole (c := c) cc0_scratch5 (resF X c false)) $$ H5
    isplitl [H8]
    · iapply (held_of_whole (c := c) cc0_scratch8 (p2sF X c false)) $$ H8
    isplitl [H9]
    · iapply (held_of_whole (c := c) cc0_scratch9 (p2rF X c false)) $$ H9
    isplitl [H11]
    · iapply (held_of_whole (c := c) cc0_scratch11 (redF X c false)) $$ H11
    isplitl [H13]
    · iapply (held_of_whole (c := c) cc0_scratch13 (respF X c false)) $$ H13
    isplitl [H15]
    · iapply (held_of_whole (c := c) cc0_scratch15 (p3F X c false)) $$ H15
    · iapply (held_of_whole (c := c) cc0_scratch17 (p4F X c false)) $$ H17

theorem scratch_out (c : Dev nD) : iprop(bufs X c true ∗ bufs X c false) ⊢ (Pipeline.scopedRest cfg0.spec c : sProp 𝕄) := by
  rw [scopedRest0_eq, bufs_true, bufs_false]
  iintro ⟨⟨H0, H1, H4, H6, H7, H10, H12, H14, H16⟩, H2, H3, H5, H8, H9, H11, H13, H15, H17⟩
  isplitl [H0]
  · iapply (whole_of_held (c := c) cc0_scratch0 (f := p1sF X c true) (W := ∅)) $$ H0
  isplitl [H1]
  · iapply (whole_of_held (c := c) cc0_scratch1 (f := p1rF X c true) (W := ∅)) $$ H1
  isplitl [H2]
  · iapply (whole_of_held (c := c) cc0_scratch2 (f := p1sF X c false) (W := ∅)) $$ H2
  isplitl [H3]
  · iapply (whole_of_held (c := c) cc0_scratch3 (f := p1rF X c false) (W := ∅)) $$ H3
  isplitl [H4]
  · iapply (whole_of_held (c := c) cc0_scratch4 (f := resF X c true) (W := ∅)) $$ H4
  isplitl [H5]
  · iapply (whole_of_held (c := c) cc0_scratch5 (f := resF X c false) (W := ∅)) $$ H5
  isplitl [H6]
  · iapply (whole_of_held (c := c) cc0_scratch6 (f := p2sF X c true) (W := ∅)) $$ H6
  isplitl [H7]
  · iapply (whole_of_held (c := c) cc0_scratch7 (f := p2rF X c true) (W := ∅)) $$ H7
  isplitl [H8]
  · iapply (whole_of_held (c := c) cc0_scratch8 (f := p2sF X c false) (W := ∅)) $$ H8
  isplitl [H9]
  · iapply (whole_of_held (c := c) cc0_scratch9 (f := p2rF X c false) (W := ∅)) $$ H9
  isplitl [H10]
  · iapply (whole_of_held (c := c) cc0_scratch10 (f := redF X c true) (W := ∅)) $$ H10
  isplitl [H11]
  · iapply (whole_of_held (c := c) cc0_scratch11 (f := redF X c false) (W := ∅)) $$ H11
  isplitl [H12]
  · iapply (whole_of_held (c := c) cc0_scratch12 (f := respF X c true) (W := ∅)) $$ H12
  isplitl [H13]
  · iapply (whole_of_held (c := c) cc0_scratch13 (f := respF X c false) (W := ∅)) $$ H13
  isplitl [H14]
  · iapply (whole_of_held (c := c) cc0_scratch14 (f := p3F X c true) (W := ∅)) $$ H14
  isplitl [H15]
  · iapply (whole_of_held (c := c) cc0_scratch15 (f := p3F X c false) (W := ∅)) $$ H15
  isplitl [H16]
  · iapply (whole_of_held (c := c) cc0_scratch16 (f := p4F X c true) (W := ∅)) $$ H16
  · iapply (whole_of_held (c := c) cc0_scratch17 (f := p4F X c false) (W := ∅)) $$ H17

end

abbrev stg (c : Dev nD) (b : Ref sig .tc) (v : b.ty.Contents (Elt F)) : sProp 𝕄 :=
  iprop(∃ f : Buf (Elt F) (((c : Dev nD) : Thread nD τ).loc b), ⌜f = v⌝ ∗ (((c : Thread nD τ).loc b) ↦{fullShare} f))

theorem held_of_stg (c : Dev nD) (b : Ref sig .tc) (v : b.ty.Contents (Elt F)) : stg c b v ⊢ held (Memref.whole b) c Finset.univ Finset.univ fullShare v := by
  unfold held
  iintro ⟨%f, %hf, H⟩
  iexists f
  isplitr
  · ipureintro; intro x _; subst hf; exact congrFun (View.read_whole (Val := Elt F) b f) x
  · rw [show (Memref.whole b).view.setOn Finset.univ = Finset.univ from View.setOn_whole_univ b]
    iexact H
theorem stg_of_held (c : Dev nD) (b : Ref sig .tc) (v : b.ty.Contents (Elt F)) : held (Memref.whole b) c Finset.univ Finset.univ fullShare v ⊢ stg c b v := by
  unfold held
  iintro ⟨%f, %hf, H⟩
  iexists f
  isplitr
  · ipureintro; exact (View.read_whole (Val := Elt F) b f).symm.trans (funext fun x => hf x (Finset.mem_univ x))
  · rw [show (Memref.whole b).view.setOn Finset.univ = Finset.univ from View.setOn_whole_univ b]
    iexact H

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A device's places and tokens, and the records of every cell under some names. -/
def ghost (c : Dev nD) : sProp 𝕄 :=
  iprop(∃ K : Dev nD × CK → ℕ, ((bigSep Finset.univ fun ck : Dev nD × CK => cellInv ER (Rd (xstg m ρ)) (K ck) (cell ck.1 ck.2))
    ∗ (bigSep Finset.univ fun ck : Dev nD × CK => reached ER (cell ck.1 ck.2) 0)) ∗ ats c ∗ toks c)
/-- What the body starts from, besides the buffers. -/
def start (c : Dev nD) : sProp 𝕄 := iprop(ghost m ρ c ∗ creds c ∗ levAts L lv)
def Φ₀ (c : Dev nD) : sProp 𝕄 := iprop(start m ρ c ∗ bufs (xstg m ρ) c true ∗ bufs (xstg m ρ) c false)
def Φ₁ (c : Dev nD) : sProp 𝕄 := iprop(zeros c ∗ bufs (xstg m ρ) c true ∗ bufs (xstg m ρ) c false)

/-- What a device owes at launch. -/
abbrev O₀s (c : Dev nD) : CellTallies nD τ sig Unit := O₀ c sendOrder

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outF (xstg m ρ)
  Φ t := match t with
    | ⟨0, _⟩ => Φ₀ m ρ c
    | ⟨_ + 1, _⟩ => Φ₁ m ρ c
  q _ := fullShare
  owed t := match t with
    | ⟨0, _⟩ => O₀s c
    | ⟨_ + 1, _⟩ => 0

theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl
theorem owns_whole_eq (c : Dev nD) (b : Ref sig .tc) (v : b.ty.Contents (Elt F)) :
    (owns (Ix := Unit) (Name := ℕ) (U := UU) (Lvl := ℕ) (c : Thread nD τ) (Memref.whole b) fullShare v : sProp 𝕄) = stg c b v := by
  unfold owns; simp only [Memref.view_whole, View.read_whole, View.set_whole]

/-! ## The body's obligation -/

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ m ρ c ∗ (dats m ρ 0 c).owesAt () t₀.succ ∗ stg c cc0_stg0_0 (xstg m ρ c) ∗ stg c cc0_stg1_0 (outF (xstg m ρ)))

theorem body_run (c : Dev nD) : bodyPre m ρ c ⊢ WP c (bodyOf (F := F)) (fun _ => bodyPost m ρ c) := by
  unfold bodyPre Φ₀ start ghost
  iintro ⟨⟨⟨⟨%K, ⟨#HI, #Hr⟩, Hat, Ht⟩, Hc, #Hl⟩, Bt, Bf⟩, Ho, ⟨%d0, %g0, %hg0, Hx⟩, ⟨%d1, %g1, -, Hout⟩⟩
  have hx : g0 = xstg m ρ c := by rw [hg0]; unfold Dat.before; rw [if_pos (fetch_0 t₀)]; rfl
  unfold Dat.owesAt Pipeline.owesWithin
  icases Ho with ⟨%W, %hW, HO⟩
  rw [show (dats m ρ 0 c).owed t₀.castSucc = O₀ c sendOrder from rfl]
  iapply (body_sound (xstg m ρ) K c W (fun _ => bodyPost m ρ c)) $$ [HO Hat Ht Hc Bt Bf Hx Hout]
  · isplitr
    · unfold recs
      isplitr
      · iexact HI
      isplitr
      · iexact Hr
      · iexact Hl
    isplitl [HO]
    · iexact HO
    unfold before₀
    isplitl [Hat]
    · iexact Hat
    isplitl [Ht]
    · iexact Ht
    isplitl [Hc]
    · iexact Hc
    isplitl [Bt]
    · iexact Bt
    isplitl [Bf]
    · iexact Bf
    isplitl [Hx]
    · iapply (held_of_stg c cc0_stg0_0 (xstg m ρ c))
      iexists g0
      isplitr
      · ipureintro; exact hx
      · iexact Hx
    · iapply (held_of_whole (c := c) cc0_stg1_0 (outF (xstg m ρ)))
      iexists g1; iexact Hout
  unfold after₀ bodyPost Φ₁ Dat.owesAt Pipeline.owesWithin
  rw [show (dats m ρ 0 c).owed t₀.succ = 0 from rfl]
  iintro ⟨⟨%W', HO⟩, Hz, Bt, Bf, Hx, Hout⟩
  isplitl [Hz Bt Bf]
  · isplitl [Hz]
    · iexact Hz
    isplitl [Bt] <;> iassumption
  isplitl [HO]
  · iexists W'
    isplitr
    · ipureintro; exact fun _ _ => Or.inl trivial
    · iexact HO
  isplitl [Hx]
  · iapply (stg_of_held c cc0_stg0_0 (xstg m ρ c)) $$ Hx
  · iapply (stg_of_held c cc0_stg1_0 (outF (xstg m ρ))) $$ Hout

theorem wp_of_eq {c : Dev nD} {e e' : TProg F} {P : sProp 𝕄} {Q : PUnit → sProp 𝕄} (h : e = e') (H : P ⊢ WP c e' Q) : P ⊢ WP c e Q := by
  subst h; exact H

theorem stage_x : win0_0.stage (cfg0.slots t₀ 0) = xM := rfl
theorem stage_out : win0_1.stage (cfg0.slots t₀ 1) = outM := rfl

/-- The printed body does not depend on how its two windows' buffers are named. -/
theorem call_eq {x x' : Memref sig .tc .vmem S4096x1024 .bf16} {hx : x.IsWhole} {hx' : x'.IsWhole} {o o' : Memref sig .tc .vmem S4096x1024 .f32} {ho : o.IsWhole} {ho' : o'.IsWhole}
    (ex : x = x') (eo : o = o') :
    cc0_body (F := F) x hx o ho
      (Memref.whole cc0_scratch0) (Memref.isWhole_whole _)
      (Memref.whole cc0_scratch1) (Memref.isWhole_whole _)
      (Memref.whole cc0_scratch2) (Memref.isWhole_whole _)
      (Memref.whole cc0_scratch3) (Memref.isWhole_whole _)
      (Memref.whole cc0_scratch4) (Memref.isWhole_whole _)
      (Memref.whole cc0_scratch5) (Memref.isWhole_whole _)
      (Memref.whole cc0_scratch6) (Memref.isWhole_whole _)
      (Memref.whole cc0_scratch7) (Memref.isWhole_whole _)
      (Memref.whole cc0_scratch8) (Memref.isWhole_whole _)
      (Memref.whole cc0_scratch9) (Memref.isWhole_whole _)
      (Memref.whole cc0_scratch10) (Memref.isWhole_whole _)
      (Memref.whole cc0_scratch11) (Memref.isWhole_whole _)
      (Memref.whole cc0_scratch12) (Memref.isWhole_whole _)
      (Memref.whole cc0_scratch13) (Memref.isWhole_whole _)
      (Memref.whole cc0_scratch14) (Memref.isWhole_whole _)
      (Memref.whole cc0_scratch15) (Memref.isWhole_whole _)
      (Memref.whole cc0_scratch16) (Memref.isWhole_whole _)
      (Memref.whole cc0_scratch17) (Memref.isWhole_whole _)
      cc0_scratch18 cc0_scratch19 cc0_scratch20 cc0_scratch21
    = cc0_body (F := F) x' hx' o' ho'
      (Memref.whole cc0_scratch0) (Memref.isWhole_whole _)
      (Memref.whole cc0_scratch1) (Memref.isWhole_whole _)
      (Memref.whole cc0_scratch2) (Memref.isWhole_whole _)
      (Memref.whole cc0_scratch3) (Memref.isWhole_whole _)
      (Memref.whole cc0_scratch4) (Memref.isWhole_whole _)
      (Memref.whole cc0_scratch5) (Memref.isWhole_whole _)
      (Memref.whole cc0_scratch6) (Memref.isWhole_whole _)
      (Memref.whole cc0_scratch7) (Memref.isWhole_whole _)
      (Memref.whole cc0_scratch8) (Memref.isWhole_whole _)
      (Memref.whole cc0_scratch9) (Memref.isWhole_whole _)
      (Memref.whole cc0_scratch10) (Memref.isWhole_whole _)
      (Memref.whole cc0_scratch11) (Memref.isWhole_whole _)
      (Memref.whole cc0_scratch12) (Memref.isWhole_whole _)
      (Memref.whole cc0_scratch13) (Memref.isWhole_whole _)
      (Memref.whole cc0_scratch14) (Memref.isWhole_whole _)
      (Memref.whole cc0_scratch15) (Memref.isWhole_whole _)
      (Memref.whole cc0_scratch16) (Memref.isWhole_whole _)
      (Memref.whole cc0_scratch17) (Memref.isWhole_whole _)
      cc0_scratch18 cc0_scratch19 cc0_scratch20 cc0_scratch21 := by
  subst ex; subst eo; rfl

theorem entry_is : defs₀ (F := F) .tc (0 : Fin 1) (t₀, cfg0.slots t₀) = cc0_body (F := F) xM (Memref.isWhole_whole _) outM (Memref.isWhole_whole _)
      (Memref.whole cc0_scratch0) (Memref.isWhole_whole _)
      (Memref.whole cc0_scratch1) (Memref.isWhole_whole _)
      (Memref.whole cc0_scratch2) (Memref.isWhole_whole _)
      (Memref.whole cc0_scratch3) (Memref.isWhole_whole _)
      (Memref.whole cc0_scratch4) (Memref.isWhole_whole _)
      (Memref.whole cc0_scratch5) (Memref.isWhole_whole _)
      (Memref.whole cc0_scratch6) (Memref.isWhole_whole _)
      (Memref.whole cc0_scratch7) (Memref.isWhole_whole _)
      (Memref.whole cc0_scratch8) (Memref.isWhole_whole _)
      (Memref.whole cc0_scratch9) (Memref.isWhole_whole _)
      (Memref.whole cc0_scratch10) (Memref.isWhole_whole _)
      (Memref.whole cc0_scratch11) (Memref.isWhole_whole _)
      (Memref.whole cc0_scratch12) (Memref.isWhole_whole _)
      (Memref.whole cc0_scratch13) (Memref.isWhole_whole _)
      (Memref.whole cc0_scratch14) (Memref.isWhole_whole _)
      (Memref.whole cc0_scratch15) (Memref.isWhole_whole _)
      (Memref.whole cc0_scratch16) (Memref.isWhole_whole _)
      (Memref.whole cc0_scratch17) (Memref.isWhole_whole _)
      cc0_scratch18 cc0_scratch19 cc0_scratch20 cc0_scratch21 :=
  call_eq (hx := hstage0_0 0) (ho := hstage0_1 0) stage_x stage_out

set_option maxRecDepth 8000 in
theorem body_obligation (c : Dev nD) : BodyObligation (dats (F := F) m ρ 0 c) (defs₀ (F := F)) 𝒱₀ () Set.univ := fun t => by
  rw [fin_N t]
  rw [bigSep_W, bigSep_W]
  simp only [owns_whole_eq]
  have he := (entry_is (F := F)).trans body_is
  generalize defs₀ (F := F) .tc (0 : Fin 1) (t₀, cfg0.slots t₀) = e at he ⊢
  subst he
  rw [show (dats m ρ 0 c).Φ t₀.castSucc = Φ₀ m ρ c from rfl, show (dats m ρ 0 c).Φ t₀.succ = Φ₁ m ρ c from rfl]
  rw [show (dats m ρ 0 c).after 0 t₀ = xstg m ρ c from rfl]
  rw [show (dats m ρ 0 c).after 1 t₀ = outF (xstg m ρ) from rfl]
  have h := body_run m ρ c
  unfold bodyPre bodyPost at h
  convert h using 1

end Cert.KernelIdealProof
end
-- ==== Proof.KernelIdeal.Launch.lean ====
/-
# The launch

Every device's cells are opened under names, the tokens of each cell go to the device that pays them, and the credit a
cell starts with is what the devices together owe it.
-/
module

public import proofs.«01_k».proof.Proof.KernelIdeal.Data
public import Idealize.ShloMosaic.Lib.Pipeline.CollectiveSegs

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells by kind -/

theorem by_kind (Φ : CK → sProp 𝕄) : bigSep Finset.univ Φ
    = iprop(Φ none ∗ (bigSep Finset.univ fun i => Φ (some (false, i))) ∗ bigSep Finset.univ fun i => Φ (some (true, i))) := by
  have h2 (Ψ : Bool → sProp 𝕄) : bigSep Finset.univ Ψ = iprop(Ψ false ∗ Ψ true) := bigSep_univ_eq_bigSepL [false, true] (by decide) (by decide) Ψ
  rw [bigSep_univ_at Φ none, show (Finset.univ.erase none : Finset CK) = Finset.univ.map ⟨some, Option.some_injective _⟩ from by
    ext x; cases x <;> simp, bigSep_map, bigSep_univ_prod, h2]
  rfl

/-- The kernel's own semaphores. -/
def osem (k : Bool × Ix) : SemLoc sig := csem (some k)

theorem dec_stage : ∀ w s, dec (.dma ((cfg0.win w).sem s)) = none := by
  intro w s; fin_cases w <;> fin_cases s <;> decide

theorem ownSemFacts : Pipeline.OwnSemFacts cfg0.spec osem where
  isScoped := by unfold osem; decide +kernel
  inj := fun a b h => Option.some.inj (csem_injective h)
  disj := fun k w s h => by
    have h' := congrArg dec h
    unfold osem at h'
    rw [dec_csem] at h'
    exact absurd (h'.trans (dec_stage w s)) (by simp)

theorem share_eq (c : Dev nD) (w : Fin cfg0.W) : (dats m ρ 0 c).share w = fullShare := by unfold Dat.share; split <;> rfl

abbrev kcell (ck : Dev nD × CK) : GSem nD τ sig := cell ck.1 ck.2
theorem kcell_injective : Function.Injective kcell := fun a b h => Prod.ext (cell_inj.mp h).1 (cell_inj.mp h).2
def ringCells : Finset (GSem nD τ sig) := Finset.univ.map ⟨kcell, kcell_injective⟩

/-- A cell's duty tokens: four for a handshake, one for each end of a copy. -/
abbrev TK : Type := Fin 4 ⊕ (Bool × Ix)
def tokOf : Dev nD × TK → GSem nD τ sig × ℕ × Fin 4
  | (c, .inl k) => (cell c none, 0, k)
  | (c, .inr b) => (cell c (some b), 0, 0)
theorem tokOf_injective : Function.Injective tokOf := by
  rintro ⟨c, k | b⟩ ⟨c', k' | b'⟩ h
  · obtain ⟨h1, h2⟩ := Prod.mk.inj h
    obtain ⟨rfl, -⟩ := cell_inj.mp h1
    obtain ⟨-, rfl⟩ := Prod.mk.inj h2; rfl
  · exact absurd (cell_inj.mp (Prod.mk.inj h).1).2 (by simp)
  · exact absurd (cell_inj.mp (Prod.mk.inj h).1).2 (by simp)
  · obtain ⟨rfl, h2⟩ := cell_inj.mp (Prod.mk.inj h).1
    rw [Option.some.inj h2]
def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

/-- The duty tokens of a device's own cells. -/
def ownToks (c : Dev nD) : sProp 𝕄 :=
  iprop((bigSep Finset.univ fun k => dutyTok ER (cell c none) 0 k) ∗ (bigSep Finset.univ fun i => dutyTok ER (cell c (some (false, i))) 0 0)
    ∗ bigSep Finset.univ fun i => dutyTok ER (cell c (some (true, i))) 0 0)

/-- What the launch gives a device. -/
def G (c : Dev nD) : sProp 𝕄 :=
  iprop((bigSep Finset.univ fun k : CK => roundState ER (Rd (xstg m ρ)) (kcell (c, k)) 0)
    ∗ (bigSep Finset.univ fun k : CK => iprop(atPos ER (kcell (c, k)) 0 ∅ 0 ∗ reached ER (kcell (c, k)) 0)) ∗ ownToks c)

theorem own_toks_eq (c : Dev nD) : (bigSep Finset.univ fun t : TK => (dutyTok ER (tokOf (c, t)).1 (tokOf (c, t)).2.1 (tokOf (c, t)).2.2 : sProp 𝕄)) = ownToks c := by
  have h2 (Ψ : Bool → sProp 𝕄) : bigSep Finset.univ Ψ = iprop(Ψ false ∗ Ψ true) := bigSep_univ_eq_bigSepL [false, true] (by decide) (by decide) Ψ
  rw [bigSep_univ_sum]; unfold ownToks
  refine congrArg₂ _ rfl ?_
  rw [bigSep_univ_prod, h2]; rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]
    exact bigSep_congr fun c _ => own_toks_eq c
  iintro HX
  imod (Rounds.fund ER (Rd (xstg m ρ)) ringCells ringToks) $$ HX with ⟨Hst, Hr, Hat, Htok⟩
  imodintro
  ihave Hst' := (Entails.of_eq (hX fun g => roundState ER (Rd (xstg m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']
  · iexact Hst'
  isplitl [Hat' Hr']
  · isplitl [Hat'] <;> iassumption
  iexact Htok'

/-! ## Counters -/

abbrev ownZ (c : Dev nD) : sProp 𝕄 := Pipeline.ownSems0 (Ix := Unit) (Name := ℕ) (U := UU) (Lvl := ℕ) (Val := Elt F) (τ := τ) osem c

theorem ownSems0_eq (c : Dev nD) : ownZ c
    = iprop((bigSep Finset.univ fun i => (semVal (cell c (some (false, i))) 0 : sProp 𝕄)) ∗ bigSep Finset.univ fun i => semVal (cell c (some (true, i))) 0) := by
  have h2 (Ψ : Bool → sProp 𝕄) : bigSep Finset.univ Ψ = iprop(Ψ false ∗ Ψ true) := bigSep_univ_eq_bigSepL [false, true] (by decide) (by decide) Ψ
  unfold ownZ Pipeline.ownSems0
  rw [bigSep_univ_prod, h2]; rfl
theorem unscopedSems0_eq (c : Dev nD) : (unscopedSems0 c : sProp 𝕄) = semVal (cell c none) 0 := by
  unfold unscopedSems0; rw [bigSep_eq_bigSepL_of_eq [SemLoc.reg barS] (by decide +kernel) (by decide)]; rfl

theorem zeros_eq (c : Dev nD) : (zeros c : sProp 𝕄) = bigSep Finset.univ fun k : CK => semVal (kcell (c, k)) 0 := by
  unfold zeros; exact (by_kind fun k => semVal (kcell (c, k)) 0).symm

theorem zeros_of (c : Dev nD) : iprop(ownZ c ∗ unscopedSems0 c) ⊢ (zeros c : sProp 𝕄) := by
  rw [ownSems0_eq, unscopedSems0_eq]; unfold zeros
  iintro ⟨⟨HS, HV⟩, HB⟩
  isplitl [HB]
  · iexact HB
  isplitl [HS] <;> iassumption
theorem of_zeros (c : Dev nD) : (zeros c : sProp 𝕄) ⊢ iprop(unscopedSems0 c ∗ ownZ c) := by
  rw [ownSems0_eq, unscopedSems0_eq]; unfold zeros
  exact Entails.refl _

/-! ## Opening the cells -/

theorem alloc_cells (c : Dev nD) :
    iprop((bigSep Finset.univ fun k : CK => semVal (kcell (c, k)) 0) ∗ bigSep Finset.univ fun k : CK => roundState ER (Rd (xstg m ρ)) (kcell (c, k)) 0)
      ⊢ (|={Set.univ}=> bigSep Finset.univ fun k : CK => iprop(∃ κ : ℕ, cellInv ER (Rd (xstg m ρ)) κ (kcell (c, k))) : sProp 𝕄) := by
  rw [← bigSep_sep']
  exact (bigSep_mono fun k _ => (Rounds.body_intro ER (Rd (xstg m ρ)) (kcell (c, k))).trans inv_alloc).trans (bigSep_fupd _ _)

theorem core_alloc (c : Dev nD) :
    iprop(ownZ c ∗ unscopedSems0 c ∗ G m ρ c)
      ⊢ |={Set.univ}=> iprop((bigSep Finset.univ fun k : CK => iprop(∃ κ : ℕ, cellInv ER (Rd (xstg m ρ)) κ (kcell (c, k))))
          ∗ (bigSep Finset.univ fun k : CK => iprop(atPos ER (kcell (c, k)) 0 ∅ 0 ∗ reached ER (kcell (c, k)) 0)) ∗ ownToks c) := by
  unfold G
  iintro ⟨Hos, Hus, Hst, Hat, Htok⟩
  ihave Hv := (zeros_of (F := F) c) $$ [Hos Hus]
  · isplitl [Hos] <;> iassumption
  ihave Hv := (Entails.of_eq (zeros_eq (F := F) c)) $$ Hv
  imod (alloc_cells m ρ c) $$ [Hv Hst] with Hinv
  · isplitl [Hv] <;> iassumption
  imodintro
  isplitl [Hinv]
  · iexact Hinv
  isplitl [Hat]
  · iexact Hat
  iexact Htok

/-! ## The tokens dealt -/

theorem nbr_inj : ∀ k : Fin 4, Function.Injective fun c : Dev nD => nbr c k := by decide +kernel
noncomputable def nbrE (k : Fin 4) : Dev nD ≃ Dev nD := Equiv.ofBijective (fun c => nbr c k) (Finite.injective_iff_bijective.mp (nbr_inj k))
def tgtE (i : Ix) : Dev nD ≃ Dev nD := ⟨fun c => tgt c i, fun c => sdev c i, fun c => sdev_tgt c i, fun c => tgt_sdev c i⟩

theorem bar_around : (bigSep Finset.univ fun c : Dev nD => bigSep Finset.univ fun k : Fin 4 => (dutyTok ER (cell c none) 0 k : sProp 𝕄))
    = bigSep Finset.univ fun c : Dev nD => bigSep Finset.univ fun k : Fin 4 => dutyTok ER (cell (nbr c k) none) 0 k := by
  rw [bigSep_univ_comm]
  conv => rhs; rw [bigSep_univ_comm]
  exact bigSep_congr fun k _ => bigSep_univ_equiv (nbrE k) fun c : Dev nD => (dutyTok ER (cell c none) 0 k : sProp 𝕄)
theorem recv_around : (bigSep Finset.univ fun c : Dev nD => bigSep Finset.univ fun i : Ix => (dutyTok ER (cell c (some (true, i))) 0 0 : sProp 𝕄))
    = bigSep Finset.univ fun c : Dev nD => bigSep Finset.univ fun i : Ix => dutyTok ER (cell (tgt c i) (some (true, i))) 0 0 := by
  rw [bigSep_univ_comm]
  conv => rhs; rw [bigSep_univ_comm]
  exact bigSep_congr fun i _ => bigSep_univ_equiv (tgtE i) fun c : Dev nD => (dutyTok ER (cell c (some (true, i))) 0 0 : sProp 𝕄)

theorem toks_around : (bigSep Finset.univ fun c : Dev nD => (ownToks c : sProp 𝕄)) ⊢ bigSep Finset.univ fun c : Dev nD => toks c := by
  unfold ownToks toks
  rw [bigSep_sep', bigSep_sep', bigSep_sep', bigSep_sep', bar_around, recv_around]

/-! ## The devices' starts -/

def records (K : Dev nD × CK → ℕ) : sProp 𝕄 :=
  iprop((bigSep Finset.univ fun ck : Dev nD × CK => cellInv ER (Rd (xstg m ρ)) (K ck) (kcell ck))
    ∗ bigSep Finset.univ fun ck : Dev nD × CK => reached ER (kcell ck) 0)
instance records_persistent (K : Dev nD × CK → ℕ) : BI.Persistent (records m ρ K) := by unfold records; infer_instance

theorem ats_eq (c : Dev nD) : (ats c : sProp 𝕄) = bigSep Finset.univ fun k : CK => atPos ER (kcell (c, k)) 0 ∅ 0 := by
  unfold ats; exact (by_kind fun k => atPos ER (kcell (c, k)) 0 ∅ 0).symm

theorem ghost_intro (K : Dev nD × CK → ℕ) (c : Dev nD) :
    iprop(records m ρ K ∗ ((bigSep Finset.univ fun k : CK => atPos ER (kcell (c, k)) 0 ∅ 0) ∗ toks c)) ⊢ ghost m ρ c := by
  rw [← ats_eq]
  unfold records ghost
  iintro ⟨HR, Ha, Ht⟩
  iexists K
  isplitl [HR]
  · iexact HR
  isplitl [Ha] <;> iassumption

theorem bigSep_with_persistent {I : Type} [DecidableEq I] {S : Finset I} {R : sProp (MT nD τ sig Unit (Elt F) ℕ UU ℕ)} [BI.Persistent R]
    {Φ Ψ : I → sProp (MT nD τ sig Unit (Elt F) ℕ UU ℕ)}
    (h : ∀ i ∈ S, iprop(R ∗ Φ i) ⊢ Ψ i) : iprop(R ∗ bigSep S Φ) ⊢ bigSep S Ψ :=
  (BIClass.sep_mono (BI.bigSep_of_persistent S R) (Entails.refl _)).trans (by rw [← bigSep_sep']; exact bigSep_mono h)

theorem deal (K : Dev nD × CK → ℕ) :
    iprop(records m ρ K ∗ bigSep Finset.univ fun c : Dev nD => iprop((bigSep Finset.univ fun k : CK => atPos ER (kcell (c, k)) 0 ∅ 0) ∗ toks c))
      ⊢ bigSep Finset.univ (ghost m ρ) :=
  bigSep_with_persistent (R := records m ρ K) fun c _ => ghost_intro m ρ K c

theorem regroup :
    (bigSep Finset.univ fun c : Dev nD => iprop((bigSep Finset.univ fun k : CK => iprop(∃ κ : ℕ, cellInv ER (Rd (xstg m ρ)) κ (kcell (c, k))))
          ∗ (bigSep Finset.univ fun k : CK => iprop(atPos ER (kcell (c, k)) 0 ∅ 0 ∗ reached ER (kcell (c, k)) 0)) ∗ ownToks c) : sProp 𝕄)
      ⊢ bigSep Finset.univ (ghost m ρ) := by
  rw [bigSep_sep', bigSep_sep', ← bigSep_univ_prod (fun ck : Dev nD × CK => iprop(∃ κ : ℕ, cellInv ER (Rd (xstg m ρ)) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd (xstg m ρ)) κ (kcell ck) : sProp 𝕄))) $$ HI
  icases HK with ⟨%K, #HI⟩
  ihave Htk := (toks_around (F := F)) $$ Htok
  iapply (deal m ρ K)
  isplitr
  · unfold records
    isplitl
    · iexact HI
    iexact HR
  · rw [bigSep_sep']
    isplitl [Hat]
    · iexact Hat
    iexact Htk

theorem glob : (bigSep Finset.univ fun c => iprop(ownZ c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ## The credit a cell starts with -/

theorem osum_bar (d c : Dev nD) (l : List Ix) : Osum d l (cell c none) () = 0 := by
  induction l with
  | nil => rfl
  | cons i l ih => rw [Osum, Pi.add_apply, Finsupp.add_apply, ih, tallyAt_apply, if_neg fun h => absurd (cell_inj.mp h.1).2 (by simp)]
theorem osum_recv (d c : Dev nD) (i : Ix) (l : List Ix) : Osum d l (cell c (some (true, i))) () = l.count i * (if c = tgt d i then N i else 0) := by
  induction l with
  | nil => simp [Osum]
  | cons j l ih =>
    rw [Osum, Pi.add_apply, Finsupp.add_apply, ih, tallyAt_apply, List.count_cons, Nat.add_mul]
    refine congrArg _ ?_
    by_cases hj : j = i
    · subst hj
      rw [if_pos (show (j == j) = true by simp), Nat.one_mul]
      refine if_congr ?_ rfl rfl
      exact ⟨fun h => (cell_inj.mp h.1).1, fun h => ⟨by rw [h], rfl⟩⟩
    · rw [if_neg (show ¬ (j == i) = true by simpa using hj), Nat.zero_mul, if_neg]
      intro h
      have := (cell_inj.mp h.1).2
      simp at this; exact hj this.symm

theorem count_send : ∀ i : Ix, sendOrder.count i = 1 := by decide +kernel

theorem owed_recv (d c : Dev nD) (i : Ix) : O₀s d (cell c (some (true, i))) () = if d = sdev c i then N i else 0 := by
  have hb (e : Dev nD) : (tallyAt (cell e none) () 1 : CellTallies nD τ sig Unit) (cell c (some (true, i))) () = 0 := by
    rw [tallyAt_apply, if_neg fun h => absurd (cell_inj.mp h.1).2 (by simp)]
  unfold O₀s O₀ O₁ O₂ O₃
  simp only [Pi.add_apply, Finsupp.add_apply, hb, Nat.add_zero]
  rw [osum_recv, count_send, Nat.one_mul]
  refine if_congr ⟨fun h => ?_, fun h => ?_⟩ rfl rfl
  · rw [h, sdev_tgt]
  · rw [h, tgt_sdev]
theorem owed_bar (d c : Dev nD) : O₀s d (cell c none) () = ∑ k : Fin 4, if nbr d k = c then 1 else 0 := by
  have hb (k : Fin 4) : (tallyAt (cell (nbr d k) none) () 1 : CellTallies nD τ sig Unit) (cell c none) () = if nbr d k = c then 1 else 0 := by
    rw [tallyAt_apply]
    exact if_congr ⟨fun h => (cell_inj.mp h.1).1.symm, fun h => ⟨by rw [h], rfl⟩⟩ rfl rfl
  rw [Fin.sum_univ_four, ← hb 0, ← hb 1, ← hb 2, ← hb 3]
  unfold O₀s O₀ O₁ O₂ O₃
  simp only [Pi.add_apply, Finsupp.add_apply, osum_bar, nbr]
  omega
theorem paid_bar : ∀ c : Dev nD, (∑ d : Dev nD, ∑ k : Fin 4, if nbr d k = c then 1 else 0) = 4 := by decide +kernel

theorem launch_bar (c : Dev nD) :
    tallyOn (cell c none) (launchCredit (Pipeline.owing O₀s) 0 (cell c none)) = (tallyAt (cell c none) () 4 : CellTallies nD τ sig Unit) := by
  unfold tallyAt; refine congrArg _ (Finsupp.ext fun u => ?_); cases u
  rw [Pipeline.launchCredit_owing, Finsupp.single_eq_same, Finset.sum_congr rfl fun d _ => owed_bar d c, paid_bar]
theorem launch_recv (c : Dev nD) (i : Ix) :
    tallyOn (cell c (some (true, i))) (launchCredit (Pipeline.owing O₀s) 0 (cell c (some (true, i)))) = (tallyAt (cell c (some (true, i))) () (N i) : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (sdev c i) fun _ => N i,
    if_pos (Finset.mem_univ _)]

theorem recv_inj : Function.Injective fun i : Ix => csem (some (true, i)) := fun a b h => by
  have := csem_injective h; simpa using this

theorem creds_intro (c : Dev nD) : (Pipeline.launchCred O₀s c : sProp 𝕄) ⊢ creds c := by
  unfold Pipeline.launchCred creds
  rw [bigSep_univ_at _ (SemLoc.reg barS)]
  refine BIClass.sep_mono (Entails.of_eq (congrArg cred (launch_bar c))) ?_
  refine (bigSep_subset (t := Finset.univ.map ⟨fun i : Ix => csem (some (true, i)), recv_inj⟩) fun x hx => ?_).trans ?_
  · obtain ⟨i, -, rfl⟩ := Finset.mem_map.mp hx
    exact Finset.mem_erase.mpr ⟨(fun h => by cases h), Finset.mem_univ _⟩
  · rw [bigSep_map]
    exact bigSep_mono fun i _ => Entails.of_eq (congrArg cred (launch_recv c i))

/-! ## The run -/

theorem start_intro (c : Dev nD) :
    iprop(Pipeline.unscopedRestP Pipeline.Prefetch.none cfg0.spec c (fun b => m ((c : Thread nD τ).loc b)) ∗ levAts L lv
        ∗ Pipeline.launchCred O₀s c ∗ prngReg c (ρ c) ∗ ghost m ρ c)
      ⊢ |={Set.univ}=> iprop(start m ρ c ∗ emp) := by
  iintro ⟨-, Hlev, Hcr, -, HG⟩
  ihave Hc := (creds_intro (F := F) c) $$ Hcr
  imodintro
  unfold start
  isplitl
  · isplitl [HG]
    · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]
  · iexact Hs
  iapply (scratch_in (xstg m ρ) c) $$ Hr

theorem phi1_exit (c : Dev nD) :
    (dats m ρ 0 c).Φ (Fin.last cfg0.N) ⊢ iprop(unscopedSems0 c ∗ ownZ c ∗ Pipeline.scopedRest cfg0.spec c) := by
  rw [show (dats m ρ 0 c).Φ (Fin.last cfg0.N) = Φ₁ m ρ c from rfl]
  unfold Φ₁
  iintro ⟨Hz, Hr⟩
  ihave Hz := (of_zeros (F := F) c) $$ Hz
  icases Hz with ⟨HB, HS⟩
  isplitl [HB]
  · iexact HB
  isplitl [HS]
  · iexact HS
  iapply (scratch_out (xstg m ρ) c) $$ Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (dec_stage w s) _ sendOrder (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- Every fair run of the sixteen devices ends, each array at its computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀s) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdealProof
end
-- ==== Proof.KernelIdeal.Final.lean ====
/-
# What a run leaves

The result array holds the two-level ring's sum of the devices' arguments, on every device; the arguments stay.
-/
module

public import proofs.«01_k».proof.Proof.KernelIdeal.Launch

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem finalA_o (c : Dev nD) :
    (win0_1.blk (0 : Fin 1)).view.read (Elt F) (finalA m ρ c (1 : Fin 2)) = outF (xstg m ρ) := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- The one block of the result's window is the whole array. -/
theorem read_out (f : main_v1.ty.Contents (Elt F)) : (win0_1.blk (0 : Fin 1)).view.read (Elt F) f = f :=
  Memref.read_access_unit_zero (Elt F) main_v1 (funext fun a => by fin_cases a <;> decide) (fun a => by fin_cases a <;> decide) f
/-- And the argument's. -/
theorem read_arg (f : main_arg0.ty.Contents (Elt F)) : (win0_0.blk (0 : Fin 1)).view.read (Elt F) f = f :=
  Memref.read_access_unit_zero (Elt F) main_arg0 (funext fun a => by fin_cases a <;> decide) (fun a => by fin_cases a <;> decide) f

theorem xstg_eq : xstg m ρ = fun c : Dev nD => m ((c : Thread nD τ).loc main_arg0) := funext fun c => read_arg _

/-- Every fair run ends with the sum in every device's result array, the arguments as they were, and no counter raised. -/
theorem run_values : θ_run defs (onTc (τ := τ) (main (F := F))) ⟨m, fun _ => 0, ρ⟩ (fun r =>
    (∀ c : Dev nD, r.2.mem ((c : Thread nD τ).loc main_v1) = outF (F := F) (fun c : Dev nD => m ((c : Thread nD τ).loc main_arg0))
      ∧ r.2.mem ((c : Thread nD τ).loc main_arg0) = m ((c : Thread nD τ).loc main_arg0)) ∧ r.2.sem = fun _ => 0) := by
  refine (θ_run defs _ _).mono (fun _ h => ⟨fun c => ⟨(h.1 c (1 : Fin 2)).trans ?_, (h.1 c (0 : Fin 2)).trans (finalA_x m ρ c)⟩, h.2⟩) (run_main m ρ)
  have ho := finalA_o m ρ c
  rw [read_out, xstg_eq] at ho
  exact ho

end Cert.KernelIdealProof
end
-- ==== Proof.Same.lean ====
/-
# The kernel as written and its idealization are one program

The kernel's text holds no operation that idealization rewrites, so the two programs agree definition by definition,
and the run proved for every float interpretation is the run of the kernel at bits.
-/
module

public import proofs.«01_k».proof.Proof.KernelIdeal.Final
public import proofs.«01_k».proof.Proof.Gen.Kernel
public import proofs.«01_k».proof.Defs

@[expose] public section

noncomputable section

namespace Cert.Proof

open Idealize.ShloMosaic Idealize.SL.Sem

variable {F : FTy → Type} [FloatOps F]

/-- The main functions agree. -/
theorem main_same : Cert.Kernel.main (F := F) = Cert.KernelIdeal.main (F := F) := rfl

/-- The kernels' body tables agree: the one label has the same body. -/
theorem defs₀_same : Cert.Kernel.defs₀ (F := F) = Cert.KernelIdeal.defs₀ (F := F) := by
  unfold Cert.Kernel.defs₀ Cert.KernelIdeal.defs₀
  refine congrArg Defs.onTc (funext fun l => ?_)
  match l with
  | ⟨0, _⟩ => exact funext fun ⟨t, s⟩ => rfl

/-- The tables with the pipelines' regions agree. -/
theorem defs_same : Cert.Kernel.defs (F := F) = Cert.KernelIdeal.defs (F := F) :=
  congrArg (Pipeline.defs Cert.KernelIdeal.pcfgs) defs₀_same

/-- The kernel at bits runs, keeps its argument and ends with every counter at zero. -/
theorem frame_kernel : Cert.quiescent_Kernel := fun m ρ _ => by
  rw [defs_same, main_same]
  exact (θ_run Cert.KernelIdeal.defs _ _).mono (fun _ h => And.intro (fun c => (h.1 c).2) h.2) (Cert.KernelIdealProof.run_values (F := Bits) m ρ)

end Cert.Proof
end
-- ==== Proof.Value.lean ====
/-
# The sum's value

Over the extended reals the two-level ring adds, at each row and column of the result, the sixteen devices' entries
there, once each; so does the reference, over its first axis.
-/
module

public import proofs.«01_k».proof.Proof.KernelIdeal.Common
public import proofs.«01_k».proof.Proof.Gen.ReferenceIdeal.Run
public import Idealize.ShloMosaic.Lib.IdealHost
public import Idealize.ShloMosaic.Lib.Layout
public import Idealize.ShloMosaic.Lib.Pipeline.Value

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The device `j` hops back in its plane from the one `i` hops back across the planes. -/
def back (d : Bool) (c : Dev nD) (p : Fin 4 × Fin 4) : Dev nD := (srcP d)^[p.2.val] ((srcC d)^[p.1.val] c)

theorem back_inj : ∀ (d : Bool) (c : Dev nD), Function.Injective (back d c) := by decide +kernel
theorem back_bijective (d : Bool) (c : Dev nD) : Function.Bijective (back d c) :=
  (Fintype.bijective_iff_injective_and_card _).mpr ⟨back_inj d c, by decide⟩

theorem row_chunk : ∀ (d : Bool) (k qt : Fin 4) (i j : Fin 4), rot d ((back d (odev d k.val qt.val) (i, j)).val % 4) (3 - j.val) = k.val := by decide +kernel
theorem row_quarter : ∀ (d : Bool) (k qt : Fin 4) (i : Fin 4), rot d (((srcC d)^[i.val] (odev d k.val qt.val)).val / 4) (3 - i.val) = qt.val := by decide +kernel

variable (X : Dev nD → S4096x1024.Idx → Elt Ideal .bf16)

abbrev at2 (c : Dev nD) (r q : ℕ) : EReal := atN x_pos (X c) ![r, q]

theorem turn (a b c d : EReal) : d + c + b + a = a + b + c + d := by
  rw [add_comm (d + c + b) a, add_comm (d + c) b, add_comm d c, ← add_assoc, ← add_assoc]

theorem a1_sum (d : Bool) (sl : ℕ) (c : Dev nD) (r q : ℕ) : (a1 (F := Ideal) X d sl 3 c r q : EReal)
    = ∑ j : Fin 4, at2 X ((srcP d)^[j.val] c) (1024 * rot d (((srcP d)^[j.val] c).val % 4) (3 - j.val) + r) (col d sl + q) := by
  rw [Fin.sum_univ_four]; exact turn _ _ _ _
theorem a2_sum (d : Bool) (sl : ℕ) (c : Dev nD) (r q : ℕ) : (a2 (F := Ideal) X d sl 3 c r q : EReal)
    = ∑ i : Fin 4, (a1 (F := Ideal) X d sl 3 ((srcC d)^[i.val] c) (256 * rot d (((srcC d)^[i.val] c).val / 4) (3 - i.val) + r) q : EReal) := by
  rw [Fin.sum_univ_four]; exact turn _ _ _ _

theorem a2_all (d : Bool) (sl : ℕ) (k qt : Fin 4) (r q : ℕ) : (a2 (F := Ideal) X d sl 3 (odev d k.val qt.val) r q : EReal)
    = ∑ c : Dev nD, at2 X c (1024 * k.val + (256 * qt.val + r)) (col d sl + q) := by
  rw [a2_sum, ← (back_bijective d (odev d k.val qt.val)).sum_comp, Fintype.sum_prod_type]
  refine Finset.sum_congr rfl fun i _ => ?_
  rw [a1_sum]
  refine Finset.sum_congr rfl fun j _ => ?_
  rw [row_quarter d k qt i]
  have h := row_chunk d k qt i j
  unfold back at h ⊢
  simp only at h ⊢
  rw [h]

theorem outF_sum (y : S4096x1024.Idx) : (outF (F := Ideal) X y : EReal) = ∑ c : Dev nD, X c y := by
  have h0 : (y 0).val < 4096 := (y 0).isLt
  have h1 : (y 1).val < 1024 := (y 1).isLt
  have h := a2_all X (decide ((y 1).val < 512)) ((y 1).val % 512 / 256) ⟨(y 0).val / 1024, by omega⟩ ⟨(y 0).val % 1024 / 256, by omega⟩ ((y 0).val % 256) ((y 1).val % 256)
  refine Eq.trans (show (outF (F := Ideal) X y : EReal) = a2 (F := Ideal) X _ _ 3 _ _ _ from rfl) (h.trans (Finset.sum_congr rfl fun c _ => ?_))
  refine atN_eq x_pos (X c) y fun a => ?_
  fin_cases a
  · show 1024 * ((y 0).val / 1024) + (256 * ((y 0).val % 1024 / 256) + (y 0).val % 256) = (y 0).val
    omega
  · show col _ _ + (y 1).val % 256 = (y 1).val
    unfold col
    by_cases hy : (y 1).val < 512
    · simp only [hy, decide_true, if_true]; omega
    · simp only [hy, decide_false]; simp; omega

/-! ## The reference -/

/-- The sum over the first axis, before the reference rounds it. -/
def refSum (x : Cert.ReferenceIdeal.S65536x1024.Idx → Elt Ideal .bf16) : FVec Ideal Cert.ReferenceIdeal.S4096x1024 .f32 :=
  Host.reduceAdd (F := Ideal) (φ := .f32)
    (extf (φ := .bf16) .f32 (shapeCast _ (x : FVec Ideal Cert.ReferenceIdeal.S65536x1024 .bf16) Cert.ReferenceIdeal.Gen.shapeCasts_S65536x1024_S16x4096x1024) bitsLt_bf16_f32)
    (constant Cert.ReferenceIdeal.S_ .f32 0x00000000#32) Cert.ReferenceIdeal.Gen.reducesTo_S16x4096x1024_S4096x1024_d0 Cert.ReferenceIdeal.Gen.h_S_

/-- The reference's result: the sum, rounded to the argument's format and widened again. -/
def refOut (x : Cert.ReferenceIdeal.S65536x1024.Idx → Elt Ideal .bf16) : Cert.ReferenceIdeal.S4096x1024.Idx → Elt Ideal .f32 :=
  extf (F := Ideal) (φ := .bf16) .f32 (truncf (F := Ideal) (φ := .f32) .bf16 (refSum x) bitsLt_bf16_f32) bitsLt_bf16_f32

/-- Over the extended reals the rounding and the widening change nothing. -/
theorem refOut_eq (x : Cert.ReferenceIdeal.S65536x1024.Idx → Elt Ideal .bf16) : refOut x = refSum x := rfl

/-- At each index the reference's result is the sum of the sixteen blocks' entries there. -/
theorem refOut_sum (x : Cert.ReferenceIdeal.S65536x1024.Idx → Elt Ideal .bf16) (y : S4096x1024.Idx) :
    (refOut x y : EReal) = ∑ c : Dev nD, Layout.block ⟨2, ![4096, 1024]⟩ ⟨2, ![65536, 1024]⟩ 0 16 c x (by decide) y := by
  rw [refOut_eq]
  unfold refSum
  rw [ValueIdx.hostReduceAdd_apply, Ideal.hostReduceAdd_single _ (by decide)]
  rw [show (constant Cert.ReferenceIdeal.S_ .f32 0x00000000#32 : _ → Ideal .f32) _ = (0 : EReal) from Ideal.ofBits_zero_f32, zero_add]
  refine Finset.sum_congr rfl fun c _ => ?_
  refine (shapeCast_apply _ _ _ (Layout.Tiles.idx (S := ⟨2, ![4096, 1024]⟩) (T := ⟨2, ![65536, 1024]⟩) (a := 0) (k := 16) (by decide) c y) ?_).trans rfl
  rw [Shape.rowMajor_val_two, Shape.rowMajor_val_three]
  rfl

/-- The ring's sum of the blocks of an array is the reference's result. -/
theorem outF_ref (x : Cert.ReferenceIdeal.S65536x1024.Idx → Elt Ideal .bf16) :
    outF (F := Ideal) (fun c : Dev nD => Layout.block ⟨2, ![4096, 1024]⟩ ⟨2, ![65536, 1024]⟩ 0 16 c x) = refOut x :=
  funext fun y => (outF_sum _ y).trans (refOut_sum x y).symm

end Cert.KernelIdealProof
end
-- ==== Proof.lean ====
/-
# The claim

The kernel's own run and its idealization's end with every argument as it was and every counter at zero; over the
extended reals the kernel's result on every device is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdeal.Final
public import proofs.«01_k».proof.Proof.Same
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

theorem frame_ideal : Cert.quiescent_KernelIdeal := fun m ρ _ =>
  (θ_run Cert.KernelIdeal.defs _ _).mono (fun _ h => ⟨fun c => (h.1 c).2, h.2⟩) (Cert.KernelIdealProof.run_values (F := Ideal) m ρ)

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

/-- Every device's result is the reference's. -/
theorem algebraic : Cert.algebraic_KernelIdeal_ReferenceIdeal := by
  intro m ρ m' ρ' _ hagree
  refine ⟨Cert.KernelIdealProof.refOut (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h.1 c).1.trans ?_, (h.1 c).2⟩) (Cert.KernelIdealProof.run_values (F := Ideal) m ρ)
    rw [funext hagree]
    exact Cert.KernelIdealProof.outF_ref _
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts, frame_kernel, frame_ideal, frame_reference, trivial, algebraic⟩

end Cert.Proof

end
